-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sound_inputs_KernelIdeal [hPre_sound_inputs_KernelIdeal : Cert.Pre_sound_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_sound_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound_inputs_ReferenceIdeal [hPre_sound_inputs_ReferenceIdeal : Cert.Pre_sound_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sound_inputs_KernelIdeal [hKernelIdeal : Cert.KernelIdeal.Facts] [hPre_sound_inputs_KernelIdeal : Cert.Pre_sound_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sound_inputs_ReferenceIdeal [hReferenceIdeal : Cert.ReferenceIdeal.Facts] [hPre_sound_inputs_ReferenceIdeal : Cert.Pre_sound_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sound_inputs_KernelIdeal [hKernelIdeal : Cert.KernelIdeal.Facts] [hReferenceIdeal : Cert.ReferenceIdeal.Facts] [hPre_sound_inputs_KernelIdeal : Cert.Pre_sound_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sound_inputs_KernelIdeal : Cert.Pre_sound_inputs_KernelIdeal.Facts) (hPre_sound_inputs_ReferenceIdeal : Cert.Pre_sound_inputs_ReferenceIdeal.Facts),
    quiescent_Kernel (hKernel := hKernel)
    ∧ quiescent_KernelIdeal (hKernelIdeal := hKernelIdeal)
    ∧ quiescent_KernelIdeal_pre_sound_inputs_KernelIdeal (hKernelIdeal := hKernelIdeal) (hPre_sound_inputs_KernelIdeal := hPre_sound_inputs_KernelIdeal)
    ∧ quiescent_ReferenceIdeal (hReferenceIdeal := hReferenceIdeal)
    ∧ quiescent_ReferenceIdeal_pre_sound_inputs_ReferenceIdeal (hReferenceIdeal := hReferenceIdeal) (hPre_sound_inputs_ReferenceIdeal := hPre_sound_inputs_ReferenceIdeal)
    ∧ preserves_Kernel_KernelIdeal
    ∧ algebraic_KernelIdeal_ReferenceIdeal_pre_sound_inputs_KernelIdeal (hKernelIdeal := hKernelIdeal) (hReferenceIdeal := hReferenceIdeal) (hPre_sound_inputs_KernelIdeal := hPre_sound_inputs_KernelIdeal)
-- ==== Pre_sound_inputs_KernelIdeal.lean ====
abbrev S2048x512 : Shape := ⟨2, ![2048, 512]⟩
abbrev S512x64 : Shape := ⟨2, ![512, 64]⟩
abbrev S2048x2 : Shape := ⟨2, ![2048, 2]⟩
abbrev S4x512x1024 : Shape := ⟨3, ![4, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S2048x512 .bf16) (main_arg1 : FVec F S512x64 .bf16) (main_arg2 : IVec S2048x2 32) (main_arg3 : FVec F S4x512x1024 .bf16) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x512 .bf16 := Host.absf main_arg0
  let main_cst : FVec F S_ .bf16 := constant S_ .bf16 0x7F80#16
  let main_v7 : FVec F S2048x512 .bf16 := broadcastInDim S2048x512 ![] bcast_S_S2048x512 main_cst
  let main_v8 : IVec S2048x512 1 := cmpf .olt main_v6 main_v7
  let main_c_2 : IVec S_ 1 := constantI S_ 1 1#1
  let main_v9 : IVec S_ 1 := (fun x v => Host.reduce IntOp.andi x v reducesTo_S2048x512_S_d0_1 h_S_) main_v8 main_c_2
  let main_v10 : FVec F S512x64 .bf16 := Host.absf main_arg1
  let main_cst_3 : FVec F S_ .bf16 := constant S_ .bf16 0x7F80#16
  let main_v11 : FVec F S512x64 .bf16 := broadcastInDim S512x64 ![] bcast_S_S512x64 main_cst_3
  let main_v12 : IVec S512x64 1 := cmpf .olt main_v10 main_v11
  let main_c_4 : IVec S_ 1 := constantI S_ 1 1#1
  let main_v13 : IVec S_ 1 := (fun x v => Host.reduce IntOp.andi x v reducesTo_S512x64_S_d0_1 h_S_) main_v12 main_c_4
  let main_v14 : IVec S_ 1 := andi main_v9 main_v13
  let main_v15 : IVec S_ 1 := andi main_v5 main_v14
  main_v15
-- ==== Pre_sound_inputs_ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S2048x512 .bf16) (main_arg1 : FVec F S512x64 .bf16) (main_arg2 : IVec S2048x2 32) (main_arg3 : FVec F S64x512x1024 .bf16) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x512 .bf16 := Host.absf main_arg0
  let main_cst : FVec F S_ .bf16 := constant S_ .bf16 0x7F80#16
  let main_v7 : FVec F S2048x512 .bf16 := broadcastInDim S2048x512 ![] bcast_S_S2048x512 main_cst
  let main_v8 : IVec S2048x512 1 := cmpf .olt main_v6 main_v7
  let main_c_2 : IVec S_ 1 := constantI S_ 1 1#1
  let main_v9 : IVec S_ 1 := (fun x v => Host.reduce IntOp.andi x v reducesTo_S2048x512_S_d0_1 h_S_) main_v8 main_c_2
  let main_v10 : FVec F S512x64 .bf16 := Host.absf main_arg1
  let main_cst_3 : FVec F S_ .bf16 := constant S_ .bf16 0x7F80#16
  let main_v11 : FVec F S512x64 .bf16 := broadcastInDim S512x64 ![] bcast_S_S512x64 main_cst_3
  let main_v12 : IVec S512x64 1 := cmpf .olt main_v10 main_v11
  let main_c_4 : IVec S_ 1 := constantI S_ 1 1#1
  let main_v13 : IVec S_ 1 := (fun x v => Host.reduce IntOp.andi x v reducesTo_S512x64_S_d0_1 h_S_) main_v12 main_c_4
  let main_v14 : IVec S_ 1 := andi main_v9 main_v13
  let main_v15 : IVec S_ 1 := andi main_v5 main_v14
  main_v15
-- ==== Kernel.lean ====
abbrev S2048x512 : Shape := ⟨2, ![2048, 512]⟩
abbrev S512x64 : Shape := ⟨2, ![512, 64]⟩
abbrev S2048x2 : Shape := ⟨2, ![2048, 2]⟩
abbrev S4x512x1024 : Shape := ⟨3, ![4, 512, 1024]⟩
abbrev S2048x1024 : Shape := ⟨2, ![2048, 1024]⟩
abbrev S2048x4 : Shape := ⟨2, ![2048, 4]⟩
abbrev S512x512 : Shape := ⟨2, ![512, 512]⟩
abbrev S512x4 : Shape := ⟨2, ![512, 4]⟩
abbrev S512x1024 : Shape := ⟨2, ![512, 1024]⟩
abbrev S3x512x1024 : Shape := ⟨3, ![3, 512, 1024]⟩
abbrev S3x128x1024 : Shape := ⟨3, ![3, 128, 1024]⟩
abbrev S21 : Shape := ⟨1, ![21]⟩
abbrev S_ : Shape := ⟨0, ![]⟩
abbrev S2048x64 : Shape := ⟨2, ![2048, 64]⟩
abbrev S2048 : Shape := ⟨1, ![2048]⟩
abbrev S2048x1 : Shape := ⟨2, ![2048, 1]⟩
abbrev S1x512x1024 : Shape := ⟨3, ![1, 512, 1024]⟩
abbrev S128x512 : Shape := ⟨2, ![128, 512]⟩
abbrev S128x4 : Shape := ⟨2, ![128, 4]⟩
abbrev S512x1 : Shape := ⟨2, ![512, 1]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 5
  | .vmem => 17
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x2, .i32⟩
  | .hbm, ⟨3, _⟩ => ⟨S4x512x1024, .bf16⟩
  | .hbm, ⟨4, _⟩ => ⟨S2048x1024, .f32⟩
  | .local _ .vmem, ⟨0, _⟩ => ⟨S2048x512, .bf16⟩
  | .local _ .vmem, ⟨1, _⟩ => ⟨S512x64, .bf16⟩
  | .local _ .vmem, ⟨2, _⟩ => ⟨S2048x2, .i32⟩
  | .local _ .vmem, ⟨3, _⟩ => ⟨S4x512x1024, .bf16⟩
  | .local _ .vmem, ⟨4, _⟩ => ⟨S2048x1024, .f32⟩
  | .local _ .vmem, ⟨5, _⟩ => ⟨S2048x1024, .bf16⟩
  | .local _ .vmem, ⟨6, _⟩ => ⟨S2048x512, .bf16⟩
  | .local _ .vmem, ⟨7, _⟩ => ⟨S4x512x1024, .bf16⟩
  | .local _ .vmem, ⟨8, _⟩ => ⟨S2048x4, .f32⟩
  | .local _ .vmem, ⟨9, _⟩ => ⟨S512x512, .bf16⟩
  | .local _ .vmem, ⟨10, _⟩ => ⟨S512x4, .f32⟩
  | .local _ .vmem, ⟨11, _⟩ => ⟨S512x1024, .bf16⟩
  | .local _ .vmem, ⟨12, _⟩ => ⟨S512x1024, .bf16⟩
  | .local _ .vmem, ⟨13, _⟩ => ⟨S3x512x1024, .bf16⟩
  | .local _ .vmem, ⟨14, _⟩ => ⟨S3x128x1024, .bf16⟩
  | .local _ .vmem, ⟨15, _⟩ => ⟨S3x128x1024, .bf16⟩
  | .local _ .vmem, ⟨16, _⟩ => ⟨S3x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v12 : BitVec 32 := Scalar.muli c4_i32_4 v3
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v13 : BitVec 32 := Scalar.addi v12 v9
  let c1_i32_17 : BitVec 32 := 1#32
  let v30 : BitVec 32 := Scalar.muli v13 c1_i32_17
  let v31 : BitVec 32 := Scalar.addi c0_i32 v30
  v31.toNat
def k0_dev2 (d0 : Dev nD) : Nat :=
  let c0_i32_20 : BitVec 32 := 0#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_5 v3
  let c3_i32 : BitVec 32 := 3#32
  let c4_i32_0 : BitVec 32 := 4#32
  let v4 : BitVec 32 := Scalar.remsi v2 c4_i32_0
  let v10 : BitVec 32 := Scalar.subi c3_i32 v4
  let v15 : BitVec 32 := Scalar.addi v14 v10
  let c1_i32_19 : BitVec 32 := 1#32
  let v32 : BitVec 32 := Scalar.muli v15 c1_i32_19
  let v33 : BitVec 32 := Scalar.addi c0_i32_20 v32
  v33.toNat
def k0_dev3 (d0 : Dev nD) : Nat :=
  let c0_i32_23 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_6 v3
  let c3_i32_3 : BitVec 32 := 3#32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let v17 : BitVec 32 := Scalar.addi v16 v11
  let c1_i32_22 : BitVec 32 := 1#32
  let v34 : BitVec 32 := Scalar.muli v17 c1_i32_22
  let v35 : BitVec 32 := Scalar.addi c0_i32_23 v34
  v35.toNat
def k0_dev4 (d0 : Dev nD) : Nat :=
  let c0_i32_26 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_7 : BitVec 32 := 1#32
  let v18 : BitVec 32 := Scalar.addi v3 c1_i32_7
  let c4_i32_8 : BitVec 32 := 4#32
  let v19 : BitVec 32 := Scalar.remsi v18 c4_i32_8
  let v20 : BitVec 32 := Scalar.muli c4_i32_9 v19
  let c4_i32_0 : BitVec 32 := 4#32
  let v4 : BitVec 32 := Scalar.remsi v2 c4_i32_0
  let v21 : BitVec 32 := Scalar.addi v20 v4
  let c1_i32_25 : BitVec 32 := 1#32
  let v36 : BitVec 32 := Scalar.muli v21 c1_i32_25
  let v37 : BitVec 32 := Scalar.addi c0_i32_26 v36
  v37.toNat
def k0_dev5 (d0 : Dev nD) : Nat :=
  let c0_i32_29 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_10 : BitVec 32 := 2#32
  let v22 : BitVec 32 := Scalar.addi v3 c2_i32_10
  let c4_i32_11 : BitVec 32 := 4#32
  let v23 : BitVec 32 := Scalar.remsi v22 c4_i32_11
  let v24 : BitVec 32 := Scalar.muli c4_i32_12 v23
  let c4_i32_0 : BitVec 32 := 4#32
  let v4 : BitVec 32 := Scalar.remsi v2 c4_i32_0
  let v25 : BitVec 32 := Scalar.addi v24 v4
  let c1_i32_28 : BitVec 32 := 1#32
  let v38 : BitVec 32 := Scalar.muli v25 c1_i32_28
  let v39 : BitVec 32 := Scalar.addi c0_i32_29 v38
  v39.toNat
def k0_dev6 (d0 : Dev nD) : Nat :=
  let c0_i32_32 : BitVec 32 := 0#32
  let c4_i32_15 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_13 : BitVec 32 := 3#32
  let v26 : BitVec 32 := Scalar.addi v3 c3_i32_13
  let c4_i32_14 : BitVec 32 := 4#32
  let v27 : BitVec 32 := Scalar.remsi v26 c4_i32_14
  let v28 : BitVec 32 := Scalar.muli c4_i32_15 v27
  let c4_i32_0 : BitVec 32 := 4#32
  let v4 : BitVec 32 := Scalar.remsi v2 c4_i32_0
  let v29 : BitVec 32 := Scalar.addi v28 v4
  let c1_i32_31 : BitVec 32 := 1#32
  let v40 : BitVec 32 := Scalar.muli v29 c1_i32_31
  let v41 : BitVec 32 := Scalar.addi c0_i32_32 v40
  v41.toNat
def k0_off1 (d0 : Dev nD) (c0_i32_91 : BitVec 32) : Fin 2 → Nat :=
  let c3_i32_3 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let c128_i32 : BitVec 32 := 128#32
  let v141 : BitVec 32 := Scalar.muli v11 c128_i32
  let v142 : BitVec 32 := Scalar.addi c0_i32_91 v141
  let v143 : Index := Scalar.indexCast v142
  let c0_92 : Index := 0#32
  ![v143.toNat, 0]
def k0_off2 (d0 : Dev nD) (c0_i32_91 : BitVec 32) : Fin 2 → Nat :=
  let c3_i32_3 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let c128_i32 : BitVec 32 := 128#32
  let v141 : BitVec 32 := Scalar.muli v11 c128_i32
  let v142 : BitVec 32 := Scalar.addi c0_i32_91 v141
  let v148 : Index := Scalar.indexCast v142
  let c0_95 : Index := 0#32
  ![v148.toNat, 0]
def k0_off3 (d0 : Dev nD) : Fin 2 → Nat :=
  let c3_i32_3 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let c512_i32_149 : BitVec 32 := 512#32
  let v223 : BitVec 32 := Scalar.muli v11 c512_i32_149
  let v224 : Index := Scalar.indexCast v223
  let c0_150 : Index := 0#32
  ![v224.toNat, 0]
def k0_off4 (d0 : Dev nD) : Fin 2 → Nat :=
  let c3_i32_3 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let c512_i32_151 : BitVec 32 := 512#32
  let v228 : BitVec 32 := Scalar.muli v11 c512_i32_151
  let c0_i32_159 : BitVec 32 := 0#32
  ![v228.toNat, 0]
def k0_dev7 (d0 : Dev nD) : Nat :=
  let c0_i32_156 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_6 v3
  let c3_i32_3 : BitVec 32 := 3#32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let v17 : BitVec 32 := Scalar.addi v16 v11
  let c1_i32_155 : BitVec 32 := 1#32
  let v229 : BitVec 32 := Scalar.muli v17 c1_i32_155
  let v230 : BitVec 32 := Scalar.addi c0_i32_156 v229
  v230.toNat
def k0_off5 (d0 : Dev nD) (c0_i32_161 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v10 : BitVec 32 := Scalar.subi c3_i32 v4
  let c128_i32_160 : BitVec 32 := 128#32
  let v238 : BitVec 32 := Scalar.muli v10 c128_i32_160
  let v239 : BitVec 32 := Scalar.addi c0_i32_161 v238
  let v240 : Index := Scalar.indexCast v239
  let c0_162 : Index := 0#32
  ![v240.toNat, 0]
def k0_off6 (d0 : Dev nD) (c0_i32_161 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v10 : BitVec 32 := Scalar.subi c3_i32 v4
  let c128_i32_160 : BitVec 32 := 128#32
  let v238 : BitVec 32 := Scalar.muli v10 c128_i32_160
  let v239 : BitVec 32 := Scalar.addi c0_i32_161 v238
  let v245 : Index := Scalar.indexCast v239
  let c0_165 : Index := 0#32
  ![v245.toNat, 0]
def k0_off7 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v10 : BitVec 32 := Scalar.subi c3_i32 v4
  let c512_i32_225 : BitVec 32 := 512#32
  let v320 : BitVec 32 := Scalar.muli v10 c512_i32_225
  let v321 : Index := Scalar.indexCast v320
  let c0_226 : Index := 0#32
  ![v321.toNat, 0]
def k0_off8 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v10 : BitVec 32 := Scalar.subi c3_i32 v4
  let c512_i32_227 : BitVec 32 := 512#32
  let v325 : BitVec 32 := Scalar.muli v10 c512_i32_227
  let c0_i32_235 : BitVec 32 := 0#32
  ![v325.toNat, 0]
def k0_dev8 (d0 : Dev nD) : Nat :=
  let c0_i32_232 : BitVec 32 := 0#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_5 v3
  let c3_i32 : BitVec 32 := 3#32
  let c4_i32_0 : BitVec 32 := 4#32
  let v4 : BitVec 32 := Scalar.remsi v2 c4_i32_0
  let v10 : BitVec 32 := Scalar.subi c3_i32 v4
  let v15 : BitVec 32 := Scalar.addi v14 v10
  let c1_i32_231 : BitVec 32 := 1#32
  let v326 : BitVec 32 := Scalar.muli v15 c1_i32_231
  let v327 : BitVec 32 := Scalar.addi c0_i32_232 v326
  v327.toNat
def k0_off9 (d0 : Dev nD) (c0_i32_237 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let c128_i32_236 : BitVec 32 := 128#32
  let v335 : BitVec 32 := Scalar.muli v9 c128_i32_236
  let v336 : BitVec 32 := Scalar.addi c0_i32_237 v335
  let v337 : Index := Scalar.indexCast v336
  let c0_238 : Index := 0#32
  ![v337.toNat, 0]
def k0_off10 (d0 : Dev nD) (c0_i32_237 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let c128_i32_236 : BitVec 32 := 128#32
  let v335 : BitVec 32 := Scalar.muli v9 c128_i32_236
  let v336 : BitVec 32 := Scalar.addi c0_i32_237 v335
  let v342 : Index := Scalar.indexCast v336
  let c0_241 : Index := 0#32
  ![v342.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let c512_i32_301 : BitVec 32 := 512#32
  let v417 : BitVec 32 := Scalar.muli v9 c512_i32_301
  let v418 : Index := Scalar.indexCast v417
  let c0_302 : Index := 0#32
  ![v418.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let c512_i32_303 : BitVec 32 := 512#32
  let v422 : BitVec 32 := Scalar.muli v9 c512_i32_303
  let c0_i32_311 : BitVec 32 := 0#32
  ![v422.toNat, 0]
def k0_dev9 (d0 : Dev nD) : Nat :=
  let c0_i32_308 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v12 : BitVec 32 := Scalar.muli c4_i32_4 v3
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v13 : BitVec 32 := Scalar.addi v12 v9
  let c1_i32_307 : BitVec 32 := 1#32
  let v423 : BitVec 32 := Scalar.muli v13 c1_i32_307
  let v424 : BitVec 32 := Scalar.addi c0_i32_308 v423
  v424.toNat
def k0_off13 (d0 : Dev nD) (c0_i32_313 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c128_i32_312 : BitVec 32 := 128#32
  let v432 : BitVec 32 := Scalar.muli v4 c128_i32_312
  let v433 : BitVec 32 := Scalar.addi c0_i32_313 v432
  let v434 : Index := Scalar.indexCast v433
  let c0_314 : Index := 0#32
  ![v434.toNat, 0]
def k0_off14 (d0 : Dev nD) (c0_i32_313 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c128_i32_312 : BitVec 32 := 128#32
  let v432 : BitVec 32 := Scalar.muli v4 c128_i32_312
  let v433 : BitVec 32 := Scalar.addi c0_i32_313 v432
  let v439 : Index := Scalar.indexCast v433
  let c0_317 : Index := 0#32
  ![v439.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c512_i32_377 : BitVec 32 := 512#32
  let v514 : BitVec 32 := Scalar.muli v4 c512_i32_377
  let v515 : Index := Scalar.indexCast v514
  let c0_378 : Index := 0#32
  ![v515.toNat, 0]
def k0_off16 (d0 : Dev nD) (c1_i32_437 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v575 : BitVec 32 := Scalar.addi v3 c1_i32_437
  let c4_i32_438 : BitVec 32 := 4#32
  let v576 : BitVec 32 := Scalar.remsi v575 c4_i32_438
  let c128_i32_439 : BitVec 32 := 128#32
  let v577 : BitVec 32 := Scalar.muli v576 c128_i32_439
  let c0_i32_447 : BitVec 32 := 0#32
  ![v577.toNat, 0]
def k0_dev10 (d0 : Dev nD) : Nat :=
  let c0_i32_444 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_7 : BitVec 32 := 1#32
  let v18 : BitVec 32 := Scalar.addi v3 c1_i32_7
  let c4_i32_8 : BitVec 32 := 4#32
  let v19 : BitVec 32 := Scalar.remsi v18 c4_i32_8
  let v20 : BitVec 32 := Scalar.muli c4_i32_9 v19
  let c4_i32_0 : BitVec 32 := 4#32
  let v4 : BitVec 32 := Scalar.remsi v2 c4_i32_0
  let v21 : BitVec 32 := Scalar.addi v20 v4
  let c1_i32_443 : BitVec 32 := 1#32
  let v578 : BitVec 32 := Scalar.muli v21 c1_i32_443
  let v579 : BitVec 32 := Scalar.addi c0_i32_444 v578
  v579.toNat
def k0_dev11 (d0 : Dev nD) : Nat :=
  let c0_i32_455 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_10 : BitVec 32 := 2#32
  let v22 : BitVec 32 := Scalar.addi v3 c2_i32_10
  let c4_i32_11 : BitVec 32 := 4#32
  let v23 : BitVec 32 := Scalar.remsi v22 c4_i32_11
  let v24 : BitVec 32 := Scalar.muli c4_i32_12 v23
  let c4_i32_0 : BitVec 32 := 4#32
  let v4 : BitVec 32 := Scalar.remsi v2 c4_i32_0
  let v25 : BitVec 32 := Scalar.addi v24 v4
  let c1_i32_454 : BitVec 32 := 1#32
  let v590 : BitVec 32 := Scalar.muli v25 c1_i32_454
  let v591 : BitVec 32 := Scalar.addi c0_i32_455 v590
  v591.toNat
def k0_dev12 (d0 : Dev nD) : Nat :=
  let c0_i32_465 : BitVec 32 := 0#32
  let c4_i32_15 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_13 : BitVec 32 := 3#32
  let v26 : BitVec 32 := Scalar.addi v3 c3_i32_13
  let c4_i32_14 : BitVec 32 := 4#32
  let v27 : BitVec 32 := Scalar.remsi v26 c4_i32_14
  let v28 : BitVec 32 := Scalar.muli c4_i32_15 v27
  let c4_i32_0 : BitVec 32 := 4#32
  let v4 : BitVec 32 := Scalar.remsi v2 c4_i32_0
  let v29 : BitVec 32 := Scalar.addi v28 v4
  let c1_i32_464 : BitVec 32 := 1#32
  let v602 : BitVec 32 := Scalar.muli v29 c1_i32_464
  let v603 : BitVec 32 := Scalar.addi c0_i32_465 v602
  v603.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c128_i32_514 : BitVec 32 := 128#32
  let v647 : BitVec 32 := Scalar.muli v3 c128_i32_514
  let v648 : Index := Scalar.indexCast v647
  let c0_515 : Index := 0#32
  ![v648.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_525 : BitVec 32 := 128#32
  let v663 : BitVec 32 := Scalar.muli v2 c128_i32_525
  let v664 : Index := Scalar.indexCast v663
  let c0_526 : Index := 0#32
  ![v664.toNat, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c128_i32_529 : BitVec 32 := 128#32
  let v672 : BitVec 32 := Scalar.muli v3 c128_i32_529
  let c0_i32_537 : BitVec 32 := 0#32
  ![v672.toNat, 0]
def k0_dev13 (d0 : Dev nD) : Nat :=
  let c0_i32_534 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_7 : BitVec 32 := 1#32
  let v18 : BitVec 32 := Scalar.addi v3 c1_i32_7
  let c4_i32_8 : BitVec 32 := 4#32
  let v19 : BitVec 32 := Scalar.remsi v18 c4_i32_8
  let v20 : BitVec 32 := Scalar.muli c4_i32_9 v19
  let c4_i32_0 : BitVec 32 := 4#32
  let v4 : BitVec 32 := Scalar.remsi v2 c4_i32_0
  let v21 : BitVec 32 := Scalar.addi v20 v4
  let c1_i32_533 : BitVec 32 := 1#32
  let v673 : BitVec 32 := Scalar.muli v21 c1_i32_533
  let v674 : BitVec 32 := Scalar.addi c0_i32_534 v673
  v674.toNat
def k0_dev14 (d0 : Dev nD) : Nat :=
  let c0_i32_542 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_10 : BitVec 32 := 2#32
  let v22 : BitVec 32 := Scalar.addi v3 c2_i32_10
  let c4_i32_11 : BitVec 32 := 4#32
  let v23 : BitVec 32 := Scalar.remsi v22 c4_i32_11
  let v24 : BitVec 32 := Scalar.muli c4_i32_12 v23
  let c4_i32_0 : BitVec 32 := 4#32
  let v4 : BitVec 32 := Scalar.remsi v2 c4_i32_0
  let v25 : BitVec 32 := Scalar.addi v24 v4
  let c1_i32_541 : BitVec 32 := 1#32
  let v683 : BitVec 32 := Scalar.muli v25 c1_i32_541
  let v684 : BitVec 32 := Scalar.addi c0_i32_542 v683
  v684.toNat
def k0_dev15 (d0 : Dev nD) : Nat :=
  let c0_i32_550 : BitVec 32 := 0#32
  let c4_i32_15 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_13 : BitVec 32 := 3#32
  let v26 : BitVec 32 := Scalar.addi v3 c3_i32_13
  let c4_i32_14 : BitVec 32 := 4#32
  let v27 : BitVec 32 := Scalar.remsi v26 c4_i32_14
  let v28 : BitVec 32 := Scalar.muli c4_i32_15 v27
  let c4_i32_0 : BitVec 32 := 4#32
  let v4 : BitVec 32 := Scalar.remsi v2 c4_i32_0
  let v29 : BitVec 32 := Scalar.addi v28 v4
  let c1_i32_549 : BitVec 32 := 1#32
  let v693 : BitVec 32 := Scalar.muli v29 c1_i32_549
  let v694 : BitVec 32 := Scalar.addi c0_i32_550 v693
  v694.toNat
def k0_off20 (d0 : Dev nD) : Fin 3 → Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c128_i32_555 : BitVec 32 := 128#32
  let v703 : BitVec 32 := Scalar.muli v3 c128_i32_555
  let c0_i32_560 : BitVec 32 := 0#32
  ![0, v703.toNat, 0]
def k0_dev16 (d0 : Dev nD) : Nat :=
  let c0_i32_559 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v12 : BitVec 32 := Scalar.muli c4_i32_4 v3
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v13 : BitVec 32 := Scalar.addi v12 v9
  let c1_i32_558 : BitVec 32 := 1#32
  let v704 : BitVec 32 := Scalar.muli v13 c1_i32_558
  let v705 : BitVec 32 := Scalar.addi c0_i32_559 v704
  v705.toNat
def k0_off21 (d0 : Dev nD) : Fin 3 → Nat :=
  let c1_i32_564 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c128_i32_563 : BitVec 32 := 128#32
  let v714 : BitVec 32 := Scalar.muli v3 c128_i32_563
  let c0_i32_568 : BitVec 32 := 0#32
  ![1, v714.toNat, 0]
def k0_dev17 (d0 : Dev nD) : Nat :=
  let c0_i32_567 : BitVec 32 := 0#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_5 v3
  let c3_i32 : BitVec 32 := 3#32
  let c4_i32_0 : BitVec 32 := 4#32
  let v4 : BitVec 32 := Scalar.remsi v2 c4_i32_0
  let v10 : BitVec 32 := Scalar.subi c3_i32 v4
  let v15 : BitVec 32 := Scalar.addi v14 v10
  let c1_i32_566 : BitVec 32 := 1#32
  let v715 : BitVec 32 := Scalar.muli v15 c1_i32_566
  let v716 : BitVec 32 := Scalar.addi c0_i32_567 v715
  v716.toNat
def k0_off22 (d0 : Dev nD) : Fin 3 → Nat :=
  let c2_i32_572 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c128_i32_571 : BitVec 32 := 128#32
  let v725 : BitVec 32 := Scalar.muli v3 c128_i32_571
  let c0_i32_576 : BitVec 32 := 0#32
  ![2, v725.toNat, 0]
def k0_dev18 (d0 : Dev nD) : Nat :=
  let c0_i32_575 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_6 v3
  let c3_i32_3 : BitVec 32 := 3#32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let v17 : BitVec 32 := Scalar.addi v16 v11
  let c1_i32_574 : BitVec 32 := 1#32
  let v726 : BitVec 32 := Scalar.muli v17 c1_i32_574
  let v727 : BitVec 32 := Scalar.addi c0_i32_575 v726
  v727.toNat
def k0_off23 (d0 : Dev nD) (c0_i32_623 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v771 : BitVec 32 := Scalar.addi v3 c0_i32_623
  let c1_i32_624 : BitVec 32 := 1#32
  let v772 : BitVec 32 := Scalar.addi v771 c1_i32_624
  let c4_i32_625 : BitVec 32 := 4#32
  let v773 : BitVec 32 := Scalar.remsi v772 c4_i32_625
  let c128_i32_629 : BitVec 32 := 128#32
  let v776 : BitVec 32 := Scalar.muli v773 c128_i32_629
  let v777 : Index := Scalar.indexCast v776
  let c0_630 : Index := 0#32
  ![v777.toNat, 0]
def k0_off24 (d0 : Dev nD) (c0_i32_623 : BitVec 32) : Fin 2 → Nat :=
  let c4_i32_634 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v771 : BitVec 32 := Scalar.addi v3 c0_i32_623
  let c1_i32_624 : BitVec 32 := 1#32
  let v772 : BitVec 32 := Scalar.addi v771 c1_i32_624
  let c4_i32_625 : BitVec 32 := 4#32
  let v773 : BitVec 32 := Scalar.remsi v772 c4_i32_625
  let v784 : BitVec 32 := Scalar.muli c4_i32_634 v773
  let c128_i32_635 : BitVec 32 := 128#32
  let v785 : BitVec 32 := Scalar.muli v784 c128_i32_635
  let c4_i32_0 : BitVec 32 := 4#32
  let v4 : BitVec 32 := Scalar.remsi v2 c4_i32_0
  let c128_i32_636 : BitVec 32 := 128#32
  let v786 : BitVec 32 := Scalar.muli v4 c128_i32_636
  let v787 : BitVec 32 := Scalar.addi v785 v786
  let v788 : Index := Scalar.indexCast v787
  let c0_637 : Index := 0#32
  ![v788.toNat, 0]
def k0_off25 (d0 : Dev nD) (c1_i32_668 : BitVec 32) : Fin 3 → Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v828 : BitVec 32 := Scalar.addi v3 c1_i32_668
  let c4_i32_669 : BitVec 32 := 4#32
  let v829 : BitVec 32 := Scalar.remsi v828 c4_i32_669
  let c128_i32_671 : BitVec 32 := 128#32
  let v831 : BitVec 32 := Scalar.muli v829 c128_i32_671
  let c0_i32_676 : BitVec 32 := 0#32
  ![0, v831.toNat, 0]
def k0_dev19 (d0 : Dev nD) : Nat :=
  let c0_i32_675 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v12 : BitVec 32 := Scalar.muli c4_i32_4 v3
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v13 : BitVec 32 := Scalar.addi v12 v9
  let c1_i32_674 : BitVec 32 := 1#32
  let v832 : BitVec 32 := Scalar.muli v13 c1_i32_674
  let v833 : BitVec 32 := Scalar.addi c0_i32_675 v832
  v833.toNat
def k0_dev20 (d0 : Dev nD) : Nat :=
  let c0_i32_685 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v12 : BitVec 32 := Scalar.muli c4_i32_4 v3
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v13 : BitVec 32 := Scalar.addi v12 v9
  let c1_i32_684 : BitVec 32 := 1#32
  let v845 : BitVec 32 := Scalar.muli v13 c1_i32_684
  let v846 : BitVec 32 := Scalar.addi c0_i32_685 v845
  v846.toNat
def k0_dev21 (d0 : Dev nD) : Nat :=
  let c0_i32_695 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v12 : BitVec 32 := Scalar.muli c4_i32_4 v3
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v13 : BitVec 32 := Scalar.addi v12 v9
  let c1_i32_694 : BitVec 32 := 1#32
  let v858 : BitVec 32 := Scalar.muli v13 c1_i32_694
  let v859 : BitVec 32 := Scalar.addi c0_i32_695 v858
  v859.toNat
def k0_off26 (d0 : Dev nD) (c1_i32_698 : BitVec 32) : Fin 3 → Nat :=
  let c1_i32_702 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v867 : BitVec 32 := Scalar.addi v3 c1_i32_698
  let c4_i32_699 : BitVec 32 := 4#32
  let v868 : BitVec 32 := Scalar.remsi v867 c4_i32_699
  let c128_i32_701 : BitVec 32 := 128#32
  let v870 : BitVec 32 := Scalar.muli v868 c128_i32_701
  let c0_i32_706 : BitVec 32 := 0#32
  ![1, v870.toNat, 0]
def k0_dev22 (d0 : Dev nD) : Nat :=
  let c0_i32_705 : BitVec 32 := 0#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_5 v3
  let c3_i32 : BitVec 32 := 3#32
  let c4_i32_0 : BitVec 32 := 4#32
  let v4 : BitVec 32 := Scalar.remsi v2 c4_i32_0
  let v10 : BitVec 32 := Scalar.subi c3_i32 v4
  let v15 : BitVec 32 := Scalar.addi v14 v10
  let c1_i32_704 : BitVec 32 := 1#32
  let v871 : BitVec 32 := Scalar.muli v15 c1_i32_704
  let v872 : BitVec 32 := Scalar.addi c0_i32_705 v871
  v872.toNat
def k0_dev23 (d0 : Dev nD) : Nat :=
  let c0_i32_716 : BitVec 32 := 0#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_5 v3
  let c3_i32 : BitVec 32 := 3#32
  let c4_i32_0 : BitVec 32 := 4#32
  let v4 : BitVec 32 := Scalar.remsi v2 c4_i32_0
  let v10 : BitVec 32 := Scalar.subi c3_i32 v4
  let v15 : BitVec 32 := Scalar.addi v14 v10
  let c1_i32_715 : BitVec 32 := 1#32
  let v884 : BitVec 32 := Scalar.muli v15 c1_i32_715
  let v885 : BitVec 32 := Scalar.addi c0_i32_716 v884
  v885.toNat
def k0_dev24 (d0 : Dev nD) : Nat :=
  let c0_i32_726 : BitVec 32 := 0#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_5 v3
  let c3_i32 : BitVec 32 := 3#32
  let c4_i32_0 : BitVec 32 := 4#32
  let v4 : BitVec 32 := Scalar.remsi v2 c4_i32_0
  let v10 : BitVec 32 := Scalar.subi c3_i32 v4
  let v15 : BitVec 32 := Scalar.addi v14 v10
  let c1_i32_725 : BitVec 32 := 1#32
  let v897 : BitVec 32 := Scalar.muli v15 c1_i32_725
  let v898 : BitVec 32 := Scalar.addi c0_i32_726 v897
  v898.toNat
def k0_off27 (d0 : Dev nD) (c1_i32_729 : BitVec 32) : Fin 3 → Nat :=
  let c2_i32_733 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v906 : BitVec 32 := Scalar.addi v3 c1_i32_729
  let c4_i32_730 : BitVec 32 := 4#32
  let v907 : BitVec 32 := Scalar.remsi v906 c4_i32_730
  let c128_i32_732 : BitVec 32 := 128#32
  let v909 : BitVec 32 := Scalar.muli v907 c128_i32_732
  let c0_i32_737 : BitVec 32 := 0#32
  ![2, v909.toNat, 0]
def k0_dev25 (d0 : Dev nD) : Nat :=
  let c0_i32_736 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_6 v3
  let c3_i32_3 : BitVec 32 := 3#32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let v17 : BitVec 32 := Scalar.addi v16 v11
  let c1_i32_735 : BitVec 32 := 1#32
  let v910 : BitVec 32 := Scalar.muli v17 c1_i32_735
  let v911 : BitVec 32 := Scalar.addi c0_i32_736 v910
  v911.toNat
def k0_dev26 (d0 : Dev nD) : Nat :=
  let c0_i32_746 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_6 v3
  let c3_i32_3 : BitVec 32 := 3#32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let v17 : BitVec 32 := Scalar.addi v16 v11
  let c1_i32_745 : BitVec 32 := 1#32
  let v923 : BitVec 32 := Scalar.muli v17 c1_i32_745
  let v924 : BitVec 32 := Scalar.addi c0_i32_746 v923
  v924.toNat
def k0_dev27 (d0 : Dev nD) : Nat :=
  let c0_i32_756 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v16 : BitVec 32 := Scalar.muli c4_i32_6 v3
  let c3_i32_3 : BitVec 32 := 3#32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let v17 : BitVec 32 := Scalar.addi v16 v11
  let c1_i32_755 : BitVec 32 := 1#32
  let v936 : BitVec 32 := Scalar.muli v17 c1_i32_755
  let v937 : BitVec 32 := Scalar.addi c0_i32_756 v936
  v937.toNat
def k0_off28 (d0 : Dev nD) (c0_i32_919 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let c128_i32_918 : BitVec 32 := 128#32
  let v1092 : BitVec 32 := Scalar.muli v9 c128_i32_918
  let v1093 : BitVec 32 := Scalar.addi c0_i32_919 v1092
  let v1094 : Index := Scalar.indexCast v1093
  let c0_920 : Index := 0#32
  ![v1094.toNat, 0]
def k0_off29 (d0 : Dev nD) (c0_i32_943 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v10 : BitVec 32 := Scalar.subi c3_i32 v4
  let c128_i32_942 : BitVec 32 := 128#32
  let v1120 : BitVec 32 := Scalar.muli v10 c128_i32_942
  let v1121 : BitVec 32 := Scalar.addi c0_i32_943 v1120
  let v1122 : Index := Scalar.indexCast v1121
  let c0_944 : Index := 0#32
  ![v1122.toNat, 0]
def k0_off30 (d0 : Dev nD) (c0_i32_967 : BitVec 32) : Fin 2 → Nat :=
  let c3_i32_3 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_1 : BitVec 32 := 1#32
  let v6 : BitVec 32 := Scalar.addi v4 c1_i32_1
  let c2_i32_2 : BitVec 32 := 2#32
  let c2_i32 : BitVec 32 := 2#32
  let v7 : BitVec 32 := Scalar.remsi v4 c2_i32
  let v8 : BitVec 32 := Scalar.muli c2_i32_2 v7
  let v9 : BitVec 32 := Scalar.subi v6 v8
  let v11 : BitVec 32 := Scalar.subi c3_i32_3 v9
  let c128_i32_966 : BitVec 32 := 128#32
  let v1148 : BitVec 32 := Scalar.muli v11 c128_i32_966
  let v1149 : BitVec 32 := Scalar.addi c0_i32_967 v1148
  let v1150 : Index := Scalar.indexCast v1149
  let c0_968 : Index := 0#32
  ![v1150.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩
abbrev S2048x1024 : Shape := ⟨2, ![2048, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x2, .i32⟩
  | .hbm, ⟨3, _⟩ => ⟨S64x512x1024, .bf16⟩
  | .hbm, ⟨4, _⟩ => ⟨S2048x512, .f32⟩
  | .hbm, ⟨5, _⟩ => ⟨S512x64, .f32⟩
  | .hbm, ⟨6, _⟩ => ⟨S64x512x1024, .f32⟩
  | .hbm, ⟨7, _⟩ => ⟨S2048x64, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x64, .f32⟩
  | .hbm, ⟨18, _⟩ => ⟨S2048x64, .f32⟩
  | .hbm, ⟨19, _⟩ => ⟨S2048x1, .i32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S2048x1, .i32⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .i32⟩
  | .hbm, ⟨31, _⟩ => ⟨S2048x1x1, .i32⟩
  | .hbm, ⟨32, _⟩ => ⟨S1, .i32⟩
  | .hbm, ⟨33, _⟩ => ⟨S_, .i32⟩
  | .hbm, ⟨34, _⟩ => ⟨S2048x1x1, .i32⟩
  | .hbm, ⟨35, _⟩ => ⟨S2048x1x1, .i1⟩
  | .hbm, ⟨36, _⟩ => ⟨S1x1x1, .i32⟩
  | .hbm, ⟨37, _⟩ => ⟨S2048x1x1, .i32⟩
  | .hbm, ⟨38, _⟩ => ⟨S2048x1x1, .i1⟩
  | .hbm, ⟨39, _⟩ => ⟨S2048x1x1, .i1⟩
  | .hbm, ⟨40, _⟩ => ⟨S_, .i1⟩
  | .hbm, ⟨41, _⟩ => ⟨S2048x1, .i1⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .i32⟩
  | .hbm, ⟨47, _⟩ => ⟨S_, .i32⟩
  | .hbm, ⟨48, _⟩ => ⟨S2048x1, .i32⟩
  | .hbm, ⟨49, _⟩ => ⟨S2048x1, .i1⟩
  | .hbm, ⟨50, _⟩ => ⟨S_, .i32⟩
  | .hbm, ⟨51, _⟩ => ⟨S2048x1, .i32⟩
  | .hbm, ⟨52, _⟩ => ⟨S2048x1, .i32⟩
  | .hbm, ⟨53, _⟩ => ⟨S2048x1, .i32⟩
  | .hbm, ⟨54, _⟩ => ⟨S2048x1x1, .i32⟩
  | .hbm, ⟨55, _⟩ => ⟨S1, .i32⟩
  | .hbm, ⟨56, _⟩ => ⟨S_, .i32⟩
  | .hbm, ⟨57, _⟩ => ⟨S2048x1x1, .i32⟩
  | .hbm, ⟨58, _⟩ => ⟨S2048x1x1, .i1⟩
  | .hbm, ⟨59, _⟩ => ⟨S1x1x1, .i32⟩
  | .hbm, ⟨60, _⟩ => ⟨S2048x1x1, .i32⟩
  | .hbm, ⟨61, _⟩ => ⟨S2048x1x1, .i1⟩
  | .hbm, ⟨62, _⟩ => ⟨S2048x1x1, .i1⟩
  | .hbm, ⟨63, _⟩ => ⟨S_, .i1⟩
  | .hbm, ⟨64, _⟩ => ⟨S2048x1, .i1⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1, .f32⟩
  | .hbm, ⟨70, _⟩ => ⟨S_, .i32⟩
  | .hbm, ⟨71, _⟩ => ⟨S2048, .i32⟩
  | .hbm, ⟨72, _⟩ => ⟨S2048, .i1⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .i32⟩
  | .hbm, ⟨77, _⟩ => ⟨S2048x1, .i32⟩
  | .hbm, ⟨78, _⟩ => ⟨S2048x512x1024, .f32⟩
  | .hbm, ⟨79, _⟩ => ⟨S2048x1024, .f32⟩
  | .hbm, ⟨80, _⟩ => ⟨S_, .i32⟩
  | .hbm, ⟨81, _⟩ => ⟨S2048, .i32⟩
  | .hbm, ⟨82, _⟩ => ⟨S2048, .i1⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .i32⟩
  | .hbm, ⟨87, _⟩ => ⟨S2048x1, .i32⟩
  | .hbm, ⟨88, _⟩ => ⟨S2048x512x1024, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1, .f32⟩
  | .hbm, ⟨94, _⟩ => ⟨S2048x1024, .f32⟩
  | .hbm, ⟨95, _⟩ => ⟨S2048x1024, .f32⟩
  | .hbm, ⟨96, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v18 : Ref sig .tc := ⟨.hbm, 45, rfl⟩
abbrev main_v19 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v20 : Ref sig .tc := ⟨.hbm, 68, rfl⟩
abbrev main_v21 : Ref sig .tc := ⟨.hbm, 69, rfl⟩
abbrev main_c : Ref sig .tc := ⟨.hbm, 70, rfl⟩
abbrev main_v22 : Ref sig .tc := ⟨.hbm, 71, rfl⟩
abbrev main_v23 : Ref sig .tc := ⟨.hbm, 72, rfl⟩
abbrev main_c_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Proof.Local.lean ====
/-
# Local steps on pieces of a buffer

The kernel's buffers are held piece by piece: `owns c M q v` says that device `c` holds the memref `M`
(a whole buffer or a slice of one) at share `q` and that it reads as `v`. This module gives the load and
store rules in that form, with the slice's offsets replaced by equal ones on the way, and the rules that
squeeze, split, join and lend such pieces.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Ring
public import Idealize.ShloMosaic.Lib.Tactic
public import Idealize.ShloMosaic.Lib.VecWindow

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Names of the duties of a barrier cell: the three plane partners and the three column partners. -/
inductive PIx | pl (k : Fin 3) | co (i : Fin 3)
  deriving DecidableEq

/-- The six of them. -/
instance : Fintype PIx where
  elems := {.pl 0, .pl 1, .pl 2, .co 0, .co 1, .co 2}
  complete := by rintro (k | k) <;> revert k <;> decide

abbrev UB : Type := URounds (GSem nD τ sig) PIx
abbrev UU : Type := UR sig nD τ × UB

local notation "𝕄" => MT nD τ sig Unit (Elt F) ℕ UU ℕ

abbrev 𝒱₀ : Variants := Variants.none

/-- What the body's step runs in: device `c`'s core, no block invariant. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- `owns` on device `c`'s core, in this kernel's logic. -/
abbrev own (c : Dev nD) {sp : Space} {s : Shape} {e : EltTy} (M : Memref sig .tc sp s e) (q : PosShare TreeShare) (v : s.Idx → Elt F e) : sProp 𝕄 :=
  owns (c : Thread nD τ) M q v

/-- Held in full at some contents. -/
def some' (c : Dev nD) {sp : Space} {s : Shape} {e : EltTy} (M : Memref sig .tc sp s e) : sProp 𝕄 :=
  iprop(∃ v : s.Idx → Elt F e, own c M fullShare v)

/-- The piece of a memref at offset `off`, of size `sz`. -/
abbrev piece {sp : Space} {s : Shape} {e : EltTy} (M : Memref sig .tc sp s e) (off sz : Fin s.rank → ℕ)
    (inb : ∀ a, off a + sz a ≤ s.size a) : Memref sig .tc sp ⟨s.rank, sz⟩ e :=
  M.slice (Rect.unit (s := s) off sz inb) (fun _ => rfl)

section Steps

variable (c : Dev nD) {s s' : Shape} {e : EltTy} {α : Type}

/-- Loading a rectangle of `M` held as a piece: the program goes on at what the piece reads as. -/
theorem ld (M : Memref sig .tc .vmem s e) {off off' : Fin s.rank → ℕ} {sz : Fin s.rank → ℕ} (hoff : off = off')
    {inb : ∀ a, off a + sz a ≤ s.size a} {inb' : ∀ a, off' a + sz a ≤ s.size a} {q : PosShare TreeShare}
    {v : Shape.Idx ⟨s.rank, sz⟩ → Elt F e}
    {hl : M.view.LoadsAt (Rect.unit (s := s) off sz inb).toLoadRect}
    {k : (Shape.Idx ⟨s.rank, sz⟩ → Elt F e) → Prog (TpuEff nD τ sig (Elt F) Λ₀ .tc) α} {Q : α → sProp 𝕄} :
    own c (piece M off' sz inb') q v
      ⊢ iprop((own c (piece M off' sz inb') q v -∗ wpB c (k v) Q)
        -∗ wpB c (.op (.load (cs := .vmem) M (Rect.unit (s := s) off sz inb).toLoadRect hl) k) Q) := by
  subst hoff
  unfold own owns
  iintro ⟨%f, %hf, H⟩ Hk
  iapply (wp_load_rect 𝒱₀ (c : Thread nD τ) none Set.univ (cs := .vmem) (m := M) (r := Rect.unit (s := s) off sz inb) (k := k) (Finset.Subset.refl _)) $$ H
  iintro H
  subst hf
  iapply Hk
  iexists f
  isplitr; · ipureintro; rfl
  iexact H

/-- Loading a rectangle of a memref held whole. -/
theorem ldIn (M : Memref sig .tc .vmem s e) {r : Rect s} {q : PosShare TreeShare} {v : s.Idx → Elt F e}
    {hl : M.view.LoadsAt r.toLoadRect}
    {k : (r.shape.Idx → Elt F e) → Prog (TpuEff nD τ sig (Elt F) Λ₀ .tc) α} {Q : α → sProp 𝕄} :
    own c M q v
      ⊢ iprop((own c M q v -∗ wpB c (k (fun i => v (r.emb i))) Q)
        -∗ wpB c (.op (.load (cs := .vmem) M r.toLoadRect hl) k) Q) := by
  unfold own owns
  iintro ⟨%f, %hf, H⟩ Hk
  iapply (wp_load_rect 𝒱₀ (c : Thread nD τ) none Set.univ (cs := .vmem) (m := M) (r := r) (k := k) (View.set_slice_subset _ _)) $$ H
  iintro H
  subst hf
  iapply Hk
  iexists f
  isplitr; · ipureintro; rfl
  iexact H

/-- Loading all of a memref held whole. -/
theorem ldAll (M : Memref sig .tc .vmem s e) {off : Fin s.rank → ℕ} (hoff : off = fun _ => 0)
    {inb : ∀ a, off a + s.size a ≤ s.size a} {q : PosShare TreeShare} {v : s.Idx → Elt F e}
    {hl : M.view.LoadsAt (Rect.unit (s := s) off s.size inb).toLoadRect}
    {k : (s.Idx → Elt F e) → Prog (TpuEff nD τ sig (Elt F) Λ₀ .tc) α} {Q : α → sProp 𝕄} :
    own c M q v
      ⊢ iprop((own c M q v -∗ wpB c (k v) Q)
        -∗ wpB c (.op (.load (cs := .vmem) M (Rect.unit (s := s) off s.size inb).toLoadRect hl) k) Q) := by
  have h := ldIn c (F := F) M (r := Rect.unit (s := s) off s.size inb) (q := q) (v := v) (hl := hl) (k := k) (Q := Q)
  have hv : (fun i => v ((Rect.unit (s := s) off s.size inb).emb i)) = v :=
    funext fun i => congrArg v (by subst hoff; exact Rect.emb_unit_full _ _)
  rwa [hv] at h

/-- Storing to a rectangle of `M` held as a piece. -/
theorem st (M : Memref sig .tc .vmem s e) {off off' : Fin s.rank → ℕ} {sz : Fin s.rank → ℕ} (hoff : off = off')
    {inb : ∀ a, off a + sz a ≤ s.size a} {inb' : ∀ a, off' a + sz a ≤ s.size a}
    {w v : Shape.Idx ⟨s.rank, sz⟩ → Elt F e} {hx hm}
    {k : PUnit → Prog (TpuEff nD τ sig (Elt F) Λ₀ .tc) α} {Q : α → sProp 𝕄} :
    own c (piece M off' sz inb') fullShare v
      ⊢ iprop((own c (piece M off' sz inb') fullShare w -∗ wpB c (k ⟨⟩) Q)
        -∗ wpB c (.op (.store (cs := .vmem) M (Rect.unit (s := s) off sz inb) w Finset.univ hx hm) k) Q) := by
  subst hoff
  unfold own owns
  iintro ⟨%f, %hf, H⟩ Hk
  iapply (wp_store 𝒱₀ (c : Thread nD τ) none Set.univ (cs := .vmem) (m := M) (r := Rect.unit (s := s) off sz inb) (k := k) (S := (M.access (Rect.unit (s := s) off sz inb)).set) (Finset.Subset.refl _)) $$ H
  iintro H
  iapply Hk
  iexists (M.access (Rect.unit (s := s) off sz inb)).write (Elt F) f w Finset.univ
  isplitr
  · ipureintro; exact View.read_write_univ _ _
  iexact H

/-- Storing over all of a memref held whole. -/
theorem stAll (M : Memref sig .tc .vmem s e) {off : Fin s.rank → ℕ} (hoff : off = fun _ => 0)
    {inb : ∀ a, off a + s.size a ≤ s.size a} {w v : s.Idx → Elt F e} {hx hm}
    {k : PUnit → Prog (TpuEff nD τ sig (Elt F) Λ₀ .tc) α} {Q : α → sProp 𝕄} :
    own c M fullShare v
      ⊢ iprop((own c M fullShare w -∗ wpB c (k ⟨⟩) Q)
        -∗ wpB c (.op (.store (cs := .vmem) M (Rect.unit (s := s) off s.size inb) w Finset.univ hx hm) k) Q) := by
  unfold own owns
  iintro ⟨%f, %hf, H⟩ Hk
  iapply (wp_store 𝒱₀ (c : Thread nD τ) none Set.univ (cs := .vmem) (m := M) (r := Rect.unit (s := s) off s.size inb) (k := k) (S := M.view.set) (View.set_slice_subset _ _)) $$ H
  iintro H
  iapply Hk
  iexists (M.access (Rect.unit (s := s) off s.size inb)).write (Elt F) f w Finset.univ
  isplitr
  · ipureintro
    funext i
    have h := congrFun (View.read_write_univ (Val := Elt F) (v := M.access (Rect.unit (s := s) off s.size inb)) f w) i
    have hi : (Rect.unit (s := s) off s.size inb).emb i = i := by subst hoff; exact Rect.emb_unit_full _ _
    refine Eq.trans ?_ h
    show _ = M.view.read (Elt F) _ ((Rect.unit (s := s) off s.size inb).emb i)
    rw [hi]
  iexact H

/-- A squeezed memref is held as the memref it squeezes. -/
theorem own_squeeze {sp : Space} (M : Memref sig .tc sp s e) (h : s.Squeezes s') (q : PosShare TreeShare) (v : s'.Idx → Elt F e) :
    own c (M.squeeze s' h) q v = own c M q (fun i => v ((Shape.reshapeEquiv h.numel_eq).symm i)) := by
  unfold own owns
  have hset : (M.squeeze s' h).view.set = M.view.set := Memref.set_view_squeeze _ _
  rw [hset]
  refine congrArg BIBase.exists (funext fun f => ?_)
  refine congrArg (fun p : Prop => iprop(⌜p⌝ ∗ _)) (propext ⟨fun hf => ?_, fun hf => ?_⟩)
  · subst hf; funext i
    show _ = M.view.read (Elt F) f (Shape.reshapeEquiv h.numel_eq ((Shape.reshapeEquiv h.numel_eq).symm i))
    rw [Equiv.apply_symm_apply]
  · funext i
    show M.view.read (Elt F) f (Shape.reshapeEquiv h.numel_eq i) = _
    rw [hf]; exact congrArg v (Equiv.symm_apply_apply _ _)

/-- Contents of a slot read at the slot's own shape, the leading axis of one kept. -/
def unsq (h : s.Squeezes s') (v : s'.Idx → Elt F e) : s.Idx → Elt F e := fun i => v ((Shape.reshapeEquiv h.numel_eq).symm i)

/-- Casting them to the squeezed shape gives them back. -/
theorem shapeCast_unsq (h : s.Squeezes s') (v : s'.Idx → Elt F e) (hc : s.ShapeCasts s') :
    shapeCast s' (unsq h v) hc = v := by
  funext i
  unfold unsq shapeCast
  exact congrArg v (Equiv.symm_apply_apply _ _)

/-- A share of a memref halves, -/
theorem own_half {sp : Space} (M : Memref sig .tc sp s e) (q : PosShare TreeShare) (v : s.Idx → Elt F e) :
    own c M q v ⊢ iprop(own c M q.left v ∗ own c M q.right v) := by
  unfold own owns
  iintro ⟨%f, %hf, H⟩
  ihave H' := (pointsTo_share (q := q) (q₁ := q.left) (q₂ := q.right) (by rw [PosShare.left_op_right]; exact Part.mem_some _)).1 $$ H
  icases H' with ⟨H₁, H₂⟩
  isplitl [H₁]
  · iexists f; isplitr; · ipureintro; exact hf
    iexact H₁
  · iexists f; isplitr; · ipureintro; exact hf
    iexact H₂

/-- and the halves go back together. -/
theorem own_join {sp : Space} (M : Memref sig .tc sp s e) (q : PosShare TreeShare) (v w : s.Idx → Elt F e) :
    iprop(own c M q.left v ∗ own c M q.right w) ⊢ own c M q v := by
  unfold own owns
  iintro ⟨⟨%f, %hf, H₁⟩, ⟨%g, %hg, H₂⟩⟩
  ihave %hag := (pointsTo_agree) $$ [H₁ H₂]
  · isplitl [H₁] <;> iassumption
  iexists f; isplitr; · ipureintro; exact hf
  iapply (pointsTo_share (q := q) (q₁ := q.left) (q₂ := q.right) (by rw [PosShare.left_op_right]; exact Part.mem_some _)).2
  isplitl [H₁]; · iexact H₁
  rw [pointsTo_congr (f := f) (g := g) fun i hi => (hag i (Finset.mem_inter.mpr ⟨hi, hi⟩)).1]
  iexact H₂

/-- A piece at an equal offset. -/
theorem piece_congr {sp : Space} (M : Memref sig .tc sp s e) {off off' sz : Fin s.rank → ℕ} (h : off = off')
    (inb : ∀ a, off a + sz a ≤ s.size a) (inb' : ∀ a, off' a + sz a ≤ s.size a) : piece M off sz inb = piece M off' sz inb' := by
  subst h; rfl

end Steps

end Cert.KernelIdeal.Exch

end
-- ==== Proof.Proto.lean ====
/-
# The protocol between the sixteen devices

Device `c = 4p + l` sits in plane `p` at place `l`. It exchanges with three partners in its plane (`pl k`)
and three in its column (`co i`). A transfer is named by an `SIx`: `prs k` sends a block of partial results
to plane partner `k`; `zrs i` a chunk of the plane's sum to column partner `i`; `zag i` the device's reduced
chunk to column partner `i`; `pago k` the same chunk to plane partner `k`; `pag k i` the chunk received from
column partner `i` on to plane partner `k`. Each transfer has a send cell on the sender and a receive cell
on the target; the barrier cell of a device has six duties, one per partner, by which the partner hands over
the slots the device will write into.

This module names the partners, the pieces of the buffers, the cells, and the contents each transfer carries.
-/
module

public import proofs.«01_k».proof.Proof.Local
public import Idealize.ShloMosaic.Lib.Pointwise.Index

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Places and partners -/

set_option backward.proofsInPublic true in
/-- A device's place in its plane. -/
def lc (c : Dev nD) : Fin 4 := ⟨c.val % 4, Nat.mod_lt _ (by decide)⟩
set_option backward.proofsInPublic true in
/-- Its plane. -/
def pc (c : Dev nD) : Fin 4 := ⟨c.val / 4, by have := c.isLt; simp only [nD] at this; omega⟩
set_option backward.proofsInPublic true in
/-- The device at a plane and a place. -/
def dv (p l : Fin 4) : Dev nD := ⟨4 * p.val + l.val, by have := p.isLt; have := l.isLt; simp only [nD]; omega⟩

/-- The place of plane partner `k` of place `l`. -/
def lx (k : Fin 3) (l : Fin 4) : Fin 4 := (![![1, 0, 3, 2], ![3, 2, 1, 0], ![2, 3, 0, 1]] : Fin 3 → Fin 4 → Fin 4) k l
/-- The plane of column partner `i` of plane `p`. -/
def px (i : Fin 3) (p : Fin 4) : Fin 4 := p + (![1, 2, 3] : Fin 3 → Fin 4) i
/-- The column partner that goes the other way round. -/
def ri (i : Fin 3) : Fin 3 := (![2, 1, 0] : Fin 3 → Fin 3) i

def pp (k : Fin 3) (c : Dev nD) : Dev nD := dv (pc c) (lx k (lc c))
def cp (i : Fin 3) (c : Dev nD) : Dev nD := dv (px i (pc c)) (lc c)

/-- The partner a name stands for, -/
def pr : PIx → Dev nD → Dev nD | .pl k => pp k | .co i => cp i
/-- and the name under which that partner knows the device. -/
def inv : PIx → PIx | .pl k => .pl k | .co i => .co (ri i)

theorem pc_dv (p l : Fin 4) : pc (dv p l) = p := by revert p l; decide
theorem lc_dv (p l : Fin 4) : lc (dv p l) = l := by revert p l; decide
theorem dv_pc_lc (c : Dev nD) : dv (pc c) (lc c) = c := by revert c; decide
theorem lx_lx (k : Fin 3) (l : Fin 4) : lx k (lx k l) = l := by revert k l; decide
theorem px_ri (i : Fin 3) (p : Fin 4) : px (ri i) (px i p) = p := by revert i p; decide
theorem px_px (i : Fin 3) (p : Fin 4) : px i (px (ri i) p) = p := by revert i p; decide
theorem ri_ri (i : Fin 3) : ri (ri i) = i := by revert i; decide
theorem inv_inv (d : PIx) : inv (inv d) = d := by revert d; decide
theorem pp_pp (k : Fin 3) (c : Dev nD) : pp k (pp k c) = c := by revert k c; decide
theorem cp_cp (i : Fin 3) (c : Dev nD) : cp (ri i) (cp i c) = c := by revert i c; decide
theorem pr_inv (d : PIx) (c : Dev nD) : pr (inv d) (pr d c) = c := by revert d c; decide
theorem pc_pp (k : Fin 3) (c : Dev nD) : pc (pp k c) = pc c := by revert k c; decide
theorem lc_pp (k : Fin 3) (c : Dev nD) : lc (pp k c) = lx k (lc c) := by revert k c; decide
theorem pc_cp (i : Fin 3) (c : Dev nD) : pc (cp i c) = px i (pc c) := by revert i c; decide
theorem lc_cp (i : Fin 3) (c : Dev nD) : lc (cp i c) = lc c := by revert i c; decide

/-! ## Transfers -/

inductive SIx | prs (k : Fin 3) | zrs (i : Fin 3) | zag (i : Fin 3) | pago (k : Fin 3) | pag (k i : Fin 3)
  deriving DecidableEq

/-- All of them, in the order of their semaphores. -/
def SIx.all : List SIx :=
  [.prs 0, .prs 1, .prs 2, .zrs 0, .zrs 1, .zrs 2, .zag 0, .zag 1, .zag 2, .pago 0, .pago 1, .pago 2,
   .pag 0 0, .pag 0 1, .pag 0 2, .pag 1 0, .pag 1 1, .pag 1 2, .pag 2 0, .pag 2 1, .pag 2 2]

theorem SIx.mem_all (j : SIx) : j ∈ SIx.all := by
  rcases j with k | k | k | k | ⟨k, i⟩
  iterate 4 (revert k; decide)
  revert k i; decide

instance : Fintype SIx := ⟨⟨SIx.all, by decide⟩, SIx.mem_all⟩

set_option backward.proofsInPublic true in
/-- A transfer's place among the 21 semaphores of either bank. -/
def SIx.num : SIx → Fin 21
  | .prs k => ⟨k.val, by omega⟩
  | .zrs i => ⟨3 + i.val, by omega⟩
  | .zag i => ⟨6 + i.val, by omega⟩
  | .pago k => ⟨9 + k.val, by omega⟩
  | .pag k i => ⟨12 + 3 * k.val + i.val, by omega⟩

/-- The partner a transfer goes to. -/
def SIx.to : SIx → PIx
  | .prs k => .pl k | .zrs i => .co i | .zag i => .co i | .pago k => .pl k | .pag k _ => .pl k

/-- The device it goes to, -/
abbrev tgt (j : SIx) (c : Dev nD) : Dev nD := pr j.to c
/-- and the device it comes from. -/
abbrev srcDev (j : SIx) (c : Dev nD) : Dev nD := pr (inv j.to) c

/-! ## Buffers and their pieces -/

abbrev xM : Memref sig .tc .vmem S2048x512 .bf16 := Memref.whole cc0_stg0_0
abbrev rwM : Memref sig .tc .vmem S512x64 .bf16 := Memref.whole cc0_stg1_0
abbrev idM : Memref sig .tc .vmem S2048x2 .i32 := Memref.whole cc0_stg2_0
abbrev ewM : Memref sig .tc .vmem S4x512x1024 .bf16 := Memref.whole cc0_stg3_0
abbrev oM : Memref sig .tc .vmem S2048x1024 .f32 := Memref.whole cc0_stg4_0
abbrev parM : Memref sig .tc .vmem S2048x1024 .bf16 := Memref.whole cc0_scratch0
abbrev xbM : Memref sig .tc .vmem S2048x512 .bf16 := Memref.whole cc0_scratch1
abbrev wbM : Memref sig .tc .vmem S4x512x1024 .bf16 := Memref.whole cc0_scratch2
abbrev wtM : Memref sig .tc .vmem S2048x4 .f32 := Memref.whole cc0_scratch3
abbrev xcM : Memref sig .tc .vmem S512x512 .bf16 := Memref.whole cc0_scratch4
abbrev wcM : Memref sig .tc .vmem S512x4 .f32 := Memref.whole cc0_scratch5
abbrev csM : Memref sig .tc .vmem S512x1024 .bf16 := Memref.whole cc0_scratch6
abbrev crM : Memref sig .tc .vmem S512x1024 .bf16 := Memref.whole cc0_scratch7
abbrev prM : Memref sig .tc .vmem S3x512x1024 .bf16 := Memref.whole cc0_scratch8
abbrev zrM : Memref sig .tc .vmem S3x128x1024 .bf16 := Memref.whole cc0_scratch9
abbrev zaM : Memref sig .tc .vmem S3x128x1024 .bf16 := Memref.whole cc0_scratch10
abbrev pgM : Memref sig .tc .vmem S3x512x1024 .bf16 := Memref.whole cc0_scratch11

/-- A printed call's memrefs, in its order. -/
abbrev atBufs {β : Type*} (f : ∀ (arg0 : Memref sig .tc .vmem S2048x512 .bf16) (_ : arg0.IsWhole) (arg1 : Memref sig .tc .vmem S512x64 .bf16) (_ : arg1.IsWhole)
    (arg2 : Memref sig .tc .vmem S2048x2 .i32) (_ : arg2.IsWhole) (arg3 : Memref sig .tc .vmem S4x512x1024 .bf16) (_ : arg3.IsWhole)
    (arg4 : Memref sig .tc .vmem S2048x1024 .f32) (_ : arg4.IsWhole) (arg5 : Memref sig .tc .vmem S2048x1024 .bf16) (_ : arg5.IsWhole)
    (arg6 : Memref sig .tc .vmem S2048x512 .bf16) (_ : arg6.IsWhole) (arg7 : Memref sig .tc .vmem S4x512x1024 .bf16) (_ : arg7.IsWhole)
    (arg8 : Memref sig .tc .vmem S2048x4 .f32) (_ : arg8.IsWhole) (arg9 : Memref sig .tc .vmem S512x512 .bf16) (_ : arg9.IsWhole)
    (arg10 : Memref sig .tc .vmem S512x4 .f32) (_ : arg10.IsWhole) (arg11 : Memref sig .tc .vmem S512x1024 .bf16) (_ : arg11.IsWhole)
    (arg12 : Memref sig .tc .vmem S512x1024 .bf16) (_ : arg12.IsWhole) (arg13 : Memref sig .tc .vmem S3x512x1024 .bf16) (_ : arg13.IsWhole)
    (arg14 : Memref sig .tc .vmem S3x128x1024 .bf16) (_ : arg14.IsWhole) (arg15 : Memref sig .tc .vmem S3x128x1024 .bf16) (_ : arg15.IsWhole)
    (arg16 : Memref sig .tc .vmem S3x512x1024 .bf16) (_ : arg16.IsWhole) (arg17 : DmaSems sig S21) (arg18 : DmaSems sig S21), β) : β :=
  f xM (Memref.isWhole_whole _) rwM (Memref.isWhole_whole _) idM (Memref.isWhole_whole _) ewM (Memref.isWhole_whole _)
    oM (Memref.isWhole_whole _) parM (Memref.isWhole_whole _) xbM (Memref.isWhole_whole _) wbM (Memref.isWhole_whole _)
    wtM (Memref.isWhole_whole _) xcM (Memref.isWhole_whole _) wcM (Memref.isWhole_whole _) csM (Memref.isWhole_whole _)
    crM (Memref.isWhole_whole _) prM (Memref.isWhole_whole _) zrM (Memref.isWhole_whole _) zaM (Memref.isWhole_whole _)
    pgM (Memref.isWhole_whole _) cc0_scratch12 cc0_scratch13

theorem inb_blk (b : Fin 4) : ∀ a, (![512 * b.val, 0] : Fin 2 → ℕ) a + S512x1024.size a ≤ S2048x1024.size a := by revert b; decide
theorem inb_chk (b : Fin 4) : ∀ a, (![128 * b.val, 0] : Fin 2 → ℕ) a + S128x1024.size a ≤ S512x1024.size a := by revert b; decide
theorem inb_slot (k : Fin 3) : ∀ a, (![k.val, 0, 0] : Fin 3 → ℕ) a + S1x512x1024.size a ≤ S3x512x1024.size a := by revert k; decide
theorem inb_zslot (k : Fin 3) : ∀ a, (![k.val, 0, 0] : Fin 3 → ℕ) a + S1x128x1024.size a ≤ S3x128x1024.size a := by revert k; decide
theorem inb_pslot (k : Fin 3) (b : Fin 4) : ∀ a, (![k.val, 128 * b.val, 0] : Fin 3 → ℕ) a + S1x128x1024.size a ≤ S3x512x1024.size a := by revert k b; decide
theorem inb_out (d : Dev nD) : ∀ a, (![128 * d.val, 0] : Fin 2 → ℕ) a + S128x1024.size a ≤ S2048x1024.size a := by revert d; decide
theorem inb_xc (b : Fin 4) : ∀ a, (![128 * b.val, 0] : Fin 2 → ℕ) a + S128x512.size a ≤ S512x512.size a := by revert b; decide
theorem inb_wc (b : Fin 4) : ∀ a, (![128 * b.val, 0] : Fin 2 → ℕ) a + S128x4.size a ≤ S512x4.size a := by revert b; decide
theorem inb_wt (e : Fin 4) : ∀ a, (![0, e.val] : Fin 2 → ℕ) a + S2048x1.size a ≤ S2048x4.size a := by revert e; decide
theorem inb_wb (e : Fin 4) : ∀ a, (![e.val, 0, 0] : Fin 3 → ℕ) a + S1x512x1024.size a ≤ S4x512x1024.size a := by revert e; decide
theorem inb_xrow (p b : Fin 4) : ∀ a, (![512 * p.val + 128 * b.val, 0] : Fin 2 → ℕ) a + S128x512.size a ≤ S2048x512.size a := by revert p b; decide
theorem inb_wrow (p b : Fin 4) : ∀ a, (![512 * p.val + 128 * b.val, 0] : Fin 2 → ℕ) a + S128x4.size a ≤ S2048x4.size a := by revert p b; decide
theorem inb_wcol (e : Fin 4) : ∀ a, (![0, e.val] : Fin 2 → ℕ) a + S512x1.size a ≤ S512x4.size a := by revert e; decide

/-- Rectangles of the pieces. -/
abbrev rBlk (b : Fin 4) : Rect S2048x1024 := Rect.unit (s := S2048x1024) ![512 * b.val, 0] S512x1024.size (inb_blk b)
abbrev rChk (b : Fin 4) : Rect S512x1024 := Rect.unit (s := S512x1024) ![128 * b.val, 0] S128x1024.size (inb_chk b)
abbrev rOut (d : Dev nD) : Rect S2048x1024 := Rect.unit (s := S2048x1024) ![128 * d.val, 0] S128x1024.size (inb_out d)
abbrev rXc (b : Fin 4) : Rect S512x512 := Rect.unit (s := S512x512) ![128 * b.val, 0] S128x512.size (inb_xc b)
abbrev rWc (b : Fin 4) : Rect S512x4 := Rect.unit (s := S512x4) ![128 * b.val, 0] S128x4.size (inb_wc b)
abbrev rWt (e : Fin 4) : Rect S2048x4 := Rect.unit (s := S2048x4) ![0, e.val] S2048x1.size (inb_wt e)
abbrev rWb (e : Fin 4) : Rect S4x512x1024 := Rect.unit (s := S4x512x1024) ![e.val, 0, 0] S1x512x1024.size (inb_wb e)
abbrev rXrow (p b : Fin 4) : Rect S2048x512 := Rect.unit (s := S2048x512) ![512 * p.val + 128 * b.val, 0] S128x512.size (inb_xrow p b)
abbrev rWrow (p b : Fin 4) : Rect S2048x4 := Rect.unit (s := S2048x4) ![512 * p.val + 128 * b.val, 0] S128x4.size (inb_wrow p b)
abbrev rWcol (e : Fin 4) : Rect S512x4 := Rect.unit (s := S512x4) ![0, e.val] S512x1.size (inb_wcol e)

abbrev parB (b : Fin 4) : Memref sig .tc .vmem S512x1024 .bf16 := piece parM ![512 * b.val, 0] S512x1024.size (inb_blk b)
abbrev csP (b : Fin 4) : Memref sig .tc .vmem S128x1024 .bf16 := piece csM ![128 * b.val, 0] S128x1024.size (inb_chk b)
abbrev crP (b : Fin 4) : Memref sig .tc .vmem S128x1024 .bf16 := piece crM ![128 * b.val, 0] S128x1024.size (inb_chk b)
abbrev oP (d : Dev nD) : Memref sig .tc .vmem S128x1024 .f32 := piece oM ![128 * d.val, 0] S128x1024.size (inb_out d)
abbrev xcP (b : Fin 4) : Memref sig .tc .vmem S128x512 .bf16 := piece xcM ![128 * b.val, 0] S128x512.size (inb_xc b)
abbrev wcP (b : Fin 4) : Memref sig .tc .vmem S128x4 .f32 := piece wcM ![128 * b.val, 0] S128x4.size (inb_wc b)
abbrev wtP (e : Fin 4) : Memref sig .tc .vmem S2048x1 .f32 := piece wtM ![0, e.val] S2048x1.size (inb_wt e)
abbrev wbP (e : Fin 4) : Memref sig .tc .vmem S1x512x1024 .bf16 := piece wbM ![e.val, 0, 0] S1x512x1024.size (inb_wb e)
abbrev prP (k : Fin 3) : Memref sig .tc .vmem S1x512x1024 .bf16 := piece prM ![k.val, 0, 0] S1x512x1024.size (inb_slot k)
abbrev zrP (k : Fin 3) : Memref sig .tc .vmem S1x128x1024 .bf16 := piece zrM ![k.val, 0, 0] S1x128x1024.size (inb_zslot k)
abbrev zaP (k : Fin 3) : Memref sig .tc .vmem S1x128x1024 .bf16 := piece zaM ![k.val, 0, 0] S1x128x1024.size (inb_zslot k)
abbrev pgP (k : Fin 3) (b : Fin 4) : Memref sig .tc .vmem S1x128x1024 .bf16 := piece pgM ![k.val, 128 * b.val, 0] S1x128x1024.size (inb_pslot k b)
/-- The slots a transfer lands in, at the shape it carries. -/
abbrev prQ (k : Fin 3) : Memref sig .tc .vmem S512x1024 .bf16 := (prP k).squeeze S512x1024 squeezes_S1x512x1024_S512x1024
abbrev zrQ (k : Fin 3) : Memref sig .tc .vmem S128x1024 .bf16 := (zrP k).squeeze S128x1024 squeezes_S1x128x1024_S128x1024
abbrev zaQ (k : Fin 3) : Memref sig .tc .vmem S128x1024 .bf16 := (zaP k).squeeze S128x1024 squeezes_S1x128x1024_S128x1024
abbrev pgQ (k : Fin 3) (b : Fin 4) : Memref sig .tc .vmem S128x1024 .bf16 := (pgP k b).squeeze S128x1024 squeezes_S1x128x1024_S128x1024

/-! ## Contents -/

/-- The four operands, on every device. -/
structure Ins (F : FTy → Type) where
  x : Dev nD → S2048x512.Idx → F .bf16
  rw : Dev nD → S512x64.Idx → F .bf16
  ix : Dev nD → S2048x2.Idx → BitVec 32
  ew : Dev nD → S4x512x1024.Idx → F .bf16

variable (I : Ins F)

/-- The device's number as the kernel reads it. -/
def w2 (c : Dev nD) : BitVec 32 := Scalar.remsi (Scalar.divsi (Dev.word c) 1#32) 16#32

/-- The two index columns. -/
def ixc0 (c : Dev nD) : Vec F S2048x1 .i32 := fun i => I.ix c ((Rect.unit (s := S2048x2) ![0, 0] S2048x1.size inb_S2048x2_S2048x1_0_0).emb i)
def ixc1 (c : Dev nD) : Vec F S2048x1 .i32 := fun i => I.ix c ((Rect.unit (s := S2048x2) ![0, 1] S2048x1.size inb_S2048x2_S2048x1_0_1).emb i)
/-- The routing probabilities, those kept, and their row sums. -/
def probs (c : Dev nD) : FVec F S2048x64 .f32 := k0_pay5 (I.x c) (I.rw c)
def gated (c : Dev nD) : FVec F S2048x64 .f32 := k0_pay6 (probs I c) (ixc0 I c) (ixc1 I c)
def gsum (c : Dev nD) : FVec F S2048x1 .f32 := k0_pay7 (probs I c) (ixc0 I c) (ixc1 I c)
def lanes : IVec S2048x64 32 := iota .tc S2048x64 32 [1] iota_S2048x64_d1_w32

/-- A row's weight for the device's expert `e`. -/
def wcol (c : Dev nD) : Fin 4 → FVec F S2048x1 .f32
  | 0 => k0_pay8 (w2 c) (probs I c) (ixc0 I c) (ixc1 I c)
  | 1 => k0_pay9 (w2 c) (probs I c) (ixc0 I c) (ixc1 I c)
  | 2 => k0_pay10 lanes (gated I c) (gsum I c) (Scalar.addi (Scalar.muli (w2 c) 4#32) 2#32)
  | 3 => k0_pay11 (w2 c) lanes (gated I c) (gsum I c)

set_option backward.proofsInPublic true in
/-- Row `i` of the 2048 at which row `i` of block `b`'s 512 is found. -/
def rowOf (b : Fin 4) (i : Fin 512) : Fin 2048 :=
  ⟨512 * (i.val / 128) + 128 * b.val + i.val % 128, by have := i.isLt; have := b.isLt; omega⟩

set_option backward.proofsInPublic true in
/-- The weights as a table, -/
def WT (c : Dev nD) : Vec F S2048x4 .f32 := fun i => wcol I c (i 1) (ix2 (i 0) (0 : Fin 1) : S2048x1.Idx)
/-- block `b`'s rows of the operand, -/
def XC (c : Dev nD) (b : Fin 4) : Vec F S512x512 .bf16 := fun i => I.x c (ix2 (rowOf b (i 0)) (i 1) : S2048x512.Idx)
/-- and of the weights. -/
def WC (c : Dev nD) (b : Fin 4) : Vec F S512x4 .f32 := fun i => WT I c (ix2 (rowOf b (i 0)) (i 1) : S2048x4.Idx)
def WCc (c : Dev nD) (b e : Fin 4) : Vec F S512x1 .f32 := fun i => WC I c b ((rWcol e).emb i)
def EW (c : Dev nD) (e : Fin 4) : Vec F S1x512x1024 .bf16 := fun i => I.ew c ((rWb e).emb i)

/-- Block `b` of the device's partial result. -/
def PB (c : Dev nD) (b : Fin 4) : Vec F S512x1024 .bf16 :=
  k0_pay26 k0_pay24 (XC I c b) (k0_pay25 (EW I c 0)) (WCc I c b 0) (XC I c b) (EW I c 1) (WCc I c b 1)
    (XC I c b) (EW I c 2) (WCc I c b 2) (XC I c b) (EW I c 3) (WCc I c b 3)

/-- Partner `k`'s block as it lies in its slot. -/
def PRS (c : Dev nD) (k : Fin 3) : Vec F S1x512x1024 .bf16 := unsq squeezes_S1x512x1024_S512x1024 (PB I (pp k c) (lc c))

/-- The plane's sum of the device's block, -/
def CS (c : Dev nD) : Vec F S512x1024 .bf16 :=
  k0_pay65 (k0_pay63 (PB I c (lc c)) (PRS I c 0)) (k0_pay64 (PRS I c 1)) (PRS I c 2)
/-- and a chunk of it. -/
def CSc (c : Dev nD) (b : Fin 4) : Vec F S128x1024 .bf16 := fun i => CS I c ((rChk b).emb i)

def ZRS (c : Dev nD) (s : Fin 3) : Vec F S1x128x1024 .bf16 := unsq squeezes_S1x128x1024_S128x1024 (CSc I (cp s c) (pc c))
/-- The sum over all sixteen devices of the device's chunk, -/
def RED (c : Dev nD) : Vec F S128x1024 .f32 := k0_pay67 (k0_pay66 (CSc I c (pc c))) (ZRS I c 0) (ZRS I c 1) (ZRS I c 2)
/-- and rounded. -/
def REDB (c : Dev nD) : Vec F S128x1024 .bf16 := k0_pay68 (k0_pay66 (CSc I c (pc c))) (ZRS I c 0) (ZRS I c 1) (ZRS I c 2)

/-- The result's chunk `d` on device `c`. -/
def OUTc (c d : Dev nD) : Vec F S128x1024 .f32 := if d = c then RED I c else extf .f32 (REDB I d) bitsLt_bf16_f32

set_option backward.proofsInPublic true in
/-- The result on device `c`. -/
def OUT (c : Dev nD) : Vec F S2048x1024 .f32 := fun i =>
  OUTc I c ⟨(i 0).val / 128, by have h := (i 0).isLt; simp only [nD]; change (i 0).val < 2048 at h; omega⟩
    (ix2 (⟨(i 0).val % 128, Nat.mod_lt _ (by decide)⟩ : Fin 128) (i 1) : S128x1024.Idx)

/-! ## Cells -/

abbrev barS : Sem sig := (SemArray.scalar (sig.barrier 0 rfl) : Sems sig S_).sem

set_option backward.proofsInPublic true in
def sndS (j : SIx) : DmaSem sig := ⟨5 + j.num.val, by have := j.num.isLt; show _ < 47; omega⟩
set_option backward.proofsInPublic true in
def rcvS (j : SIx) : DmaSem sig := ⟨26 + j.num.val, by have := j.num.isLt; show _ < 47; omega⟩

inductive CIx | bar | snd (j : SIx) | rcv (j : SIx)
  deriving DecidableEq

def csem : CIx → SemLoc sig | .bar => .reg barS | .snd j => .dma (sndS j) | .rcv j => .dma (rcvS j)

abbrev cell (c : Dev nD) (k : CIx) : GSem nD τ sig := ((c : Thread nD τ), csem k)

theorem num_inj : ∀ j j' : SIx, j.num = j'.num → j = j' := by decide

theorem csem_inj : Function.Injective csem := by
  rintro (_ | j | j) (_ | j' | j') h <;> simp only [csem, SemLoc.dma.injEq, reduceCtorEq] at h
  · rfl
  · have := congrArg Fin.val h; simp only [sndS] at this; rw [num_inj j j' (Fin.ext (by omega))]
  · have := congrArg Fin.val h; simp only [sndS, rcvS] at this; have := j.num.isLt; omega
  · have := congrArg Fin.val h; simp only [sndS, rcvS] at this; have := j'.num.isLt; omega
  · have := congrArg Fin.val h; simp only [rcvS] at this; rw [num_inj j j' (Fin.ext (by omega))]

end Cert.KernelIdeal.Exch

end
-- ==== Proof.Sched.lean ====
/-
# The schedule, and the rules for its transfers and waits

Every cell has one round. The barrier cell of a device has six duties of one unit, one per partner, each
handing over the slots of that partner the device writes into; a send cell gives the source back at its
landing, a receive cell gives the slot holding what was sent. `owing c l` is what device `c` still owes when
the dues in the list `l` remain; every signal and transfer pops the head of the list, and a wait is allowed
when the dues left are all of a higher level than the cell waited on.
-/
module

public import proofs.«01_k».proof.Proof.Proto

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (I : Ins F)

/-! ## Shares of the reduced chunk

Chunk `p` is lent to six transfers at once, a chunk received from the column to three. -/

/-- What is left of the full share after `n` loans, -/
def rest : ℕ → PosShare TreeShare | 0 => fullShare | n + 1 => (rest n).right
/-- and loan `n`. -/
def loan (n : ℕ) : PosShare TreeShare := (rest n).left

/-! ## Payloads -/

/-- What a transfer carries into its slot on the device `c` it goes to. -/
def landPay (c : Dev nD) : SIx → sProp 𝕄
  | .prs k => own c (prQ k) fullShare (PB I (pp k c) (lc c))
  | .zrs i => own c (zrQ (ri i)) fullShare (CSc I (cp (ri i) c) (pc c))
  | .zag i => own c (zaQ (ri i)) fullShare (REDB I (cp (ri i) c))
  | .pago k => own c (pgQ k (pc c)) fullShare (REDB I (pp k c))
  | .pag k i => own c (pgQ k (px i (pc c))) fullShare (REDB I (dv (px i (pc c)) (lx k (lc c))))

/-- What comes back to the sender `c`. -/
def sendPay (c : Dev nD) : SIx → sProp 𝕄
  | .prs k => own c (parB (lx k (lc c))) fullShare (PB I c (lx k (lc c)))
  | .zrs i => own c (csP (px i (pc c))) fullShare (CSc I c (px i (pc c)))
  | .zag i => own c (crP (pc c)) (loan i.val) (REDB I c)
  | .pago k => own c (crP (pc c)) (loan (3 + k.val)) (REDB I c)
  | .pag k i => own c (crP (px i (pc c))) (loan k.val) (REDB I (dv (px i (pc c)) (lc c)))

/-- The slots of device `c` its partner writes into. -/
def slots (c : Dev nD) : PIx → sProp 𝕄
  | .pl k => iprop(some' c (prQ k) ∗ some' c (pgQ k (pc c)) ∗ some' c (pgQ k (px 0 (pc c))) ∗ some' c (pgQ k (px 1 (pc c))) ∗ some' c (pgQ k (px 2 (pc c))))
  | .co i => iprop(some' c (zrQ i) ∗ some' c (zaQ i))

/-- What the duty `d` of device `c`'s barrier cell hands it. -/
def barPay (c : Dev nD) (d : PIx) : sProp 𝕄 := slots (pr d c) (inv d)

instance own_storable (c : Dev nD) {sp : Space} {s : Shape} {e : EltTy} (M : Memref sig .tc sp s e) (q : PosShare TreeShare) (v : s.Idx → Elt F e) :
    BI.Storable (upEmb : UEmb _ 𝕄) (own c M q v) := by unfold own; infer_instance
instance some_storable (c : Dev nD) {sp : Space} {s : Shape} {e : EltTy} (M : Memref sig .tc sp s e) :
    BI.Storable (upEmb : UEmb _ 𝕄) (some' (F := F) c M) := by unfold some'; infer_instance
instance landPay_storable (c : Dev nD) (j : SIx) : BI.Storable (upEmb : UEmb _ 𝕄) (landPay I c j) := by
  cases j <;> unfold landPay <;> infer_instance
instance sendPay_storable (c : Dev nD) (j : SIx) : BI.Storable (upEmb : UEmb _ 𝕄) (sendPay I c j) := by
  cases j <;> unfold sendPay <;> infer_instance
instance slots_storable (c : Dev nD) (d : PIx) : BI.Storable (upEmb : UEmb _ 𝕄) (slots (F := F) c d) := by
  cases d <;> unfold slots <;> infer_instance

/-- A transfer's credit. -/
def amt : SIx → ℕ
  | .prs k => (prQ k).view.dmaCredit
  | .zrs i => (zrQ (ri i)).view.dmaCredit
  | .zag i => (zaQ (ri i)).view.dmaCredit
  | .pago k => (pgQ k 0).view.dmaCredit
  | .pag k _ => (pgQ k 0).view.dmaCredit

theorem amt_pos (j : SIx) : 0 < amt j := by
  cases j <;> exact View.dmaCredit_pos _ (by decide)

/-! ## The schedule -/

/-- The cell a semaphore is. -/
def dec (s : SemLoc sig) : Option CIx := open Classical in if h : ∃ k, csem k = s then some h.choose else none

theorem dec_csem (k : CIx) : dec (csem k) = some k := by
  unfold dec
  have h : ∃ k', csem k' = csem k := ⟨k, rfl⟩
  rw [dif_pos h]
  exact congrArg some (csem_inj h.choose_spec)

def dutiesOf : CIx → Finset PIx | .bar => Finset.univ | .snd _ => {.pl 0} | .rcv _ => {.pl 0}
def amountOf : CIx → ℕ | .bar => 1 | .snd j => amt j | .rcv j => amt j
def payOf (c : Dev nD) (d : PIx) : CIx → sProp 𝕄 | .bar => barPay c d | .snd j => sendPay I c j | .rcv j => landPay I c j

instance payOf_storable (c : Dev nD) (d : PIx) (k : CIx) : BI.Storable (upEmb : UEmb _ 𝕄) (payOf I c d k) := by
  cases k <;> unfold payOf <;> (try unfold barPay) <;> infer_instance

def Rd : Rounds.Schedule (GSem nD τ sig) PIx 𝕄 where
  duties g r := if r = 0 ∧ g.1.2 = .tc then (match dec g.2 with | some k => dutiesOf k | none => ∅) else ∅
  unitless _ := False
  amount g _ _ := match dec g.2 with | some k => amountOf k | none => 1
  payload g _ d := match dec g.2 with | some k => payOf I g.1.1 d k | none => iprop(emp)
  amount_pos g _ _ _ := by
    rcases dec g.2 with _ | (_ | j | j)
    · exact Nat.one_pos
    · exact Nat.one_pos
    · exact amt_pos j
    · exact amt_pos j

instance Rd_payload_storable (g : GSem nD τ sig) (r : ℕ) (d : PIx) : BI.Storable (upEmb : UEmb _ 𝕄) ((Rd I).payload g r d) := by
  show BI.Storable upEmb (match dec g.2 with | some k => payOf I g.1.1 d k | none => iprop(emp))
  rcases dec g.2 with _ | k <;> infer_instance

section Tables
variable (c : Dev nD) (k : CIx) (d : PIx)

theorem duties_cell : (Rd I).duties (cell c k) 0 = dutiesOf k := by
  dsimp only [Rd, cell]; rw [if_pos ⟨rfl, rfl⟩, dec_csem]
theorem duties_later (g : GSem nD τ sig) : ∀ r, 1 ≤ r → (Rd I).duties g r = ∅ :=
  fun r hr => by dsimp only [Rd]; rw [if_neg fun h => by omega]
theorem amount_cell : (Rd I).amount (cell c k) 0 d = amountOf k := by dsimp only [Rd, cell]; rw [dec_csem]
theorem payload_cell : (Rd I).payload (cell c k) 0 d = payOf I c d k := by dsimp only [Rd, cell]; rw [dec_csem]

def expOf : CIx → ℕ | .bar => 6 | .snd j => amt j | .rcv j => amt j

theorem expect_cell : (Rd I).expect (cell c k) 0 = expOf k := by
  unfold Schedule.expect Schedule.amountOf
  rw [duties_cell, Finset.sum_congr rfl fun d _ => amount_cell I c k d]
  rcases k with _ | j | j
  · show ∑ _ ∈ (Finset.univ : Finset PIx), 1 = 6
    decide
  · exact Finset.sum_singleton _ _
  · exact Finset.sum_singleton _ _

theorem rest_snd (j : SIx) : bigSep ((Rd I).duties (cell c (.snd j)) 0 \ ∅) (fun d => (Rd I).payload (cell c (.snd j)) 0 d) = sendPay I c j := by
  rw [Finset.sdiff_empty, duties_cell, dutiesOf, bigSep_singleton, payload_cell]; rfl
theorem rest_rcv (j : SIx) : bigSep ((Rd I).duties (cell c (.rcv j)) 0 \ ∅) (fun d => (Rd I).payload (cell c (.rcv j)) 0 d) = landPay I c j := by
  rw [Finset.sdiff_empty, duties_cell, dutiesOf, bigSep_singleton, payload_cell]; rfl
theorem rest_bar : bigSep ((Rd I).duties (cell c .bar) 0 \ ∅) (fun d => (Rd I).payload (cell c .bar) 0 d)
    = iprop(barPay c (.pl 0) ∗ barPay c (.pl 1) ∗ barPay c (.pl 2) ∗ barPay c (.co 0) ∗ barPay c (.co 1) ∗ barPay c (.co 2)) := by
  rw [Finset.sdiff_empty, duties_cell, dutiesOf, bigSep_congr (fun d _ => payload_cell I c .bar d),
    bigSep_univ_eq_bigSepL [.pl 0, .pl 1, .pl 2, .co 0, .co 1, .co 2] (by decide) (by decide)]
  rfl

end Tables

/-! ## Dues and levels -/

/-- A signal to a partner's barrier, or a transfer. -/
inductive Due | bar (d : PIx) | xf (j : SIx)
  deriving DecidableEq

/-- The cell a due of device `c` pays, -/
def dueAt (c : Dev nD) : Due → Dev nD × CIx | .bar d => (pr d c, .bar) | .xf j => (tgt j c, .rcv j)
abbrev dueCell (c : Dev nD) (x : Due) : GSem nD τ sig := cell (dueAt c x).1 (dueAt c x).2
/-- by how much, -/
def dueAmt : Due → ℕ | .bar _ => 1 | .xf j => amt j
/-- what the dues of a list come to. -/
def owedL (c : Dev nD) : List Due → CellTallies nD τ sig Unit
  | [] => 0
  | x :: l => owedL c l + tallyAt (dueCell c x) () (dueAmt x)

/-- A cell's level. -/
def lvOf : CIx → ℕ
  | .bar => 1
  | .snd _ => 0
  | .rcv (.prs _) => 2 | .rcv (.zrs _) => 3 | .rcv (.zag _) => 4 | .rcv (.pago _) => 5 | .rcv (.pag _ _) => 5
def dueLv : Due → ℕ | .bar _ => 1 | .xf j => lvOf (.rcv j)

def L (g : GSem nD τ sig) : Finset Unit := if g.1.2 = .tc then {()} else ∅
def lv (g : GSem nD τ sig) (_ : Unit) : ℕ := match dec g.2 with | some k => lvOf k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CIx) : lv (cell c k) () = lvOf k := by dsimp only [lv, cell]; rw [dec_csem]

theorem owedL_pos {c : Dev nD} {l : List Due} {g : GSem nD τ sig} {u : Unit} (h : 0 < owedL c l g u) : ∃ x ∈ l, g = dueCell c x := by
  induction l with
  | nil => exact absurd h (Nat.lt_irrefl 0)
  | cons x l ih =>
    unfold owedL at h
    rw [Pi.add_apply, Finsupp.add_apply, tallyAt_apply] at h
    by_cases hx : g = dueCell c x ∧ u = ()
    · exact ⟨x, List.mem_cons_self, hx.1⟩
    · rw [if_neg hx, Nat.add_zero] at h
      obtain ⟨y, hy, hg⟩ := ih h
      exact ⟨y, List.mem_cons_of_mem _ hy, hg⟩

theorem dueLv_eq (c : Dev nD) (x : Due) : lv (dueCell c x) () = dueLv x := by
  rw [lv_cell]; cases x <;> rfl

/-- A wait on a cell of level `n` is allowed while every due left is of a higher level. -/
theorem mayWait (c : Dev nD) (sm : SemLoc sig) (n : ℕ) (hn : lv ((c : Thread nD τ), sm) () = n) (l : List Due) (hl : ∀ x ∈ l, n < dueLv x) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by
      obtain ⟨x, hx, rfl⟩ := owedL_pos hg
      rw [L_tc]; exact Finset.mem_singleton_self _)
    (fun p hp => by rw [Finset.mem_singleton.mp hp]; exact hn.le)
    (fun g u hg => by
      obtain ⟨x, hx, rfl⟩ := owedL_pos hg
      exact (hl x hx).trans_eq (dueLv_eq c x).symm)

/-- What device `c` owes with the dues of `l` left. -/
def owing (c : Dev nD) (l : List Due) : sProp 𝕄 := iprop(∃ W, owes (c : Thread nD τ) (owedL c l) W)

end Cert.KernelIdeal.Exch

end
-- ==== Proof.Steps.lean ====
/-
# Signals, transfers and waits

One rule for each kind of effect between devices, every one in terms of what the device still owes.
-/
module

public import proofs.«01_k».proof.Proof.Sched

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ)

/-- The cells in the order bar, send bank, receive bank. -/
def CIx.all : List CIx := .bar :: (SIx.all.map .snd ++ SIx.all.map .rcv)

theorem CIx.mem_all (k : CIx) : k ∈ CIx.all := by
  rcases k with _ | j | j
  · exact List.mem_cons_self
  · exact List.mem_cons_of_mem _ (List.mem_append_left _ (List.mem_map_of_mem (SIx.mem_all j)))
  · exact List.mem_cons_of_mem _ (List.mem_append_right _ (List.mem_map_of_mem (SIx.mem_all j)))

instance : Fintype CIx := ⟨⟨CIx.all, by decide⟩, CIx.mem_all⟩

/-- The cells' levels. -/
def levs : sProp 𝕄 := levAts L lv

instance levs_persistent : BI.Persistent (levs (F := F)) := by unfold levs; infer_instance

theorem mayWait_of_levs (c : Dev nD) (k : CIx) (l : List Due) (hl : ∀ x ∈ l, lvOf k < dueLv x) :
    (levs : sProp 𝕄) ⊢ MayWait (c : Thread nD τ) (csem k) () (owedL c l) :=
  mayWait c (csem k) (lvOf k) (lv_cell c k) l hl

/-- All that every device knows of every cell: its invariant, that its round is open, and its level. -/
def env : sProp 𝕄 :=
  iprop((bigSep Finset.univ fun ck : Dev nD × CIx => iprop(cellInv ER (Rd I) (K ck) (cell ck.1 ck.2) ∗ reached ER (cell ck.1 ck.2) 0))
    ∗ levs)

instance env_persistent : BI.Persistent (env I K) := by unfold env; infer_instance

theorem all_at (ck : Dev nD × CIx) :
    (bigSep Finset.univ fun ck : Dev nD × CIx => (iprop(cellInv ER (Rd I) (K ck) (cell ck.1 ck.2) ∗ reached ER (cell ck.1 ck.2) 0) : sProp 𝕄))
      ⊢ iprop(cellInv ER (Rd I) (K ck) (cell ck.1 ck.2) ∗ reached ER (cell ck.1 ck.2) 0) :=
  bigSep_elim (Finset.mem_univ ck)

theorem env_cell (c : Dev nD) (k : CIx) : env I K ⊢ iprop(cellInv ER (Rd I) (K (c, k)) (cell c k) ∗ reached ER (cell c k) 0) := by
  unfold env
  iintro ⟨H, -⟩
  iapply (all_at I K (c, k))
  iexact H

theorem env_mayWait (c : Dev nD) (k : CIx) (l : List Due) (hl : ∀ x ∈ l, lvOf k < dueLv x) :
    env I K ⊢ (MayWait (c : Thread nD τ) (csem k) () (owedL c l) : sProp 𝕄) := by
  unfold env
  iintro ⟨-, H⟩
  iapply (mayWait_of_levs c k l hl)
  iexact H

/-- What device `c` keeps for transfer `j` before it is issued, -/
def tx (j : SIx) (c : Dev nD) : sProp 𝕄 :=
  iprop(dutyTok ER (cell c (.snd j)) 0 (.pl 0) ∗ dutyTok ER (cell (tgt j c) (.rcv j)) 0 (.pl 0) ∗ atPos ER (cell c (.snd j)) 0 ∅ 0)
/-- once it is, -/
def sent (j : SIx) (c : Dev nD) : sProp 𝕄 := iprop(cred (tallyAt (cell c (.snd j)) () (amt j)) ∗ atPos ER (cell c (.snd j)) 0 ∅ 0)
/-- and to receive the transfer `j` sent to it. -/
def rx (j : SIx) (c : Dev nD) : sProp 𝕄 := iprop(cred (tallyAt (cell c (.rcv j)) () (amt j)) ∗ atPos ER (cell c (.rcv j)) 0 ∅ 0)
/-- A cell closed at zero. -/
def zero (c : Dev nD) (k : CIx) : sProp 𝕄 := semVal (cell c k) 0

section Steps
variable (c : Dev nD) {α : Type}

/-- Signalling partner `d`: the slots it writes into go with the signal. -/
theorem signal_step (d : PIx) (l : List Due) {n : Dev nD} (hn : n = pr d c) {sm : Sem sig} (hs : sm = barS) {a : ℕ} (ha : a = 1)
    {k : PUnit → Prog (TpuEff nD τ sig (Elt F) Λ₀ .tc) α} {Q : α → sProp 𝕄} :
    iprop(env I K ∗ owing c (.bar d :: l) ∗ dutyTok ER (cell (pr d c) .bar) 0 (inv d) ∗ slots c d)
      ⊢ iprop((owing c l -∗ wpB c (k ⟨⟩) Q) -∗ wpB c (.op (.semSignal (Dev.tc n : Thread nD τ) sm a) k) Q) := by
  subst hn hs ha
  unfold owing
  iintro ⟨#HE, ⟨%W, HO⟩, Ht, Hs⟩ Hk
  ihave HC := (env_cell I K (pr d c) .bar) $$ HE
  icases HC with ⟨#HI, #HR⟩
  iapply (Rounds.wp_signal 𝒱₀ ER (Rd I) (c : Thread nD τ) none (dst := (pr d c : Thread nD τ)) (κ := K (pr d c, .bar))
      (d := inv d) (by have := duties_cell I (pr d c) .bar; rw [show ((pr d c : Thread nD τ), SemLoc.reg barS) = cell (pr d c) .bar from rfl, this]; exact Finset.mem_univ _)
      (amount_cell I (pr d c) .bar (inv d)) () (owedL c l) rfl)
    $$ [HO Ht Hs]
  · isplitr; · iexact HI
    isplitl [HO]; · iexact HO
    isplitl [Ht]; · iexact Ht
    isplitl [Hs]
    · rw [show (Rd I).payload ((pr d c : Thread nD τ), SemLoc.reg barS) 0 (inv d) = slots c d by
        refine (payload_cell I (pr d c) .bar (inv d)).trans ?_
        unfold payOf barPay; rw [pr_inv, inv_inv]]
      iexact Hs
    iexact HR
  iintro HO
  iapply Hk
  iexists W; iexact HO

/-- Transfer `j`. -/
theorem send_step (j : SIx) (l : List Due) {n : Dev nD} (hn : n = tgt j c) {s : Shape} {e : EltTy} (src0 dst0 : Memref sig .tc .vmem s e)
    (hN : dst0.view.dmaCredit = amt j) {q : PosShare TreeShare} {v : s.Idx → Elt F e}
    (hp₁ : own c src0 q v ⊢ sendPay I c j) (hp₂ : own (tgt j c) dst0 fullShare v ⊢ landPay I (tgt j c) j)
    {src : Memref sig .tc .vmem s e} (hs : src = src0)
    {dst : Memref sig (Dev.tc n : Thread nD τ).2.kind .vmem s e} (hd : dst = dst0) {sS sR : DmaSem sig} (hS : sS = sndS j) (hR : sR = rcvS j)
    {hsc : dst.view.ref.isScScratch = false} {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} {Q : α → sProp 𝕄} :
    iprop(env I K ∗ own c src0 q v ∗ some' (tgt j c) dst0 ∗ owing c (.xf j :: l) ∗ tx j c)
      ⊢ iprop((sent j c ∗ owing c l -∗ wpB c (k ⟨⟩) Q)
          -∗ wpB c (.op (.enqueueDma src (.remote (Dev.tc n : Thread nD τ) dst (.dma sS) hsc) (.dma sR) hsrc hdst hsem) k) Q) := by
  subst hn hs hd hS hR
  unfold owing some' own owns tx sent
  iintro ⟨#HE, ⟨%fs, %hfs, Hs⟩, ⟨%vd, %fd, %hfd, Hd⟩, ⟨%W, HO⟩, Ht₁, Ht₂, Hat⟩ Hk
  ihave HC := (env_cell I K c (.snd j)) $$ HE
  icases HC with ⟨#HI₁, #HR₁⟩
  ihave HC := (env_cell I K (tgt j c) (.rcv j)) $$ HE
  icases HC with ⟨#HI₂, #HR₂⟩
  iapply (Rounds.wp_send_pointsTo 𝒱₀ ER (Rd I) (c : Thread nD τ) none (κ₁ := K (c, .snd j)) (κ₂ := K (tgt j c, .rcv j))
    (r₁ := 0) (r₂ := 0) (d₁ := .pl 0) (d₂ := .pl 0) (fd := fd) (q := q) (fs := fs) (src := src) (dst := dst) (sS := csem (.snd j)) (sem := csem (.rcv j))
    (by rw [duties_cell]; exact Finset.mem_singleton_self _) (by rw [duties_cell I (tgt j c)]; exact Finset.mem_singleton_self _)
    () () (amt j) hN (amount_cell I c (.snd j) _) (amount_cell I (tgt j c) (.rcv j) _) (owedL c l) rfl (W := W)
    (by
      rw [payload_cell]; refine BIBase.Entails.trans ?_ hp₁
      unfold own owns
      iintro H; iexists fs; isplitr; · ipureintro; exact hfs
      iexact H)
    (by
      rw [payload_cell I (tgt j c)]; refine BIBase.Entails.trans ?_ hp₂
      unfold own owns
      iintro H; iexists _; isplitr; swap; · iexact H
      ipureintro; rw [View.read_write_univ]; exact hfs)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  iapply Hk
  isplitl [Hc Hat]
  · isplitl [Hc] <;> iassumption
  iexists W; iexact HO

/-- A wait for the whole of a cell's round: its payload, and the cell closed at zero. -/
theorem wait_cell (k : CIx) (l : List Due) (hl : ∀ x ∈ l, lvOf k < dueLv x)
    (w : TpuEff nD τ sig (Elt F) Λ₀ .tc PUnit)
    (hw : ∀ K' : PUnit → sProp 𝕄, wpE (defs₀ (F := F)) 𝒱₀ (c : Thread nD τ) none Set.univ w K' = waitSpec (c : Thread nD τ) Set.univ (csem k) (expOf k) K')
    {kk : PUnit → Prog (TpuEff nD τ sig (Elt F) Λ₀ .tc) α} {Q : α → sProp 𝕄} :
    iprop(env I K ∗ (cred (tallyAt (cell c k) () (expOf k)) ∗ atPos ER (cell c k) 0 ∅ 0) ∗ owing c l)
      ⊢ iprop((bigSep ((Rd I).duties (cell c k) 0 \ ∅) (fun d => (Rd I).payload (cell c k) 0 d) ∗ zero c k ∗ owing c l -∗ wpB c (kk ⟨⟩) Q)
          -∗ wpB c (.op w kk) Q) := by
  unfold owing zero
  iintro ⟨#HE, ⟨Hc, Hat⟩, ⟨%W, HO⟩⟩ Hk
  ihave HC := (env_cell I K c k) $$ HE
  icases HC with ⟨#HI, #HR⟩
  iapply (Rounds.wp_wait_rest_token 𝒱₀ ER (Rd I) (c : Thread nD τ) none (κ := K (c, k)) (sm := csem k) (k' := expOf k)
      hw (Set.mem_univ _) () (O := owedL c l) (W := W) (R := 0) (m := 0) (T := ∅)
      (by rw [Nat.zero_add, expect_cell])) $$ [Hc HO Hat]
  · isplitr; · iexact HI
    isplitl [Hc]; · iexact Hc
    isplitl [HO]; · iexact HO
    isplitr
    · iapply (env_mayWait I K c k l hl)
      iexact HE
    iexact Hat
  iintro ⟨HO, Hat, -, Hpay⟩
  imod (Rounds.cell_close ER (Rd I) (Set.mem_univ (K (c, k))) (fun h => h) (R := 0 + 1) (duties_later I (cell c k))) $$ [Hat] with Hz
  · isplitr; · iexact HI
    iexact Hat
  iapply Hk
  isplitl [Hpay]; · iexact Hpay
  isplitl [Hz]; · iexact Hz
  iexists _; iexact HO

theorem dueLv_pos (x : Due) : 0 < dueLv x := by rcases x with d | (k | k | k | k | ⟨k, i⟩) <;> exact Nat.succ_pos _

/-- The wait on a send cell gives the source back, -/
theorem wait_snd (j : SIx) (l : List Due) {sem : DmaSem sig} (hS : sem = sndS j) {sp sp' : Space} {s s' : Shape} {e e' : EltTy}
    {src : Memref sig .tc sp' s' e'} {dst : Memref sig .tc sp s e} (hN : dst.view.dmaCredit = amt j)
    {hsrc : src.view.WordExact} {hdst : dst.view.WordExact}
    {k : PUnit → Prog (TpuEff nD τ sig (Elt F) Λ₀ .tc) α} {Q : α → sProp 𝕄} :
    iprop(env I K ∗ sent j c ∗ owing c l)
      ⊢ iprop((sendPay I c j ∗ zero c (.snd j) ∗ owing c l -∗ wpB c (k ⟨⟩) Q)
          -∗ wpB c (.op (.waitDma2 sem src dst hsrc hdst) k) Q) := by
  subst hS
  have h := wait_cell (F := F) I K c (.snd j) l (fun x _ => dueLv_pos x) (.waitDma2 (sndS j) src dst hsrc hdst)
    (fun K' => (wpE_waitDma2_eq 𝒱₀ (c : Thread nD τ) none Set.univ K').trans (by rw [hN]; rfl)) (kk := k) (Q := Q)
  rw [rest_snd] at h
  exact h

/-- and on a receive cell the slot, holding what was sent. -/
theorem wait_rcv (j : SIx) (l : List Due) (hl : ∀ x ∈ l, lvOf (.rcv j) < dueLv x) {sem : DmaSem sig} (hS : sem = rcvS j) {sp sp' : Space} {s s' : Shape} {e e' : EltTy}
    {src : Memref sig .tc sp' s' e'} {dst : Memref sig .tc sp s e} (hN : dst.view.dmaCredit = amt j)
    {hsrc : src.view.WordExact} {hdst : dst.view.WordExact}
    {k : PUnit → Prog (TpuEff nD τ sig (Elt F) Λ₀ .tc) α} {Q : α → sProp 𝕄} :
    iprop(env I K ∗ rx j c ∗ owing c l)
      ⊢ iprop((landPay I c j ∗ zero c (.rcv j) ∗ owing c l -∗ wpB c (k ⟨⟩) Q)
          -∗ wpB c (.op (.waitDma2 sem src dst hsrc hdst) k) Q) := by
  subst hS
  have h := wait_cell (F := F) I K c (.rcv j) l hl (.waitDma2 (rcvS j) src dst hsrc hdst)
    (fun K' => (wpE_waitDma2_eq 𝒱₀ (c : Thread nD τ) none Set.univ K').trans (by rw [hN]; rfl)) (kk := k) (Q := Q)
  rw [rest_rcv] at h
  exact h

/-- The wait for the six partners: each hands over the slots the device writes into. -/
theorem wait_bar (l : List Due) (hl : ∀ x ∈ l, 1 < dueLv x) {sm : Sem sig} (hs : sm = barS) {a : ℕ} (ha : a = 6)
    {k : PUnit → Prog (TpuEff nD τ sig (Elt F) Λ₀ .tc) α} {Q : α → sProp 𝕄} :
    iprop(env I K ∗ (cred (tallyAt (cell c .bar) () 6) ∗ atPos ER (cell c .bar) 0 ∅ 0) ∗ owing c l)
      ⊢ iprop(((barPay c (.pl 0) ∗ barPay c (.pl 1) ∗ barPay c (.pl 2) ∗ barPay c (.co 0) ∗ barPay c (.co 1) ∗ barPay c (.co 2))
            ∗ zero c .bar ∗ owing c l -∗ wpB c (k ⟨⟩) Q)
          -∗ wpB c (.op (.semWait sm a) k) Q) := by
  subst hs ha
  have h := wait_cell (F := F) I K c .bar l hl (.semWait barS 6)
    (fun K' => wpE_semWait_eq 𝒱₀ (c : Thread nD τ) none Set.univ K') (kk := k) (Q := Q)
  rw [rest_bar] at h
  exact h

end Steps

end Cert.KernelIdeal.Exch

end
-- ==== Proof.Buffers.lean ====
/-
# Buffers in pieces

Every buffer a transfer touches a part of is held in pieces that tile it. This module shows the tilings and
splits a buffer into its pieces or puts the pieces back together.
-/
module

public import proofs.«01_k».proof.Proof.Steps

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance elt_nonempty (e : EltTy) : Nonempty (Elt F e) := by
  cases e <;> first | exact ⟨(0 : BitVec _)⟩ | exact ⟨Scalar.ofBits _ 0⟩

section Tiling

variable (c : Dev nD) {sp : Space} {s : Shape} {e : EltTy} (M : Memref sig .tc sp s e)
  {T : Type} [Fintype T] [DecidableEq T] {off : T → Fin s.rank → ℕ} {sz : Fin s.rank → ℕ} {inb : ∀ t a, off t a + sz a ≤ s.size a}

/-- The rectangles tile the shape: every index lies in exactly one, that of `at'`. -/
def Tile (off : T → Fin s.rank → ℕ) (sz : Fin s.rank → ℕ) (at' : s.Idx → T) : Prop :=
  ∀ i t, (∀ a, off t a ≤ (i a).val ∧ (i a).val < off t a + sz a) ↔ at' i = t

variable {at' : s.Idx → T} (h : Tile off sz at')
include h

theorem tile_disjoint (t t' : T) (ht : t ≠ t') :
    Disjoint (Rect.unit (s := s) (off t) sz (inb t)).set (Rect.unit (s := s) (off t') sz (inb t')).set := by
  rw [Finset.disjoint_left]
  intro i hi hi'
  exact ht (((h i t).mp (Rect.mem_set_unit.mp hi)).symm.trans ((h i t').mp (Rect.mem_set_unit.mp hi')))

theorem tile_cover : (Finset.univ : Finset T).biUnion (fun t => (Rect.unit (s := s) (off t) sz (inb t)).set) = Finset.univ := by
  ext i
  simp only [Finset.mem_biUnion, Finset.mem_univ, true_and, iff_true]
  exact ⟨at' i, Rect.mem_set_unit.mpr ((h i _).mpr rfl)⟩

theorem tile_split (q : PosShare TreeShare) (X : s.Idx → Elt F e) :
    own c M q X ⊢ bigSep Finset.univ fun t => own c (piece M (off t) sz (inb t)) q (fun j => X ((Rect.unit (s := s) (off t) sz (inb t)).emb j)) :=
  owns_rects (c : Thread nD τ) M q (fun t => Rect.unit (s := s) (off t) sz (inb t)) (fun _ _ => rfl) (tile_disjoint h) (tile_cover h) X

theorem tile_join (q : PosShare TreeShare) (X : s.Idx → Elt F e) (Y : T → Shape.Idx ⟨s.rank, sz⟩ → Elt F e)
    (hY : ∀ t j, X ((Rect.unit (s := s) (off t) sz (inb t)).emb j) = Y t j) :
    (bigSep Finset.univ fun t => own c (piece M (off t) sz (inb t)) q (Y t)) ⊢ own c M q X := by
  have hY' : Y = fun t j => X ((Rect.unit (s := s) (off t) sz (inb t)).emb j) := funext fun t => funext fun j => (hY t j).symm
  subst hY'
  exact owns_of_rects (c : Thread nD τ) M q (fun t => Rect.unit (s := s) (off t) sz (inb t)) (fun _ _ => rfl) (tile_disjoint h) (tile_cover h) X

/-- Any contents of the pieces are the parts of some contents of the whole. -/
theorem tile_glue (Y : T → Shape.Idx ⟨s.rank, sz⟩ → Elt F e) :
    ∃ X : s.Idx → Elt F e, ∀ t j, X ((Rect.unit (s := s) (off t) sz (inb t)).emb j) = Y t j := by
  classical
  refine ⟨fun i => if hj : ∃ j, (Rect.unit (s := s) (off (at' i)) sz (inb (at' i))).emb j = i then Y (at' i) hj.choose else Classical.arbitrary _, fun t j => ?_⟩
  have hat : at' ((Rect.unit (s := s) (off t) sz (inb t)).emb j) = t :=
    (h _ t).mp (Rect.mem_set_unit.mp (by rw [← Rect.map_emb_univ]; exact Finset.mem_map_of_mem _ (Finset.mem_univ j)))
  generalize hi : (Rect.unit (s := s) (off t) sz (inb t)).emb j = i at hat
  subst hat
  have hj : ∃ j, (Rect.unit (s := s) (off (at' i)) sz (inb (at' i))).emb j = i := ⟨j, hi⟩
  show (if hj : ∃ j, (Rect.unit (s := s) (off (at' i)) sz (inb (at' i))).emb j = i then Y (at' i) hj.choose else Classical.arbitrary _) = _
  rw [dif_pos hj]
  exact congrArg _ ((Rect.unit (s := s) (off (at' i)) sz (inb (at' i))).emb.injective (hj.choose_spec.trans hi.symm))

theorem some_split : some' c M ⊢ (bigSep Finset.univ fun t => some' (F := F) c (piece M (off t) sz (inb t)) : sProp 𝕄) := by
  refine Laws.exists_elim fun X => (tile_split (inb := inb) c M h fullShare X).trans (bigSep_mono fun t _ => ?_)
  unfold some'
  exact Laws.exists_intro (Φ := fun v => own c (piece M (off t) sz (inb t)) fullShare v) _

theorem some_join : (bigSep Finset.univ fun t => some' (F := F) c (piece M (off t) sz (inb t)) : sProp 𝕄) ⊢ some' c M := by
  unfold some'
  refine (bigSep_exists_pi Finset.univ fun t (Y : Shape.Idx ⟨s.rank, sz⟩ → Elt F e) => own c (piece M (off t) sz (inb t)) fullShare Y).trans ?_
  iintro ⟨%Y, H⟩
  obtain ⟨X, hX⟩ := tile_glue (F := F) (e := e) (inb := inb) h Y
  iexists X
  iapply (tile_join c M h fullShare X Y hX)
  iexact H

end Tiling

/-! ## The tilings -/

set_option backward.proofsInPublic true in
def atBlk (i : S2048x1024.Idx) : Fin 4 := ⟨(i 0).val / 512, by have h := (i 0).isLt; change (i 0).val < 2048 at h; omega⟩
set_option backward.proofsInPublic true in
def atChk (i : S512x1024.Idx) : Fin 4 := ⟨(i 0).val / 128, by have h := (i 0).isLt; change (i 0).val < 512 at h; omega⟩
set_option backward.proofsInPublic true in
def atOut (i : S2048x1024.Idx) : Dev nD := ⟨(i 0).val / 128, by have h := (i 0).isLt; change (i 0).val < 2048 at h; simp only [nD]; omega⟩
set_option backward.proofsInPublic true in
def atXc (i : S512x512.Idx) : Fin 4 := ⟨(i 0).val / 128, by have h := (i 0).isLt; change (i 0).val < 512 at h; omega⟩
set_option backward.proofsInPublic true in
def atWc (i : S512x4.Idx) : Fin 4 := ⟨(i 0).val / 128, by have h := (i 0).isLt; change (i 0).val < 512 at h; omega⟩
def atWt (i : S2048x4.Idx) : Fin 4 := i 1
def atWb (i : S4x512x1024.Idx) : Fin 4 := i 0
def atSlot (i : S3x512x1024.Idx) : Fin 3 := i 0
def atZslot (i : S3x128x1024.Idx) : Fin 3 := i 0
set_option backward.proofsInPublic true in
def atPslot (i : S3x512x1024.Idx) : Fin 3 × Fin 4 := (i 0, ⟨(i 1).val / 128, by have h := (i 1).isLt; change (i 1).val < 512 at h; omega⟩)

theorem tile_blk : Tile (s := S2048x1024) (fun b : Fin 4 => ![512 * b.val, 0]) S512x1024.size atBlk := fun i t => by
  have h₁ := (i 1).isLt
  change (i 1).val < 1024 at h₁
  rw [Fin.forall_fin_two, Fin.ext_iff]
  show (512 * t.val ≤ (i 0).val ∧ (i 0).val < 512 * t.val + 512) ∧ (0 ≤ (i 1).val ∧ (i 1).val < 0 + 1024) ↔ (i 0).val / 512 = t.val
  omega
theorem tile_chk : Tile (s := S512x1024) (fun b : Fin 4 => ![128 * b.val, 0]) S128x1024.size atChk := fun i t => by
  have h₁ := (i 1).isLt
  change (i 1).val < 1024 at h₁
  rw [Fin.forall_fin_two, Fin.ext_iff]
  show (128 * t.val ≤ (i 0).val ∧ (i 0).val < 128 * t.val + 128) ∧ (0 ≤ (i 1).val ∧ (i 1).val < 0 + 1024) ↔ (i 0).val / 128 = t.val
  omega
theorem tile_out : Tile (s := S2048x1024) (fun d : Dev nD => ![128 * d.val, 0]) S128x1024.size atOut := fun i t => by
  have h₁ := (i 1).isLt
  change (i 1).val < 1024 at h₁
  rw [Fin.forall_fin_two, Fin.ext_iff]
  show (128 * t.val ≤ (i 0).val ∧ (i 0).val < 128 * t.val + 128) ∧ (0 ≤ (i 1).val ∧ (i 1).val < 0 + 1024) ↔ (i 0).val / 128 = t.val
  omega
theorem tile_xc : Tile (s := S512x512) (fun b : Fin 4 => ![128 * b.val, 0]) S128x512.size atXc := fun i t => by
  have h₁ := (i 1).isLt
  change (i 1).val < 512 at h₁
  rw [Fin.forall_fin_two, Fin.ext_iff]
  show (128 * t.val ≤ (i 0).val ∧ (i 0).val < 128 * t.val + 128) ∧ (0 ≤ (i 1).val ∧ (i 1).val < 0 + 512) ↔ (i 0).val / 128 = t.val
  omega
theorem tile_wc : Tile (s := S512x4) (fun b : Fin 4 => ![128 * b.val, 0]) S128x4.size atWc := fun i t => by
  have h₁ := (i 1).isLt
  change (i 1).val < 4 at h₁
  rw [Fin.forall_fin_two, Fin.ext_iff]
  show (128 * t.val ≤ (i 0).val ∧ (i 0).val < 128 * t.val + 128) ∧ (0 ≤ (i 1).val ∧ (i 1).val < 0 + 4) ↔ (i 0).val / 128 = t.val
  omega
theorem tile_wt : Tile (s := S2048x4) (fun e : Fin 4 => ![0, e.val]) S2048x1.size atWt := fun i t => by
  have h₀ := (i 0).isLt
  change (i 0).val < 2048 at h₀
  rw [Fin.forall_fin_two, Fin.ext_iff]
  show (0 ≤ (i 0).val ∧ (i 0).val < 0 + 2048) ∧ (t.val ≤ (i 1).val ∧ (i 1).val < t.val + 1) ↔ (i 1).val = t.val
  omega
theorem tile_wb : Tile (s := S4x512x1024) (fun e : Fin 4 => ![e.val, 0, 0]) S1x512x1024.size atWb := fun i t => by
  have h₁ := (i 1).isLt
  have h₂ := (i 2).isLt
  change (i 1).val < 512 at h₁
  change (i 2).val < 1024 at h₂
  rw [Fin.forall_fin_succ, Fin.forall_fin_two, Fin.ext_iff]
  show (t.val ≤ (i 0).val ∧ (i 0).val < t.val + 1) ∧ (0 ≤ (i 1).val ∧ (i 1).val < 0 + 512) ∧ (0 ≤ (i 2).val ∧ (i 2).val < 0 + 1024) ↔ (i 0).val = t.val
  omega
theorem tile_slot : Tile (s := S3x512x1024) (fun e : Fin 3 => ![e.val, 0, 0]) S1x512x1024.size atSlot := fun i t => by
  have h₁ := (i 1).isLt
  have h₂ := (i 2).isLt
  change (i 1).val < 512 at h₁
  change (i 2).val < 1024 at h₂
  rw [Fin.forall_fin_succ, Fin.forall_fin_two, Fin.ext_iff]
  show (t.val ≤ (i 0).val ∧ (i 0).val < t.val + 1) ∧ (0 ≤ (i 1).val ∧ (i 1).val < 0 + 512) ∧ (0 ≤ (i 2).val ∧ (i 2).val < 0 + 1024) ↔ (i 0).val = t.val
  omega
theorem tile_zslot : Tile (s := S3x128x1024) (fun e : Fin 3 => ![e.val, 0, 0]) S1x128x1024.size atZslot := fun i t => by
  have h₁ := (i 1).isLt
  have h₂ := (i 2).isLt
  change (i 1).val < 128 at h₁
  change (i 2).val < 1024 at h₂
  rw [Fin.forall_fin_succ, Fin.forall_fin_two, Fin.ext_iff]
  show (t.val ≤ (i 0).val ∧ (i 0).val < t.val + 1) ∧ (0 ≤ (i 1).val ∧ (i 1).val < 0 + 128) ∧ (0 ≤ (i 2).val ∧ (i 2).val < 0 + 1024) ↔ (i 0).val = t.val
  omega
theorem tile_pslot : Tile (s := S3x512x1024) (fun t : Fin 3 × Fin 4 => ![t.1.val, 128 * t.2.val, 0]) S1x128x1024.size atPslot := fun i t => by
  have h₂ := (i 2).isLt
  change (i 2).val < 1024 at h₂
  rw [Fin.forall_fin_succ, Fin.forall_fin_two, Prod.ext_iff, Fin.ext_iff, Fin.ext_iff]
  show (t.1.val ≤ (i 0).val ∧ (i 0).val < t.1.val + 1) ∧ (128 * t.2.val ≤ (i 1).val ∧ (i 1).val < 128 * t.2.val + 128) ∧ (0 ≤ (i 2).val ∧ (i 2).val < 0 + 1024)
    ↔ (i 0).val = t.1.val ∧ (i 1).val / 128 = t.2.val
  omega

end Cert.KernelIdeal.Exch

end
-- ==== Proof.Moves.lean ====
/-
# Moves within the device

Reading and rewriting pieces of buffers, and the copies that gather the rows of one block: each block's rows
lie in four groups of 128, copied one after another into a buffer of their own.
-/
module

public import proofs.«01_k».proof.Proof.Buffers
public import Idealize.ShloMosaic.Lib.Pipeline.Value

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps
variable (c : Dev nD) {s s' : Shape} {e : EltTy} {α : Type}

theorem some_intro {sp : Space} (M : Memref sig .tc sp s e) (v : s.Idx → Elt F e) : own c M fullShare v ⊢ (some' c M : sProp 𝕄) := by
  unfold some'
  exact Laws.exists_intro (Φ := fun v => own c M fullShare v) _

/-- Loading a rectangle, at an equal offset, of a memref held whole. -/
theorem ldR (M : Memref sig .tc .vmem s e) {off off' : Fin s.rank → ℕ} {sz : Fin s.rank → ℕ} (hoff : off = off')
    {inb : ∀ a, off a + sz a ≤ s.size a} {inb' : ∀ a, off' a + sz a ≤ s.size a} {q : PosShare TreeShare} {v : s.Idx → Elt F e}
    {hl : M.view.LoadsAt (Rect.unit (s := s) off sz inb).toLoadRect}
    {k : (Shape.Idx ⟨s.rank, sz⟩ → Elt F e) → Prog (TpuEff nD τ sig (Elt F) Λ₀ .tc) α} {Q : α → sProp 𝕄} :
    own c M q v
      ⊢ iprop((own c M q v -∗ wpB c (k (fun i => v ((Rect.unit (s := s) off' sz inb').emb i))) Q)
        -∗ wpB c (.op (.load (cs := .vmem) M (Rect.unit (s := s) off sz inb).toLoadRect hl) k) Q) := by
  subst hoff
  exact ldIn c (F := F) M (r := Rect.unit (s := s) off sz inb)

/-- Loading a piece whose contents do not matter. -/
theorem ldS (M : Memref sig .tc .vmem s e) {off off' : Fin s.rank → ℕ} {sz : Fin s.rank → ℕ} (hoff : off = off')
    {inb : ∀ a, off a + sz a ≤ s.size a} {inb' : ∀ a, off' a + sz a ≤ s.size a}
    {hl : M.view.LoadsAt (Rect.unit (s := s) off sz inb).toLoadRect}
    {k : (Shape.Idx ⟨s.rank, sz⟩ → Elt F e) → Prog (TpuEff nD τ sig (Elt F) Λ₀ .tc) α} {Q : α → sProp 𝕄} :
    (some' c (piece M off' sz inb') : sProp 𝕄)
      ⊢ iprop((∀ v, some' c (piece M off' sz inb') -∗ wpB c (k v) Q)
        -∗ wpB c (.op (.load (cs := .vmem) M (Rect.unit (s := s) off sz inb).toLoadRect hl) k) Q) := by
  unfold some'
  iintro ⟨%v, H⟩ Hk
  iapply (ld c M hoff) $$ H
  iintro H
  iapply Hk
  iexists v; iexact H

/-- Storing to a piece whose contents do not matter. -/
theorem stS (M : Memref sig .tc .vmem s e) {off off' : Fin s.rank → ℕ} {sz : Fin s.rank → ℕ} (hoff : off = off')
    {inb : ∀ a, off a + sz a ≤ s.size a} {inb' : ∀ a, off' a + sz a ≤ s.size a}
    {w w' : Shape.Idx ⟨s.rank, sz⟩ → Elt F e} (hw : w = w') {hx hm}
    {k : PUnit → Prog (TpuEff nD τ sig (Elt F) Λ₀ .tc) α} {Q : α → sProp 𝕄} :
    (some' c (piece M off' sz inb') : sProp 𝕄)
      ⊢ iprop((own c (piece M off' sz inb') fullShare w' -∗ wpB c (k ⟨⟩) Q)
        -∗ wpB c (.op (.store (cs := .vmem) M (Rect.unit (s := s) off sz inb) w Finset.univ hx hm) k) Q) := by
  subst hw
  unfold some'
  iintro ⟨%v, H⟩ Hk
  iapply (st c M hoff) $$ H
  iintro H
  iapply Hk
  iexact H

/-- A piece is read, the value unused, and stored to. -/
theorem put (M : Memref sig .tc .vmem s e) {off off' : Fin s.rank → ℕ} {sz : Fin s.rank → ℕ} (hoff : off = off')
    {inb inb₂ : ∀ a, off a + sz a ≤ s.size a} {inb' : ∀ a, off' a + sz a ≤ s.size a}
    {w w' : Shape.Idx ⟨s.rank, sz⟩ → Elt F e} (hw : w = w') {hl : M.view.LoadsAt (Rect.unit (s := s) off sz inb).toLoadRect} {hx hm}
    {k : PUnit → Prog (TpuEff nD τ sig (Elt F) Λ₀ .tc) α} {Q : α → sProp 𝕄} :
    (some' c (piece M off' sz inb') : sProp 𝕄)
      ⊢ iprop((own c (piece M off' sz inb') fullShare w' -∗ wpB c (k ⟨⟩) Q)
        -∗ wpB c (.op (.load (cs := .vmem) M (Rect.unit (s := s) off sz inb).toLoadRect hl) fun _ =>
            .op (.store (cs := .vmem) M (Rect.unit (s := s) off sz inb₂) w Finset.univ hx hm) k) Q) := by
  iintro H Hk
  iapply (ldS c M hoff) $$ H
  iintro %v H
  iapply (stS c M hoff hw) $$ H
  iexact Hk

/-- So is a whole buffer. -/
theorem putAll (M : Memref sig .tc .vmem s e) {off : Fin s.rank → ℕ} (hoff : off = fun _ => 0)
    {inb inb₂ : ∀ a, off a + s.size a ≤ s.size a} {w w' : s.Idx → Elt F e} (hw : w = w')
    {hl : M.view.LoadsAt (Rect.unit (s := s) off s.size inb).toLoadRect} {hx hm}
    {k : PUnit → Prog (TpuEff nD τ sig (Elt F) Λ₀ .tc) α} {Q : α → sProp 𝕄} :
    (some' c M : sProp 𝕄)
      ⊢ iprop((own c M fullShare w' -∗ wpB c (k ⟨⟩) Q)
        -∗ wpB c (.op (.load (cs := .vmem) M (Rect.unit (s := s) off s.size inb).toLoadRect hl) fun _ =>
            .op (.store (cs := .vmem) M (Rect.unit (s := s) off s.size inb₂) w Finset.univ hx hm) k) Q) := by
  subst hw
  unfold some'
  iintro ⟨%v, H⟩ Hk
  iapply (ldAll c M hoff) $$ H
  iintro H
  iapply (stAll c M hoff) $$ H
  iintro H
  iapply Hk
  iexact H

/-- A program that has ended. -/
theorem ret_step (a : α) {Q : α → sProp 𝕄} : Q a ⊢ wpB c (Prog.ret a) Q := by
  unfold wpB
  rw [wp_ret]
  iintro H
  imodintro
  iexact H

/-- The same at an equal result. -/
theorem ret_eq {a a' : α} (h : a = a') {Q : α → sProp 𝕄} : Q a' ⊢ wpB c (Prog.ret a) Q := by
  subst h
  exact ret_step c a

end Steps

theorem off0 : (![0, 0] : Fin 2 → ℕ) = fun _ => 0 := funext fun a => by revert a; decide

/-! ## Filling a buffer piece by piece -/

/-- The pieces before `n` hold `A`, the others `B`. -/
def fillF (A B : Fin 4 → sProp 𝕄) (n : ℕ) : sProp 𝕄 := bigSep Finset.univ fun p : Fin 4 => if p.val < n then A p else B p

theorem fill_start (A B : Fin 4 → sProp 𝕄) : bigSep Finset.univ B ⊢ fillF A B 0 := by
  unfold fillF
  exact bigSep_mono fun p _ => by rw [if_neg (Nat.not_lt_zero _)]; exact Idealize.SL.BI.Entails.refl _

theorem fill_done (A B : Fin 4 → sProp 𝕄) : fillF A B 4 ⊢ bigSep Finset.univ A := by
  unfold fillF
  exact bigSep_mono fun p _ => by rw [if_pos p.isLt]; exact Idealize.SL.BI.Entails.refl _

theorem fill_take (A B : Fin 4 → sProp 𝕄) (p : Fin 4) (n : ℕ) (hn : p.val = n) :
    fillF A B n ⊢ iprop(B p ∗ (A p -∗ fillF A B (n + 1))) := by
  subst hn
  unfold fillF
  have split : ∀ Φ : Fin 4 → sProp 𝕄, bigSep Finset.univ Φ = iprop(Φ p ∗ bigSep (Finset.univ.erase p) Φ) := fun Φ => by
    conv_lhs => rw [← Finset.insert_erase (Finset.mem_univ p), bigSep_insert (Finset.notMem_erase _ _)]
    rfl
  rw [split, split, if_neg (Nat.lt_irrefl _), if_pos (Nat.lt_succ_self _)]
  rw [bigSep_congr (Ψ := fun q : Fin 4 => if q.val < p.val + 1 then A q else B q) fun q hq => by
    have hne : q.val ≠ p.val := fun h => (Finset.mem_erase.mp hq).1 (Fin.ext h)
    by_cases h : q.val < p.val
    · rw [if_pos h, if_pos (by omega)]
    · rw [if_neg h, if_neg (by omega)]]
  iintro ⟨H, HR⟩
  isplitl [H]; · iexact H
  iintro HA
  isplitl [HA] <;> iassumption

section Copy
variable (c : Dev nD) {d d' sz : Fin 2 → ℕ} {e : EltTy} {α : Type}

/-- Copying a rectangle of a buffer held whole into the next piece of another. -/
theorem copy (S : Memref sig .tc .vmem ⟨2, d⟩ e) (D : Memref sig .tc .vmem ⟨2, d'⟩ e) {q : PosShare TreeShare}
    {V : Shape.Idx ⟨2, d⟩ → Elt F e} {so so' : Fin 2 → ℕ} (hso : so = so') {do' : Fin 4 → Fin 2 → ℕ} {A : Fin 4 → sProp 𝕄}
    {isb : ∀ a, so a + sz a ≤ d a} {isb' : ∀ a, so' a + sz a ≤ d a} {idb : ∀ p a, do' p a + sz a ≤ d' a}
    (p : Fin 4) (n : ℕ) (hn : p.val = n) {doff : Fin 2 → ℕ} (hdo : doff = do' p)
    {idb₁ idb₂ : ∀ a, doff a + sz a ≤ d' a}
    (hA : own c (piece D (do' p) sz (idb p)) fullShare (fun i => V ((Rect.unit (s := ⟨2, d⟩) so' sz isb').emb i)) ⊢ A p)
    {g : (Shape.Idx ⟨2, sz⟩ → Elt F e) → (Shape.Idx ⟨2, sz⟩ → Elt F e)} (hg : ∀ v, g v = v)
    {hl : S.view.LoadsAt (Rect.unit (s := ⟨2, d⟩) so sz isb).toLoadRect} {hl' : D.view.LoadsAt (Rect.unit (s := ⟨2, d'⟩) doff sz idb₁).toLoadRect} {hx hm}
    {k : PUnit → Prog (TpuEff nD τ sig (Elt F) Λ₀ .tc) α} {Q : α → sProp 𝕄} :
    iprop(own c S q V ∗ fillF A (fun p => some' c (piece D (do' p) sz (idb p))) n)
      ⊢ iprop((own c S q V ∗ fillF A (fun p => some' c (piece D (do' p) sz (idb p))) (n + 1) -∗ wpB c (k ⟨⟩) Q)
        -∗ wpB c (.op (.load (cs := .vmem) S (Rect.unit (s := ⟨2, d⟩) so sz isb).toLoadRect hl) fun v =>
            .op (.load (cs := .vmem) D (Rect.unit (s := ⟨2, d'⟩) doff sz idb₁).toLoadRect hl') fun _ =>
            .op (.store (cs := .vmem) D (Rect.unit (s := ⟨2, d'⟩) doff sz idb₂) (g v) Finset.univ hx hm) k) Q) := by
  iintro ⟨HS, HF⟩ Hk
  iapply (ldR c S hso (inb' := isb')) $$ HS
  iintro HS
  ihave HF := (fill_take A (fun p => some' c (piece D (do' p) sz (idb p))) p n hn) $$ HF
  icases HF with ⟨H, HF⟩
  iapply (put c D hdo (hg _)) $$ H
  iintro H
  ihave HA := hA $$ H
  ihave HF := HF $$ HA
  iapply Hk
  isplitl [HS] <;> iassumption

/-- The same when the rectangle has already been loaded. -/
theorem fillPut (D : Memref sig .tc .vmem ⟨2, d'⟩ e) {do' : Fin 4 → Fin 2 → ℕ} {A : Fin 4 → sProp 𝕄} {idb : ∀ p a, do' p a + sz a ≤ d' a}
    (p : Fin 4) (n : ℕ) (hn : p.val = n) {doff : Fin 2 → ℕ} (hdo : doff = do' p) {idb₁ idb₂ : ∀ a, doff a + sz a ≤ d' a}
    {w w' : Shape.Idx ⟨2, sz⟩ → Elt F e} (hw : w = w')
    (hA : own c (piece D (do' p) sz (idb p)) fullShare w' ⊢ A p)
    {hl' : D.view.LoadsAt (Rect.unit (s := ⟨2, d'⟩) doff sz idb₁).toLoadRect} {hx hm}
    {k : PUnit → Prog (TpuEff nD τ sig (Elt F) Λ₀ .tc) α} {Q : α → sProp 𝕄} :
    fillF A (fun p => some' c (piece D (do' p) sz (idb p))) n
      ⊢ iprop((fillF A (fun p => some' c (piece D (do' p) sz (idb p))) (n + 1) -∗ wpB c (k ⟨⟩) Q)
        -∗ wpB c (.op (.load (cs := .vmem) D (Rect.unit (s := ⟨2, d'⟩) doff sz idb₁).toLoadRect hl') fun _ =>
            .op (.store (cs := .vmem) D (Rect.unit (s := ⟨2, d'⟩) doff sz idb₂) w Finset.univ hx hm) k) Q) := by
  iintro HF Hk
  ihave HF := (fill_take A (fun p => some' c (piece D (do' p) sz (idb p))) p n hn) $$ HF
  icases HF with ⟨H, HF⟩
  iapply (put c D hdo hw) $$ H
  iintro H
  ihave HA := hA $$ H
  ihave HF := HF $$ HA
  iapply Hk
  iexact HF

end Copy

/-! ## The operand's rows and the weights' rows of a block -/

variable (I : Ins F) (c : Dev nD) (b : Fin 4)

/-- The rows of the operand from chunk `p`, -/
def XCp (p : Fin 4) : Vec F S128x512 .bf16 := fun i => I.x c ((rXrow p b).emb i)
/-- and of the weights. -/
def WCp (p : Fin 4) : Vec F S128x4 .f32 := fun i => WT I c ((rWrow p b).emb i)

/-- The first `n` row groups of block `b` are in place. -/
abbrev xcF (n : ℕ) : sProp 𝕄 := fillF (fun p => own c (xcP p) fullShare (XCp I c b p)) (fun p => some' c (xcP p)) n
abbrev wcF (n : ℕ) : sProp 𝕄 := fillF (fun p => own c (wcP p) fullShare (WCp I c b p)) (fun p => some' c (wcP p)) n

theorem xc_start : (some' c xcM : sProp 𝕄) ⊢ xcF I c b 0 :=
  (some_split (inb := inb_xc) c xcM tile_xc).trans (fill_start _ _)
theorem wc_start : (some' c wcM : sProp 𝕄) ⊢ wcF I c b 0 :=
  (some_split (inb := inb_wc) c wcM tile_wc).trans (fill_start _ _)

theorem row_at (p : Fin 4) (x : ℕ) (hx : x < 128) : 512 * ((128 * p.val + 1 * x) / 128) + 128 * b.val + (128 * p.val + 1 * x) % 128 = 512 * p.val + 128 * b.val + 1 * x := by
  omega

theorem XC_at (p : Fin 4) (j : S128x512.Idx) : XC I c b ((rXc p).emb j) = XCp I c b p j := by
  unfold XC XCp
  refine congrArg _ (funext fun a => Fin.ext ?_)
  revert a
  rw [Fin.forall_fin_two]
  exact ⟨row_at b p _ (j 0).isLt, rfl⟩

theorem WC_at (p : Fin 4) (j : S128x4.Idx) : WC I c b ((rWc p).emb j) = WCp I c b p j := by
  unfold WC WCp
  refine congrArg _ (funext fun a => Fin.ext ?_)
  revert a
  rw [Fin.forall_fin_two]
  exact ⟨row_at b p _ (j 0).isLt, rfl⟩

theorem xc_done : xcF I c b 4 ⊢ own c xcM fullShare (XC I c b) :=
  (fill_done _ _).trans (tile_join (inb := inb_xc) c xcM tile_xc fullShare (XC I c b) (fun p => XCp I c b p) (XC_at I c b))
theorem wc_done : wcF I c b 4 ⊢ own c wcM fullShare (WC I c b) :=
  (fill_done _ _).trans (tile_join (inb := inb_wc) c wcM tile_wc fullShare (WC I c b) (fun p => WCp I c b p) (WC_at I c b))

end Cert.KernelIdeal.Exch

end
-- ==== Proof.Places.lean ====
/-
# Where the kernel's words point

The partners and offsets the kernel computes from its device number, in terms of the device's plane and place.
-/
module

public import proofs.«01_k».proof.Proof.Buffers

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section
variable (c : Dev nD)

theorem dev1 (h : k0_dev1 c < nD) : (⟨k0_dev1 c, h⟩ : Dev nD) = pr (.pl 0) c := Fin.ext (by revert c; decide)
theorem dev2 (h : k0_dev2 c < nD) : (⟨k0_dev2 c, h⟩ : Dev nD) = pr (.pl 1) c := Fin.ext (by revert c; decide)
theorem dev3 (h : k0_dev3 c < nD) : (⟨k0_dev3 c, h⟩ : Dev nD) = pr (.pl 2) c := Fin.ext (by revert c; decide)
theorem dev4 (h : k0_dev4 c < nD) : (⟨k0_dev4 c, h⟩ : Dev nD) = pr (.co 0) c := Fin.ext (by revert c; decide)
theorem dev5 (h : k0_dev5 c < nD) : (⟨k0_dev5 c, h⟩ : Dev nD) = pr (.co 1) c := Fin.ext (by revert c; decide)
theorem dev6 (h : k0_dev6 c < nD) : (⟨k0_dev6 c, h⟩ : Dev nD) = pr (.co 2) c := Fin.ext (by revert c; decide)
theorem dev7 (h : k0_dev7 c < nD) : (⟨k0_dev7 c, h⟩ : Dev nD) = pr (.pl 2) c := Fin.ext (by revert c; decide)
theorem dev8 (h : k0_dev8 c < nD) : (⟨k0_dev8 c, h⟩ : Dev nD) = pr (.pl 1) c := Fin.ext (by revert c; decide)
theorem dev9 (h : k0_dev9 c < nD) : (⟨k0_dev9 c, h⟩ : Dev nD) = pr (.pl 0) c := Fin.ext (by revert c; decide)
theorem dev10 (h : k0_dev10 c < nD) : (⟨k0_dev10 c, h⟩ : Dev nD) = pr (.co 0) c := Fin.ext (by revert c; decide)
theorem dev11 (h : k0_dev11 c < nD) : (⟨k0_dev11 c, h⟩ : Dev nD) = pr (.co 1) c := Fin.ext (by revert c; decide)
theorem dev12 (h : k0_dev12 c < nD) : (⟨k0_dev12 c, h⟩ : Dev nD) = pr (.co 2) c := Fin.ext (by revert c; decide)
theorem dev13 (h : k0_dev13 c < nD) : (⟨k0_dev13 c, h⟩ : Dev nD) = pr (.co 0) c := Fin.ext (by revert c; decide)
theorem dev14 (h : k0_dev14 c < nD) : (⟨k0_dev14 c, h⟩ : Dev nD) = pr (.co 1) c := Fin.ext (by revert c; decide)
theorem dev15 (h : k0_dev15 c < nD) : (⟨k0_dev15 c, h⟩ : Dev nD) = pr (.co 2) c := Fin.ext (by revert c; decide)
theorem dev16 (h : k0_dev16 c < nD) : (⟨k0_dev16 c, h⟩ : Dev nD) = pr (.pl 0) c := Fin.ext (by revert c; decide)
theorem dev17 (h : k0_dev17 c < nD) : (⟨k0_dev17 c, h⟩ : Dev nD) = pr (.pl 1) c := Fin.ext (by revert c; decide)
theorem dev18 (h : k0_dev18 c < nD) : (⟨k0_dev18 c, h⟩ : Dev nD) = pr (.pl 2) c := Fin.ext (by revert c; decide)
theorem dev19 (h : k0_dev19 c < nD) : (⟨k0_dev19 c, h⟩ : Dev nD) = pr (.pl 0) c := Fin.ext (by revert c; decide)
theorem dev20 (h : k0_dev20 c < nD) : (⟨k0_dev20 c, h⟩ : Dev nD) = pr (.pl 0) c := Fin.ext (by revert c; decide)
theorem dev21 (h : k0_dev21 c < nD) : (⟨k0_dev21 c, h⟩ : Dev nD) = pr (.pl 0) c := Fin.ext (by revert c; decide)
theorem dev22 (h : k0_dev22 c < nD) : (⟨k0_dev22 c, h⟩ : Dev nD) = pr (.pl 1) c := Fin.ext (by revert c; decide)
theorem dev23 (h : k0_dev23 c < nD) : (⟨k0_dev23 c, h⟩ : Dev nD) = pr (.pl 1) c := Fin.ext (by revert c; decide)
theorem dev24 (h : k0_dev24 c < nD) : (⟨k0_dev24 c, h⟩ : Dev nD) = pr (.pl 1) c := Fin.ext (by revert c; decide)
theorem dev25 (h : k0_dev25 c < nD) : (⟨k0_dev25 c, h⟩ : Dev nD) = pr (.pl 2) c := Fin.ext (by revert c; decide)
theorem dev26 (h : k0_dev26 c < nD) : (⟨k0_dev26 c, h⟩ : Dev nD) = pr (.pl 2) c := Fin.ext (by revert c; decide)
theorem dev27 (h : k0_dev27 c < nD) : (⟨k0_dev27 c, h⟩ : Dev nD) = pr (.pl 2) c := Fin.ext (by revert c; decide)
theorem off1 (p : Fin 4) : k0_off1 c (BitVec.ofNat 32 (512 * p.val)) = ![512 * p.val + 128 * (lx 2 (lc c)).val, 0] := by revert c p; decide
theorem off2 (p : Fin 4) : k0_off2 c (BitVec.ofNat 32 (512 * p.val)) = ![512 * p.val + 128 * (lx 2 (lc c)).val, 0] := by revert c p; decide
theorem off5 (p : Fin 4) : k0_off5 c (BitVec.ofNat 32 (512 * p.val)) = ![512 * p.val + 128 * (lx 1 (lc c)).val, 0] := by revert c p; decide
theorem off6 (p : Fin 4) : k0_off6 c (BitVec.ofNat 32 (512 * p.val)) = ![512 * p.val + 128 * (lx 1 (lc c)).val, 0] := by revert c p; decide
theorem off9 (p : Fin 4) : k0_off9 c (BitVec.ofNat 32 (512 * p.val)) = ![512 * p.val + 128 * (lx 0 (lc c)).val, 0] := by revert c p; decide
theorem off10 (p : Fin 4) : k0_off10 c (BitVec.ofNat 32 (512 * p.val)) = ![512 * p.val + 128 * (lx 0 (lc c)).val, 0] := by revert c p; decide
theorem off13 (p : Fin 4) : k0_off13 c (BitVec.ofNat 32 (512 * p.val)) = ![512 * p.val + 128 * (lc c).val, 0] := by revert c p; decide
theorem off14 (p : Fin 4) : k0_off14 c (BitVec.ofNat 32 (512 * p.val)) = ![512 * p.val + 128 * (lc c).val, 0] := by revert c p; decide
theorem off3 : k0_off3 c = ![512 * (lx 2 (lc c)).val, 0] := by revert c; decide
theorem off4 : k0_off4 c = ![512 * (lx 2 (lc c)).val, 0] := by revert c; decide
theorem off7 : k0_off7 c = ![512 * (lx 1 (lc c)).val, 0] := by revert c; decide
theorem off8 : k0_off8 c = ![512 * (lx 1 (lc c)).val, 0] := by revert c; decide
theorem off11 : k0_off11 c = ![512 * (lx 0 (lc c)).val, 0] := by revert c; decide
theorem off12 : k0_off12 c = ![512 * (lx 0 (lc c)).val, 0] := by revert c; decide
theorem off15 : k0_off15 c = ![512 * (lc c).val, 0] := by revert c; decide
theorem off16 (i : Fin 3) : k0_off16 c (BitVec.ofNat 32 (i.val + 1)) = ![128 * (px i (pc c)).val, 0] := by revert c i; decide
theorem off17 : k0_off17 c = ![128 * (pc c).val, 0] := by revert c; decide
theorem off18 : k0_off18 c = ![128 * c.val, 0] := by revert c; decide
theorem off19 : k0_off19 c = ![128 * (pc c).val, 0] := by revert c; decide
theorem off20 : k0_off20 c = ![((0 : Fin 3)).val, 128 * (pc c).val, 0] := by revert c; decide
theorem off21 : k0_off21 c = ![((1 : Fin 3)).val, 128 * (pc c).val, 0] := by revert c; decide
theorem off22 : k0_off22 c = ![((2 : Fin 3)).val, 128 * (pc c).val, 0] := by revert c; decide
theorem off23 (s : Fin 3) : k0_off23 c (BitVec.ofNat 32 s.val) = ![128 * (px s (pc c)).val, 0] := by revert c s; decide
theorem off24 (s : Fin 3) : k0_off24 c (BitVec.ofNat 32 s.val) = ![128 * (cp s c).val, 0] := by revert c s; decide
theorem off25 (i : Fin 3) : k0_off25 c (BitVec.ofNat 32 (i.val + 1)) = ![((0 : Fin 3)).val, 128 * (px i (pc c)).val, 0] := by revert c i; decide
theorem off26 (i : Fin 3) : k0_off26 c (BitVec.ofNat 32 (i.val + 1)) = ![((1 : Fin 3)).val, 128 * (px i (pc c)).val, 0] := by revert c i; decide
theorem off27 (i : Fin 3) : k0_off27 c (BitVec.ofNat 32 (i.val + 1)) = ![((2 : Fin 3)).val, 128 * (px i (pc c)).val, 0] := by revert c i; decide
theorem off28 (p : Fin 4) : k0_off28 c (BitVec.ofNat 32 (512 * p.val)) = ![128 * (dv p (lx 0 (lc c))).val, 0] := by revert c p; decide
theorem off29 (p : Fin 4) : k0_off29 c (BitVec.ofNat 32 (512 * p.val)) = ![128 * (dv p (lx 1 (lc c))).val, 0] := by revert c p; decide
theorem off30 (p : Fin 4) : k0_off30 c (BitVec.ofNat 32 (512 * p.val)) = ![128 * (dv p (lx 2 (lc c))).val, 0] := by revert c p; decide

end

end Cert.KernelIdeal.Exch

end
-- ==== Proof.PartsA.lean ====
/-
# The start: the partners' hand-over and the routing weights

Parts 1 to 4 of the program. The device signals its six partners, waits for theirs, copies its operand and
computes the routing weights of its four experts.
-/
module

public import proofs.«01_k».proof.Proof.Moves
public import proofs.«01_k».proof.Proof.Places

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

/-- The dues, in the order the program pays them. -/
def dues : List Due :=
  [.bar (.pl 0), .bar (.pl 1), .bar (.pl 2), .bar (.co 0), .bar (.co 1), .bar (.co 2), .xf (.prs 2), .xf (.prs 1), .xf (.prs 0),
   .xf (.zrs 0), .xf (.zrs 1), .xf (.zrs 2), .xf (.zag 0), .xf (.zag 1), .xf (.zag 2), .xf (.pago 0), .xf (.pago 1), .xf (.pago 2),
   .xf (.pag 0 0), .xf (.pag 0 1), .xf (.pag 0 2), .xf (.pag 1 0), .xf (.pag 1 1), .xf (.pag 1 2), .xf (.pag 2 0), .xf (.pag 2 1), .xf (.pag 2 2)]

/-- What the device owes after the first `n`. -/
abbrev owe (n : ℕ) : sProp 𝕄 := owing c (dues.drop n)

/-- What goes with the signal to partner `d`. -/
def sig₀ (d : PIx) : sProp 𝕄 := iprop(dutyTok ER (cell (pr d c) .bar) 0 (inv d) ∗ slots c d)
/-- What the wait for the partners takes, -/
def bar₀ : sProp 𝕄 := iprop(cred (tallyAt (cell c .bar) () 6) ∗ atPos ER (cell c .bar) 0 ∅ 0)
/-- and what it gives. -/
def bars : sProp 𝕄 := iprop(barPay c (.pl 0) ∗ barPay c (.pl 1) ∗ barPay c (.pl 2) ∗ barPay c (.co 0) ∗ barPay c (.co 1) ∗ barPay c (.co 2))

abbrev bar5 : Sems sig S_ := SemArray.scalar (sig.barrier 0 rfl)

theorem part1 {Q : _ → sProp 𝕄} :
    iprop(env I K ∗ owe c 0 ∗ sig₀ c (.pl 0))
      ⊢ iprop((∀ v3 v4 v9 v10 v11 v13 v15 v17 v21 v25 v29 w, owe c 1 -∗ Q ⟨c, w2 c, v3, v4, bar5, v9, v10, v11, v13, v15, v17, v21, v25, v29, w⟩)
        -∗ wpB c (atBufs (k0_part1 (F := F))) Q) := by
  simp only [atBufs, k0_part1_eq_skeleton]
  unfold k0_part1_skel sig₀ owe
  simp only [semSignalWord, semWaitWord, Prog.lift, Prog.bind_op, Prog.bind_ret, Prog.pure_eq_ret, wp_deviceId]
  iintro ⟨#HE, HO, Ht, Hs⟩ Hk
  iapply (signal_step I K c (.pl 0) (dues.drop 1) (dev1 c _) rfl rfl) $$ [HO Ht Hs]
  · isplitr; · iexact HE
    isplitl [HO]; · iexact HO
    isplitl [Ht] <;> iassumption
  iintro HO
  iapply (ret_step c)
  unfold w2
  iapply Hk
  iexact HO

theorem part2 (v15 v17 v21 v25 v29 w : BitVec 32) {q₀ q₁ : PosShare TreeShare} {Q : _ → sProp 𝕄} :
    iprop(env I K ∗ owe c 1 ∗ (sig₀ c (.pl 1) ∗ sig₀ c (.pl 2) ∗ sig₀ c (.co 0) ∗ sig₀ c (.co 1) ∗ sig₀ c (.co 2)) ∗ bar₀ c
        ∗ own c xM q₀ (I.x c) ∗ own c rwM q₁ (I.rw c) ∗ some' c xbM)
      ⊢ iprop((owe c 6 ∗ bars c ∗ zero c .bar ∗ own c xM q₀ (I.x c) ∗ own c rwM q₁ (I.rw c) ∗ own c xbM fullShare (I.x c) -∗ Q (probs I c))
        -∗ wpB c (atBufs (k0_part2 (F := F)) c bar5 v15 v17 v21 v25 v29 w) Q) := by
  simp only [atBufs, k0_part2_eq_skeleton]
  unfold k0_part2_skel sig₀ owe bar₀ bars
  simp only [semSignalWord, semWaitWord, Prog.lift, Prog.bind_op, Prog.bind_ret, Prog.pure_eq_ret, wp_deviceId]
  iintro ⟨#HE, HO, ⟨⟨Ht1, Hs1⟩, ⟨Ht2, Hs2⟩, ⟨Ht3, Hs3⟩, ⟨Ht4, Hs4⟩, ⟨Ht5, Hs5⟩⟩, HB, Hx, Hrw, Hxb⟩ Hk
  iapply (signal_step I K c (.pl 1) (dues.drop 2) (dev2 c _) rfl rfl) $$ [HO Ht1 Hs1]
  · isplitr; · iexact HE
    isplitl [HO]; · iexact HO
    isplitl [Ht1] <;> iassumption
  iintro HO
  iapply (signal_step I K c (.pl 2) (dues.drop 3) (dev3 c _) rfl rfl) $$ [HO Ht2 Hs2]
  · isplitr; · iexact HE
    isplitl [HO]; · iexact HO
    isplitl [Ht2] <;> iassumption
  iintro HO
  iapply (signal_step I K c (.co 0) (dues.drop 4) (dev4 c _) rfl rfl) $$ [HO Ht3 Hs3]
  · isplitr; · iexact HE
    isplitl [HO]; · iexact HO
    isplitl [Ht3] <;> iassumption
  iintro HO
  iapply (signal_step I K c (.co 1) (dues.drop 5) (dev5 c _) rfl rfl) $$ [HO Ht4 Hs4]
  · isplitr; · iexact HE
    isplitl [HO]; · iexact HO
    isplitl [Ht4] <;> iassumption
  iintro HO
  iapply (signal_step I K c (.co 2) (dues.drop 6) (dev6 c _) rfl rfl) $$ [HO Ht5 Hs5]
  · isplitr; · iexact HE
    isplitl [HO]; · iexact HO
    isplitl [Ht5] <;> iassumption
  iintro HO
  iapply (wait_bar I K c (dues.drop 6) (by decide) rfl rfl) $$ [HO HB]
  · isplitr; · iexact HE
    isplitl [HB] <;> iassumption
  iintro ⟨HP, HZ, HO⟩
  iapply (ldAll c xM off0) $$ Hx
  iintro Hx
  iapply (putAll c xbM (w' := I.x c) off0 ((shapeCast_self _ _).trans (shapeCast_self _ _))) $$ Hxb
  iintro Hxb
  iapply (ldAll c rwM off0) $$ Hrw
  iintro Hrw
  iapply (ret_step c)
  unfold probs
  iapply Hk
  isplitl [HO]; · iexact HO
  isplitl [HP]; · iexact HP
  isplitl [HZ]; · iexact HZ
  isplitl [Hx]; · iexact Hx
  isplitl [Hrw] <;> iassumption

theorem part3 {q₂ : PosShare TreeShare} {Q : _ → sProp 𝕄} :
    iprop(own c idM q₂ (I.ix c) ∗ some' c (wtP 0) ∗ some' c (wtP 1))
      ⊢ iprop((own c idM q₂ (I.ix c) ∗ own c (wtP 0) fullShare (wcol I c 0) ∗ own c (wtP 1) fullShare (wcol I c 1)
          -∗ Q ⟨lanes, gated I c, gsum I c, Scalar.addi (Scalar.muli (w2 c) 4#32) 2#32⟩)
        -∗ wpB c (atBufs (k0_part3 (F := F)) (w2 c) (probs I c)) Q) := by
  simp only [atBufs, k0_part3_eq_skeleton]
  unfold k0_part3_skel
  simp only [semSignalWord, semWaitWord, Prog.lift, Prog.bind_op, Prog.bind_ret, Prog.pure_eq_ret, wp_deviceId]
  iintro ⟨Hid, H0, H1⟩ Hk
  iapply (ldR c idM rfl) $$ Hid
  iintro Hid
  iapply (ldR c idM rfl) $$ Hid
  iintro Hid
  iapply (put c wtM (w' := wcol I c 0) rfl rfl) $$ H0
  iintro H0
  iapply (put c wtM (w' := wcol I c 1) rfl rfl) $$ H1
  iintro H1
  iapply (ret_step c)
  unfold lanes gated gsum ixc0 ixc1
  iapply Hk
  isplitl [Hid]; · iexact Hid
  isplitl [H0] <;> iassumption

/-- The first or second slice of the device's experts comes back unchanged from the two casts around its store. -/
theorem ew_cast (v : Vec F S1x512x1024 .bf16) (h : S1x512x1024.ShapeCasts S512x1024) (h' : S512x1024.ShapeCasts S1x512x1024) :
    shapeCast S1x512x1024 (shapeCast S512x1024 v h) h' = v := by
  rw [shapeCast_shapeCast]

theorem part4 {q₃ : PosShare TreeShare} {Q : _ → sProp 𝕄} :
    iprop(some' c (wtP 2) ∗ some' c (wtP 3) ∗ own c ewM q₃ (I.ew c) ∗ some' c (wbP 0) ∗ some' c (wbP 1))
      ⊢ iprop((own c (wtP 2) fullShare (wcol I c 2) ∗ own c (wtP 3) fullShare (wcol I c 3) ∗ own c ewM q₃ (I.ew c)
            ∗ own c (wbP 0) fullShare (EW I c 0) ∗ own c (wbP 1) fullShare (EW I c 1) -∗ Q ⟨⟩)
        -∗ wpB c (atBufs (k0_part4 (F := F)) (w2 c) lanes (gated I c) (gsum I c) (Scalar.addi (Scalar.muli (w2 c) 4#32) 2#32)) Q) := by
  simp only [atBufs, k0_part4_eq_skeleton]
  unfold k0_part4_skel
  simp only [semSignalWord, semWaitWord, Prog.lift, Prog.bind_op, Prog.bind_ret, Prog.pure_eq_ret, wp_deviceId]
  iintro ⟨H2, H3, Hew, Hb0, Hb1⟩ Hk
  iapply (put c wtM (w' := wcol I c 2) rfl rfl) $$ H2
  iintro H2
  iapply (put c wtM (w' := wcol I c 3) rfl rfl) $$ H3
  iintro H3
  iapply (ldR c ewM (inb' := inb_wb 0) rfl) $$ Hew
  iintro Hew
  iapply (put c wbM (inb' := inb_wb 0) (w' := EW I c 0) rfl (ew_cast _ _ _)) $$ Hb0
  iintro Hb0
  iapply (ldR c ewM (inb' := inb_wb 1) rfl) $$ Hew
  iintro Hew
  iapply (put c wbM (inb' := inb_wb 1) (w' := EW I c 1) rfl (ew_cast _ _ _)) $$ Hb1
  iintro Hb1
  iapply (ret_step c)
  iapply Hk
  isplitl [H2]; · iexact H2
  isplitl [H3]; · iexact H3
  isplitl [Hew]; · iexact Hew
  isplitl [Hb0] <;> iassumption

end Cert.KernelIdeal.Exch

end
-- ==== Proof.Gather.lean ====
/-
# Gathering a block and sending it

What each transfer leaves in its slot, the copies that gather one block's rows, the operands of one expert's
product, and the transfer of a finished block.
-/
module

public import proofs.«01_k».proof.Proof.PartsA

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

/-! ## What lands where -/

theorem land_prs (k : Fin 3) : own (tgt (.prs k) c) (prQ k) fullShare (PB I c (lx k (lc c))) ⊢ landPay I (tgt (.prs k) c) (.prs k) := by
  show own (pp k c) _ _ _ ⊢ own (pp k c) (prQ k) fullShare (PB I (pp k (pp k c)) (lc (pp k c)))
  rw [pp_pp, lc_pp]

theorem land_zrs (i : Fin 3) : own (tgt (.zrs i) c) (zrQ (ri i)) fullShare (CSc I c (px i (pc c))) ⊢ landPay I (tgt (.zrs i) c) (.zrs i) := by
  show own (cp i c) _ _ _ ⊢ own (cp i c) (zrQ (ri i)) fullShare (CSc I (cp (ri i) (cp i c)) (pc (cp i c)))
  rw [cp_cp, pc_cp]

theorem land_zag (i : Fin 3) : own (tgt (.zag i) c) (zaQ (ri i)) fullShare (REDB I c) ⊢ landPay I (tgt (.zag i) c) (.zag i) := by
  show own (cp i c) _ _ _ ⊢ own (cp i c) (zaQ (ri i)) fullShare (REDB I (cp (ri i) (cp i c)))
  rw [cp_cp]

theorem land_pago (k : Fin 3) : own (tgt (.pago k) c) (pgQ k (pc c)) fullShare (REDB I c) ⊢ landPay I (tgt (.pago k) c) (.pago k) := by
  show own (pp k c) _ _ _ ⊢ own (pp k c) (pgQ k (pc (pp k c))) fullShare (REDB I (pp k (pp k c)))
  rw [pp_pp, pc_pp]

theorem land_pag (k i : Fin 3) : own (tgt (.pag k i) c) (pgQ k (px i (pc c))) fullShare (REDB I (dv (px i (pc c)) (lc c))) ⊢ landPay I (tgt (.pag k i) c) (.pag k i) := by
  show own (pp k c) _ _ _ ⊢ own (pp k c) (pgQ k (px i (pc (pp k c)))) fullShare (REDB I (dv (px i (pc (pp k c))) (lx k (lc (pp k c)))))
  rw [pc_pp, lc_pp, lx_lx]

/-! ## Credits

A transfer's credit is that of its slot; the source buffers count the same. -/

theorem cr_par (k : Fin 3) (off : Fin 2 → ℕ) (inb : ∀ a, off a + S512x1024.size a ≤ S2048x1024.size a) :
    (piece parM off S512x1024.size inb).view.dmaCredit = amt (.prs k) := by
  show sig.dmaCredit _ _ _ _ _ = sig.dmaCredit _ _ _ _ _
  rfl
theorem cr_cs (i : Fin 3) (off : Fin 2 → ℕ) (inb : ∀ a, off a + S128x1024.size a ≤ S512x1024.size a) :
    (piece csM off S128x1024.size inb).view.dmaCredit = amt (.zrs i) := by
  show sig.dmaCredit _ _ _ _ _ = sig.dmaCredit _ _ _ _ _
  rfl
theorem cr_zag (i : Fin 3) (off : Fin 2 → ℕ) (inb : ∀ a, off a + S128x1024.size a ≤ S512x1024.size a) :
    (piece crM off S128x1024.size inb).view.dmaCredit = amt (.zag i) := by
  show sig.dmaCredit _ _ _ _ _ = sig.dmaCredit _ _ _ _ _
  rfl
theorem cr_pago (k : Fin 3) (off : Fin 2 → ℕ) (inb : ∀ a, off a + S128x1024.size a ≤ S512x1024.size a) :
    (piece crM off S128x1024.size inb).view.dmaCredit = amt (.pago k) := by
  show sig.dmaCredit _ _ _ _ _ = sig.dmaCredit _ _ _ _ _
  rfl
theorem cr_pag (k i : Fin 3) (off : Fin 2 → ℕ) (inb : ∀ a, off a + S128x1024.size a ≤ S512x1024.size a) :
    (piece crM off S128x1024.size inb).view.dmaCredit = amt (.pag k i) := by
  show sig.dmaCredit _ _ _ _ _ = sig.dmaCredit _ _ _ _ _
  rfl

/-! ## The gathers and the products -/

section Rows
variable (b p : Fin 4) (n : ℕ) {α : Type}

theorem cpX (hn : p.val = n) {so do' : Fin 2 → ℕ} (hso : so = ![512 * p.val + 128 * b.val, 0]) (hdo : do' = ![128 * p.val, 0])
    {isb : ∀ a, so a + S128x512.size a ≤ S2048x512.size a} {idb₁ idb₂ : ∀ a, do' a + S128x512.size a ≤ S512x512.size a}
    {g : Vec F S128x512 .bf16 → Vec F S128x512 .bf16} (hg : ∀ v, g v = v)
    {hl : xbM.view.LoadsAt (Rect.unit (s := S2048x512) so S128x512.size isb).toLoadRect}
    {hl' : xcM.view.LoadsAt (Rect.unit (s := S512x512) do' S128x512.size idb₁).toLoadRect} {hx hm}
    {k : PUnit → Prog (TpuEff nD τ sig (Elt F) Λ₀ .tc) α} {Q : α → sProp 𝕄} :
    iprop(own c xbM fullShare (I.x c) ∗ xcF I c b n)
      ⊢ iprop((own c xbM fullShare (I.x c) ∗ xcF I c b (n + 1) -∗ wpB c (k ⟨⟩) Q)
        -∗ wpB c (.op (.load (cs := .vmem) xbM (Rect.unit (s := S2048x512) so S128x512.size isb).toLoadRect hl) fun v =>
            .op (.load (cs := .vmem) xcM (Rect.unit (s := S512x512) do' S128x512.size idb₁).toLoadRect hl') fun _ =>
            .op (.store (cs := .vmem) xcM (Rect.unit (s := S512x512) do' S128x512.size idb₂) (g v) Finset.univ hx hm) k) Q) :=
  copy c xbM xcM hso (do' := fun p => ![128 * p.val, 0]) (isb' := inb_xrow p b) (idb := inb_xc) p n hn hdo (Idealize.SL.BI.Entails.refl _) hg

theorem cpW (hn : p.val = n) {so do' : Fin 2 → ℕ} (hso : so = ![512 * p.val + 128 * b.val, 0]) (hdo : do' = ![128 * p.val, 0])
    {isb : ∀ a, so a + S128x4.size a ≤ S2048x4.size a} {idb₁ idb₂ : ∀ a, do' a + S128x4.size a ≤ S512x4.size a}
    {g : Vec F S128x4 .f32 → Vec F S128x4 .f32} (hg : ∀ v, g v = v)
    {hl : wtM.view.LoadsAt (Rect.unit (s := S2048x4) so S128x4.size isb).toLoadRect}
    {hl' : wcM.view.LoadsAt (Rect.unit (s := S512x4) do' S128x4.size idb₁).toLoadRect} {hx hm}
    {k : PUnit → Prog (TpuEff nD τ sig (Elt F) Λ₀ .tc) α} {Q : α → sProp 𝕄} :
    iprop(own c wtM fullShare (WT I c) ∗ wcF I c b n)
      ⊢ iprop((own c wtM fullShare (WT I c) ∗ wcF I c b (n + 1) -∗ wpB c (k ⟨⟩) Q)
        -∗ wpB c (.op (.load (cs := .vmem) wtM (Rect.unit (s := S2048x4) so S128x4.size isb).toLoadRect hl) fun v =>
            .op (.load (cs := .vmem) wcM (Rect.unit (s := S512x4) do' S128x4.size idb₁).toLoadRect hl') fun _ =>
            .op (.store (cs := .vmem) wcM (Rect.unit (s := S512x4) do' S128x4.size idb₂) (g v) Finset.univ hx hm) k) Q) :=
  copy c wtM wcM hso (do' := fun p => ![128 * p.val, 0]) (isb' := inb_wrow p b) (idb := inb_wc) p n hn hdo (Idealize.SL.BI.Entails.refl _) hg

/-- The operands of one expert's product. -/
theorem mm (e : Fin 4) {o₁ o₃ : Fin 2 → ℕ} {o₂ : Fin 3 → ℕ} (h₁ : o₁ = fun _ => 0) (h₂ : o₂ = ![e.val, 0, 0]) (h₃ : o₃ = ![0, e.val])
    {i₁ : ∀ a, o₁ a + S512x512.size a ≤ S512x512.size a} {i₂ : ∀ a, o₂ a + S1x512x1024.size a ≤ S4x512x1024.size a}
    {i₃ : ∀ a, o₃ a + S512x1.size a ≤ S512x4.size a} {hl₁ hl₂ hl₃}
    {k : Vec F S512x512 .bf16 → Vec F S1x512x1024 .bf16 → Vec F S512x1 .f32 → Prog (TpuEff nD τ sig (Elt F) Λ₀ .tc) α} {Q : α → sProp 𝕄} :
    iprop(own c xcM fullShare (XC I c b) ∗ own c (wbP e) fullShare (EW I c e) ∗ own c wcM fullShare (WC I c b))
      ⊢ iprop((own c xcM fullShare (XC I c b) ∗ own c (wbP e) fullShare (EW I c e) ∗ own c wcM fullShare (WC I c b)
            -∗ wpB c (k (XC I c b) (EW I c e) (WCc I c b e)) Q)
        -∗ wpB c (.op (.load (cs := .vmem) xcM (Rect.unit (s := S512x512) o₁ S512x512.size i₁).toLoadRect hl₁) fun x =>
            .op (.load (cs := .vmem) wbM (Rect.unit (s := S4x512x1024) o₂ S1x512x1024.size i₂).toLoadRect hl₂) fun w =>
            .op (.load (cs := .vmem) wcM (Rect.unit (s := S512x4) o₃ S512x1.size i₃).toLoadRect hl₃) fun v => k x w v) Q) := by
  iintro ⟨Hx, Hw, Hv⟩ Hk
  iapply (ldAll c xcM h₁) $$ Hx
  iintro Hx
  iapply (ld c wbM h₂) $$ Hw
  iintro Hw
  iapply (ldR c wcM (inb' := inb_wcol e) h₃) $$ Hv
  iintro Hv
  iapply Hk
  isplitl [Hx]; · iexact Hx
  isplitl [Hw] <;> iassumption

/-- A block's transfer to plane partner `k`. -/
theorem send_prs (k : Fin 3) (l : List Due) {n : Dev nD} (hn : n = pr (.pl k) c)
    {src : Memref sig .tc .vmem S512x1024 .bf16} (hs : src = parB (lx k (lc c)))
    {dst : Memref sig (Dev.tc n : Thread nD τ).2.kind .vmem S512x1024 .bf16} (hd : dst = prQ k) {sS sR : DmaSem sig} (hS : sS = sndS (.prs k)) (hR : sR = rcvS (.prs k))
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(env I K ∗ own c (parB (lx k (lc c))) fullShare (PB I c (lx k (lc c))) ∗ some' (pp k c) (prQ k) ∗ owing c (.xf (.prs k) :: l) ∗ tx (.prs k) c)
      ⊢ iprop((sent (.prs k) c ∗ owing c l -∗ wpB c (kk ⟨⟩) Q)
          -∗ wpB c (.op (.enqueueDma src (.remote (Dev.tc n : Thread nD τ) dst (.dma sS) hsc) (.dma sR) hsrc hdst hsem) kk) Q) :=
  send_step I K c (.prs k) l hn (parB (lx k (lc c))) (prQ k) rfl (Idealize.SL.BI.Entails.refl _) (land_prs I c k) hs hd hS hR

end Rows

end Cert.KernelIdeal.Exch

end
-- ==== Proof.PartsB.lean ====
/-
# The blocks for the second and the first plane partner

Parts 5 to 10 of the program: gathering, multiplying and sending the block of plane partner 2, then gathering
and multiplying that of partner 1.
-/
module

public import proofs.«01_k».proof.Proof.Gather

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

theorem part5 (v11 : BitVec 32) {q₃ : PosShare TreeShare} {Q : _ → sProp 𝕄} :
    iprop(own c ewM q₃ (I.ew c) ∗ some' c (wbP 2) ∗ some' c (wbP 3) ∗ own c xbM fullShare (I.x c) ∗ own c wtM fullShare (WT I c)
        ∗ xcF I c (lx 2 (lc c)) 0 ∗ wcF I c (lx 2 (lc c)) 0)
      ⊢ iprop((own c ewM q₃ (I.ew c) ∗ own c (wbP 2) fullShare (EW I c 2) ∗ own c (wbP 3) fullShare (EW I c 3) ∗ own c xbM fullShare (I.x c)
            ∗ own c wtM fullShare (WT I c) ∗ xcF I c (lx 2 (lc c)) 2 ∗ wcF I c (lx 2 (lc c)) 1 -∗ Q (WCp I c (lx 2 (lc c)) 1))
        -∗ wpB c (atBufs (k0_part5 (F := F)) c v11) Q) := by
  simp only [atBufs, k0_part5_eq_skeleton]
  unfold k0_part5_skel
  simp only [Prog.lift, Prog.bind_op, Prog.bind_ret, Prog.pure_eq_ret]
  iintro ⟨Hew, Hb2, Hb3, Hxb, Hwt, HX, HW⟩ Hk
  iapply (ldR c ewM (inb' := inb_wb 2) rfl) $$ Hew
  iintro Hew
  iapply (put c wbM (inb' := inb_wb 2) (w' := EW I c 2) rfl (ew_cast _ _ _)) $$ Hb2
  iintro Hb2
  iapply (ldR c ewM (inb' := inb_wb 3) rfl) $$ Hew
  iintro Hew
  iapply (put c wbM (inb' := inb_wb 3) (w' := EW I c 3) rfl (ew_cast _ _ _)) $$ Hb3
  iintro Hb3
  iapply (cpX I c _ 0 0 rfl (so := k0_off1 c 0#32) (off1 c 0) rfl (fun v => shapeCast_self v _)) $$ [Hxb HX]
  · isplitl [Hxb] <;> iassumption
  iintro ⟨Hxb, HX⟩
  iapply (cpW I c _ 0 0 rfl (so := k0_off2 c 0#32) (off2 c 0) rfl (fun v => shapeCast_self v _)) $$ [Hwt HW]
  · isplitl [Hwt] <;> iassumption
  iintro ⟨Hwt, HW⟩
  iapply (cpX I c _ 1 1 rfl (so := k0_off1 c 512#32) (off1 c 1) rfl (fun v => shapeCast_self v _)) $$ [Hxb HX]
  · isplitl [Hxb] <;> iassumption
  iintro ⟨Hxb, HX⟩
  iapply (ldR c wtM (off := k0_off2 c 512#32) (inb' := inb_wrow 1 (lx 2 (lc c))) (off2 c 1)) $$ Hwt
  iintro Hwt
  iapply (ret_eq c (a' := WCp I c (lx 2 (lc c)) 1) rfl)
  iapply Hk
  isplitl [Hew]; · iexact Hew
  isplitl [Hb2]; · iexact Hb2
  isplitl [Hb3]; · iexact Hb3
  isplitl [Hxb]; · iexact Hxb
  isplitl [Hwt]; · iexact Hwt
  isplitl [HX]; · iexact HX
  iexact HW

theorem part6 (v11 : BitVec 32) {Q : _ → sProp 𝕄} :
    iprop(own c xbM fullShare (I.x c) ∗ own c wtM fullShare (WT I c) ∗ xcF I c (lx 2 (lc c)) 2 ∗ wcF I c (lx 2 (lc c)) 1 ∗ own c (wbP 0) fullShare (EW I c 0))
      ⊢ iprop((own c xbM fullShare (I.x c) ∗ own c wtM fullShare (WT I c) ∗ own c xcM fullShare (XC I c (lx 2 (lc c))) ∗ own c wcM fullShare (WC I c (lx 2 (lc c)))
            ∗ own c (wbP 0) fullShare (EW I c 0) -∗ Q ⟨k0_pay24, XC I c (lx 2 (lc c)), k0_pay25 (EW I c 0)⟩)
        -∗ wpB c (atBufs (k0_part6 (F := F)) c v11 (WCp I c (lx 2 (lc c)) 1)) Q) := by
  simp only [atBufs, k0_part6_eq_skeleton]
  unfold k0_part6_skel
  simp only [Prog.lift, Prog.bind_op, Prog.bind_ret, Prog.pure_eq_ret]
  iintro ⟨Hxb, Hwt, HX, HW, Hb0⟩ Hk
  iapply (fillPut c wcM (do' := fun p => ![128 * p.val, 0]) (idb := inb_wc) (A := fun p => own c (wcP p) fullShare (WCp I c (lx 2 (lc c)) p)) 1 1 rfl rfl
    (w' := WCp I c (lx 2 (lc c)) 1) (shapeCast_self _ _) (Idealize.SL.BI.Entails.refl _)) $$ HW
  iintro HW
  iapply (cpX I c _ 2 2 rfl (so := k0_off1 c 1024#32) (off1 c 2) rfl (fun v => shapeCast_self v _)) $$ [Hxb HX]
  · isplitl [Hxb] <;> iassumption
  iintro ⟨Hxb, HX⟩
  iapply (cpW I c _ 2 2 rfl (so := k0_off2 c 1024#32) (off2 c 2) rfl (fun v => shapeCast_self v _)) $$ [Hwt HW]
  · isplitl [Hwt] <;> iassumption
  iintro ⟨Hwt, HW⟩
  iapply (cpX I c _ 3 3 rfl (so := k0_off1 c 1536#32) (off1 c 3) rfl (fun v => shapeCast_self v _)) $$ [Hxb HX]
  · isplitl [Hxb] <;> iassumption
  iintro ⟨Hxb, HX⟩
  iapply (cpW I c _ 3 3 rfl (so := k0_off2 c 1536#32) (off2 c 3) rfl (fun v => shapeCast_self v _)) $$ [Hwt HW]
  · isplitl [Hwt] <;> iassumption
  iintro ⟨Hwt, HW⟩
  ihave Hxc := (xc_done I c (lx 2 (lc c))) $$ HX
  ihave Hwc := (wc_done I c (lx 2 (lc c))) $$ HW
  iapply (ldAll c xcM off0) $$ Hxc
  iintro Hxc
  iapply (ld c wbM (inb' := inb_wb 0) rfl) $$ Hb0
  iintro Hb0
  iapply (ret_step c)
  iapply Hk
  isplitl [Hxb]; · iexact Hxb
  isplitl [Hwt]; · iexact Hwt
  isplitl [Hxc]; · iexact Hxc
  isplitl [Hwc]; · iexact Hwc
  iexact Hb0

/-- The four experts' slices. -/
def wbs : sProp 𝕄 := iprop(own c (wbP 0) fullShare (EW I c 0) ∗ own c (wbP 1) fullShare (EW I c 1) ∗ own c (wbP 2) fullShare (EW I c 2) ∗ own c (wbP 3) fullShare (EW I c 3))

theorem part7 (v11 : BitVec 32) {Q : _ → sProp 𝕄} :
    iprop(own c xcM fullShare (XC I c (lx 2 (lc c))) ∗ own c wcM fullShare (WC I c (lx 2 (lc c))) ∗ wbs I c)
      ⊢ iprop((own c xcM fullShare (XC I c (lx 2 (lc c))) ∗ own c wcM fullShare (WC I c (lx 2 (lc c))) ∗ wbs I c -∗ Q (PB I c (lx 2 (lc c))))
        -∗ wpB c (atBufs (k0_part7 (F := F)) v11 k0_pay24 (XC I c (lx 2 (lc c))) (k0_pay25 (EW I c 0))) Q) := by
  unfold wbs
  simp only [atBufs, k0_part7_eq_skeleton]
  unfold k0_part7_skel
  simp only [Prog.lift, Prog.bind_op, Prog.bind_ret, Prog.pure_eq_ret]
  iintro ⟨Hxc, Hwc, Hb0, Hb1, Hb2, Hb3⟩ Hk
  iapply (ldR c wcM (inb' := inb_wcol 0) rfl) $$ Hwc
  iintro Hwc
  iapply (mm I c _ 1 off0 rfl rfl) $$ [Hxc Hb1 Hwc]
  · isplitl [Hxc]; · iexact Hxc
    isplitl [Hb1] <;> iassumption
  iintro ⟨Hxc, Hb1, Hwc⟩
  iapply (mm I c _ 2 off0 rfl rfl) $$ [Hxc Hb2 Hwc]
  · isplitl [Hxc]; · iexact Hxc
    isplitl [Hb2] <;> iassumption
  iintro ⟨Hxc, Hb2, Hwc⟩
  iapply (mm I c _ 3 off0 rfl rfl) $$ [Hxc Hb3 Hwc]
  · isplitl [Hxc]; · iexact Hxc
    isplitl [Hb3] <;> iassumption
  iintro ⟨Hxc, Hb3, Hwc⟩
  iapply (ret_eq c (a' := PB I c (lx 2 (lc c))) rfl)
  iapply Hk
  isplitl [Hxc]; · iexact Hxc
  isplitl [Hwc]; · iexact Hwc
  isplitl [Hb0]; · iexact Hb0
  isplitl [Hb1]; · iexact Hb1
  isplitl [Hb2]; · iexact Hb2
  iexact Hb3

theorem part8 (v10 v11 v17 : BitVec 32) {Q : _ → sProp 𝕄} :
    iprop(env I K ∗ owe c 6 ∗ some' c (parB (lx 2 (lc c))) ∗ some' (pp 2 c) (prQ 2) ∗ tx (.prs 2) c
        ∗ own c xbM fullShare (I.x c) ∗ own c wtM fullShare (WT I c) ∗ xcF I c (lx 1 (lc c)) 0 ∗ wcF I c (lx 1 (lc c)) 0)
      ⊢ iprop((∀ w, sent (.prs 2) c ∗ owe c 7
            ∗ own c xbM fullShare (I.x c) ∗ own c wtM fullShare (WT I c) ∗ xcF I c (lx 1 (lc c)) 2 ∗ wcF I c (lx 1 (lc c)) 1 -∗ Q w)
        -∗ wpB c (atBufs (k0_part8 (F := F)) c v10 v11 v17 (PB I c (lx 2 (lc c)))) Q) := by
  unfold owe
  simp only [atBufs, k0_part8_eq_skeleton]
  unfold k0_part8_skel
  simp only [Prog.lift, Prog.bind_op, Prog.bind_ret, Prog.pure_eq_ret]
  iintro ⟨#HE, HO, HP, Hs, Ht, Hxb, Hwt, HX, HW⟩ Hk
  iapply (put c parM (inb' := inb_blk (lx 2 (lc c))) (w' := PB I c (lx 2 (lc c))) (off3 c) (shapeCast_self _ _)) $$ HP
  iintro HP
  iapply (send_prs I K c 2 (dues.drop 7) (dev7 c _) (piece_congr parM (off4 c) _ _) rfl rfl rfl) $$ [HP Hs HO Ht]
  · isplitr; · iexact HE
    isplitl [HP]; · iexact HP
    isplitl [Hs]; · iexact Hs
    isplitl [HO]; · iexact HO
    iexact Ht
  iintro ⟨Ht, HO⟩
  iapply (cpX I c _ 0 0 rfl (so := k0_off5 c 0#32) (off5 c 0) rfl (fun v => shapeCast_self v _)) $$ [Hxb HX]
  · isplitl [Hxb] <;> iassumption
  iintro ⟨Hxb, HX⟩
  iapply (cpW I c _ 0 0 rfl (so := k0_off6 c 0#32) (off6 c 0) rfl (fun v => shapeCast_self v _)) $$ [Hwt HW]
  · isplitl [Hwt] <;> iassumption
  iintro ⟨Hwt, HW⟩
  iapply (cpX I c _ 1 1 rfl (so := k0_off5 c 512#32) (off5 c 1) rfl (fun v => shapeCast_self v _)) $$ [Hxb HX]
  · isplitl [Hxb] <;> iassumption
  iintro ⟨Hxb, HX⟩
  iapply (ret_step c)
  iapply Hk
  isplitl [Ht]; · iexact Ht
  isplitl [HO]; · iexact HO
  isplitl [Hxb]; · iexact Hxb
  isplitl [Hwt]; · iexact Hwt
  isplitl [HX]; · iexact HX
  iexact HW

theorem part9 (v10 w : BitVec 32) {Q : _ → sProp 𝕄} :
    iprop(own c xbM fullShare (I.x c) ∗ own c wtM fullShare (WT I c) ∗ xcF I c (lx 1 (lc c)) 2 ∗ wcF I c (lx 1 (lc c)) 1)
      ⊢ iprop((own c xbM fullShare (I.x c) ∗ own c wtM fullShare (WT I c) ∗ own c xcM fullShare (XC I c (lx 1 (lc c))) ∗ own c wcM fullShare (WC I c (lx 1 (lc c)))
            -∗ Q ⟨k0_pay36, XC I c (lx 1 (lc c))⟩)
        -∗ wpB c (atBufs (k0_part9 (F := F)) c v10 w) Q) := by
  simp only [atBufs, k0_part9_eq_skeleton]
  unfold k0_part9_skel
  simp only [Prog.lift, Prog.bind_op, Prog.bind_ret, Prog.pure_eq_ret]
  iintro ⟨Hxb, Hwt, HX, HW⟩ Hk
  iapply (cpW I c _ 1 1 rfl (so := k0_off6 c 512#32) (off6 c 1) rfl (fun v => shapeCast_self v _)) $$ [Hwt HW]
  · isplitl [Hwt] <;> iassumption
  iintro ⟨Hwt, HW⟩
  iapply (cpX I c _ 2 2 rfl (so := k0_off5 c 1024#32) (off5 c 2) rfl (fun v => shapeCast_self v _)) $$ [Hxb HX]
  · isplitl [Hxb] <;> iassumption
  iintro ⟨Hxb, HX⟩
  iapply (cpW I c _ 2 2 rfl (so := k0_off6 c 1024#32) (off6 c 2) rfl (fun v => shapeCast_self v _)) $$ [Hwt HW]
  · isplitl [Hwt] <;> iassumption
  iintro ⟨Hwt, HW⟩
  iapply (cpX I c _ 3 3 rfl (so := k0_off5 c 1536#32) (off5 c 3) rfl (fun v => shapeCast_self v _)) $$ [Hxb HX]
  · isplitl [Hxb] <;> iassumption
  iintro ⟨Hxb, HX⟩
  iapply (cpW I c _ 3 3 rfl (so := k0_off6 c 1536#32) (off6 c 3) rfl (fun v => shapeCast_self v _)) $$ [Hwt HW]
  · isplitl [Hwt] <;> iassumption
  iintro ⟨Hwt, HW⟩
  ihave Hxc := (xc_done I c (lx 1 (lc c))) $$ HX
  ihave Hwc := (wc_done I c (lx 1 (lc c))) $$ HW
  iapply (ldAll c xcM off0) $$ Hxc
  iintro Hxc
  iapply (ret_step c)
  iapply Hk
  isplitl [Hxb]; · iexact Hxb
  isplitl [Hwt]; · iexact Hwt
  isplitl [Hxc]; · iexact Hxc
  iexact Hwc

theorem part10 {Q : _ → sProp 𝕄} :
    iprop(own c xcM fullShare (XC I c (lx 1 (lc c))) ∗ own c wcM fullShare (WC I c (lx 1 (lc c))) ∗ wbs I c)
      ⊢ iprop((own c xcM fullShare (XC I c (lx 1 (lc c))) ∗ own c wcM fullShare (WC I c (lx 1 (lc c))) ∗ wbs I c -∗ Q (PB I c (lx 1 (lc c))))
        -∗ wpB c (atBufs (k0_part10 (F := F)) k0_pay36 (XC I c (lx 1 (lc c)))) Q) := by
  unfold wbs
  simp only [atBufs, k0_part10_eq_skeleton]
  unfold k0_part10_skel
  simp only [Prog.lift, Prog.bind_op, Prog.bind_ret, Prog.pure_eq_ret]
  iintro ⟨Hxc, Hwc, Hb0, Hb1, Hb2, Hb3⟩ Hk
  iapply (ld c wbM (inb' := inb_wb 0) rfl) $$ Hb0
  iintro Hb0
  iapply (ldR c wcM (inb' := inb_wcol 0) rfl) $$ Hwc
  iintro Hwc
  iapply (mm I c _ 1 off0 rfl rfl) $$ [Hxc Hb1 Hwc]
  · isplitl [Hxc]; · iexact Hxc
    isplitl [Hb1] <;> iassumption
  iintro ⟨Hxc, Hb1, Hwc⟩
  iapply (mm I c _ 2 off0 rfl rfl) $$ [Hxc Hb2 Hwc]
  · isplitl [Hxc]; · iexact Hxc
    isplitl [Hb2] <;> iassumption
  iintro ⟨Hxc, Hb2, Hwc⟩
  iapply (mm I c _ 3 off0 rfl rfl) $$ [Hxc Hb3 Hwc]
  · isplitl [Hxc]; · iexact Hxc
    isplitl [Hb3] <;> iassumption
  iintro ⟨Hxc, Hb3, Hwc⟩
  iapply (ret_eq c (a' := PB I c (lx 1 (lc c))) rfl)
  iapply Hk
  isplitl [Hxc]; · iexact Hxc
  isplitl [Hwc]; · iexact Hwc
  isplitl [Hb0]; · iexact Hb0
  isplitl [Hb1]; · iexact Hb1
  isplitl [Hb2]; · iexact Hb2
  iexact Hb3

end Cert.KernelIdeal.Exch

end
-- ==== Proof.PartsC.lean ====
/-
# The remaining blocks and their exchange

Parts 11 to 18 of the program: sending partner 1's block, gathering, multiplying and sending partner 0's, then the
device's own block, and the waits for the three blocks its partners send.
-/
module

public import proofs.«01_k».proof.Proof.PartsB

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

/-- A received block, at the shape it is read at. -/
theorem land_prP (k : Fin 3) : landPay I c (.prs k) ⊢ own c (prP k) fullShare (PRS I c k) := by
  show own c (prQ k) fullShare (PB I (pp k c) (lc c)) ⊢ _
  rw [own_squeeze]
  exact Idealize.SL.BI.Entails.refl _

theorem part11 (v9 v10 v15 : BitVec 32) {Q : _ → sProp 𝕄} :
    iprop(env I K ∗ owe c 7 ∗ some' c (parB (lx 1 (lc c))) ∗ some' (pp 1 c) (prQ 1) ∗ tx (.prs 1) c
        ∗ own c xbM fullShare (I.x c) ∗ own c wtM fullShare (WT I c) ∗ xcF I c (lx 0 (lc c)) 0 ∗ wcF I c (lx 0 (lc c)) 0)
      ⊢ iprop((∀ w v, sent (.prs 1) c ∗ owe c 8
            ∗ own c xbM fullShare (I.x c) ∗ own c wtM fullShare (WT I c) ∗ (some' c (xcP 1) ∗ (own c (xcP 1) fullShare (XCp I c (lx 0 (lc c)) 1) -∗ xcF I c (lx 0 (lc c)) 2)) ∗ wcF I c (lx 0 (lc c)) 1 -∗ Q ⟨w, XCp I c (lx 0 (lc c)) 1, v⟩)
        -∗ wpB c (atBufs (k0_part11 (F := F)) c v9 v10 v15 (PB I c (lx 1 (lc c)))) Q) := by
  unfold owe
  simp only [atBufs, k0_part11_eq_skeleton]
  unfold k0_part11_skel
  simp only [Prog.lift, Prog.bind_op, Prog.bind_ret, Prog.pure_eq_ret]
  iintro ⟨#HE, HO, HP, Hs, Ht, Hxb, Hwt, HX, HW⟩ Hk
  iapply (put c parM (inb' := inb_blk (lx 1 (lc c))) (w' := PB I c (lx 1 (lc c))) (off7 c) (shapeCast_self _ _)) $$ HP
  iintro HP
  iapply (send_prs I K c 1 (dues.drop 8) (dev8 c _) (piece_congr parM (off8 c) _ _) rfl rfl rfl) $$ [HP Hs HO Ht]
  · isplitr; · iexact HE
    isplitl [HP]; · iexact HP
    isplitl [Hs]; · iexact Hs
    isplitl [HO]; · iexact HO
    iexact Ht
  iintro ⟨Ht, HO⟩
  iapply (cpX I c _ 0 0 rfl (so := k0_off9 c 0#32) (off9 c 0) rfl (fun v => shapeCast_self v _)) $$ [Hxb HX]
  · isplitl [Hxb] <;> iassumption
  iintro ⟨Hxb, HX⟩
  iapply (cpW I c _ 0 0 rfl (so := k0_off10 c 0#32) (off10 c 0) rfl (fun v => shapeCast_self v _)) $$ [Hwt HW]
  · isplitl [Hwt] <;> iassumption
  iintro ⟨Hwt, HW⟩
  iapply (ldR c xbM (off := k0_off9 c 512#32) (inb' := inb_xrow 1 (lx 0 (lc c))) (off9 c 1)) $$ Hxb
  iintro Hxb
  ihave HX := (fill_take _ _ 1 1 rfl) $$ HX
  icases HX with ⟨H, HX⟩
  iapply (ldS c xcM (inb' := inb_xc 1) rfl) $$ H
  iintro %v H
  unfold XCp
  iapply (ret_step c)
  iapply Hk
  isplitl [Ht]; · iexact Ht
  isplitl [HO]; · iexact HO
  isplitl [Hxb]; · iexact Hxb
  isplitl [Hwt]; · iexact Hwt
  isplitl [H HX]
  · isplitl [H]; · iexact H
    iexact HX
  iexact HW

theorem part12 (v9 w : BitVec 32) (v : Vec F S128x512 .bf16) {Q : _ → sProp 𝕄} :
    iprop(own c xbM fullShare (I.x c) ∗ own c wtM fullShare (WT I c) ∗ (some' c (xcP 1) ∗ (own c (xcP 1) fullShare (XCp I c (lx 0 (lc c)) 1) -∗ xcF I c (lx 0 (lc c)) 2)) ∗ wcF I c (lx 0 (lc c)) 1)
      ⊢ iprop((own c xbM fullShare (I.x c) ∗ own c wtM fullShare (WT I c) ∗ own c xcM fullShare (XC I c (lx 0 (lc c))) ∗ own c wcM fullShare (WC I c (lx 0 (lc c))) -∗ Q k0_pay47)
        -∗ wpB c (atBufs (k0_part12 (F := F)) c v9 w (XCp I c (lx 0 (lc c)) 1) v) Q) := by
  simp only [atBufs, k0_part12_eq_skeleton]
  unfold k0_part12_skel
  simp only [Prog.lift, Prog.bind_op, Prog.bind_ret, Prog.pure_eq_ret]
  iintro ⟨Hxb, Hwt, ⟨H, HX⟩, HW⟩ Hk
  iapply (stS c xcM (inb' := inb_xc 1) (w' := XCp I c (lx 0 (lc c)) 1) rfl (shapeCast_self _ _)) $$ H
  iintro H
  ihave HX := HX $$ H
  iapply (cpW I c _ 1 1 rfl (so := k0_off10 c 512#32) (off10 c 1) rfl (fun v => shapeCast_self v _)) $$ [Hwt HW]
  · isplitl [Hwt] <;> iassumption
  iintro ⟨Hwt, HW⟩
  iapply (cpX I c _ 2 2 rfl (so := k0_off9 c 1024#32) (off9 c 2) rfl (fun v => shapeCast_self v _)) $$ [Hxb HX]
  · isplitl [Hxb] <;> iassumption
  iintro ⟨Hxb, HX⟩
  iapply (cpW I c _ 2 2 rfl (so := k0_off10 c 1024#32) (off10 c 2) rfl (fun v => shapeCast_self v _)) $$ [Hwt HW]
  · isplitl [Hwt] <;> iassumption
  iintro ⟨Hwt, HW⟩
  iapply (cpX I c _ 3 3 rfl (so := k0_off9 c 1536#32) (off9 c 3) rfl (fun v => shapeCast_self v _)) $$ [Hxb HX]
  · isplitl [Hxb] <;> iassumption
  iintro ⟨Hxb, HX⟩
  iapply (cpW I c _ 3 3 rfl (so := k0_off10 c 1536#32) (off10 c 3) rfl (fun v => shapeCast_self v _)) $$ [Hwt HW]
  · isplitl [Hwt] <;> iassumption
  iintro ⟨Hwt, HW⟩
  ihave Hxc := (xc_done I c (lx 0 (lc c))) $$ HX
  ihave Hwc := (wc_done I c (lx 0 (lc c))) $$ HW
  iapply (ret_step c)
  iapply Hk
  isplitl [Hxb]; · iexact Hxb
  isplitl [Hwt]; · iexact Hwt
  isplitl [Hxc]; · iexact Hxc
  iexact Hwc

theorem part13 {Q : _ → sProp 𝕄} :
    iprop(own c xcM fullShare (XC I c (lx 0 (lc c))) ∗ own c wcM fullShare (WC I c (lx 0 (lc c))) ∗ wbs I c)
      ⊢ iprop((own c xcM fullShare (XC I c (lx 0 (lc c))) ∗ own c wcM fullShare (WC I c (lx 0 (lc c))) ∗ wbs I c
          -∗ Q ⟨k0_pay48 k0_pay47 (XC I c (lx 0 (lc c))) (EW I c 0) (WCc I c (lx 0 (lc c)) 0) (XC I c (lx 0 (lc c))) (EW I c 1) (WCc I c (lx 0 (lc c)) 1) (XC I c (lx 0 (lc c))) (EW I c 2) (WCc I c (lx 0 (lc c)) 2), k0_pay49 (XC I c (lx 0 (lc c))) (EW I c 3), k0_pay50 (WCc I c (lx 0 (lc c)) 3)⟩)
        -∗ wpB c (atBufs (k0_part13 (F := F)) k0_pay47) Q) := by
  unfold wbs
  simp only [atBufs, k0_part13_eq_skeleton]
  unfold k0_part13_skel
  simp only [Prog.lift, Prog.bind_op, Prog.bind_ret, Prog.pure_eq_ret]
  iintro ⟨Hxc, Hwc, Hb0, Hb1, Hb2, Hb3⟩ Hk
  iapply (mm I c _ 0 off0 rfl rfl) $$ [Hxc Hb0 Hwc]
  · isplitl [Hxc]; · iexact Hxc
    isplitl [Hb0] <;> iassumption
  iintro ⟨Hxc, Hb0, Hwc⟩
  iapply (mm I c _ 1 off0 rfl rfl) $$ [Hxc Hb1 Hwc]
  · isplitl [Hxc]; · iexact Hxc
    isplitl [Hb1] <;> iassumption
  iintro ⟨Hxc, Hb1, Hwc⟩
  iapply (mm I c _ 2 off0 rfl rfl) $$ [Hxc Hb2 Hwc]
  · isplitl [Hxc]; · iexact Hxc
    isplitl [Hb2] <;> iassumption
  iintro ⟨Hxc, Hb2, Hwc⟩
  iapply (mm I c _ 3 off0 rfl rfl) $$ [Hxc Hb3 Hwc]
  · isplitl [Hxc]; · iexact Hxc
    isplitl [Hb3] <;> iassumption
  iintro ⟨Hxc, Hb3, Hwc⟩
  iapply (ret_step c)
  iapply Hk
  isplitl [Hxc]; · iexact Hxc
  isplitl [Hwc]; · iexact Hwc
  isplitl [Hb0]; · iexact Hb0
  isplitl [Hb1]; · iexact Hb1
  isplitl [Hb2]; · iexact Hb2
  iexact Hb3

theorem part14 (v4 v9 v13 : BitVec 32) {Q : _ → sProp 𝕄} :
    iprop(env I K ∗ owe c 8 ∗ some' c (parB (lx 0 (lc c))) ∗ some' (pp 0 c) (prQ 0) ∗ tx (.prs 0) c
        ∗ own c xbM fullShare (I.x c) ∗ own c wtM fullShare (WT I c) ∗ xcF I c (lc c) 0 ∗ wcF I c (lc c) 0)
      ⊢ iprop((∀ w, sent (.prs 0) c ∗ owe c 9
            ∗ own c xbM fullShare (I.x c) ∗ own c wtM fullShare (WT I c) ∗ xcF I c (lc c) 1 ∗ wcF I c (lc c) 1 -∗ Q ⟨w, XCp I c (lc c) 1⟩)
        -∗ wpB c (atBufs (k0_part14 (F := F)) c v4 v9 v13
          (k0_pay48 k0_pay47 (XC I c (lx 0 (lc c))) (EW I c 0) (WCc I c (lx 0 (lc c)) 0) (XC I c (lx 0 (lc c))) (EW I c 1) (WCc I c (lx 0 (lc c)) 1) (XC I c (lx 0 (lc c))) (EW I c 2) (WCc I c (lx 0 (lc c)) 2)) (k0_pay49 (XC I c (lx 0 (lc c))) (EW I c 3)) (k0_pay50 (WCc I c (lx 0 (lc c)) 3))) Q) := by
  unfold owe
  simp only [atBufs, k0_part14_eq_skeleton]
  unfold k0_part14_skel
  simp only [Prog.lift, Prog.bind_op, Prog.bind_ret, Prog.pure_eq_ret]
  iintro ⟨#HE, HO, HP, Hs, Ht, Hxb, Hwt, HX, HW⟩ Hk
  iapply (put c parM (inb' := inb_blk (lx 0 (lc c))) (w' := PB I c (lx 0 (lc c))) (off11 c) (shapeCast_self _ _)) $$ HP
  iintro HP
  iapply (send_prs I K c 0 (dues.drop 9) (dev9 c _) (piece_congr parM (off12 c) _ _) rfl rfl rfl) $$ [HP Hs HO Ht]
  · isplitr; · iexact HE
    isplitl [HP]; · iexact HP
    isplitl [Hs]; · iexact Hs
    isplitl [HO]; · iexact HO
    iexact Ht
  iintro ⟨Ht, HO⟩
  iapply (cpX I c _ 0 0 rfl (so := k0_off13 c 0#32) (off13 c 0) rfl (fun v => shapeCast_self v _)) $$ [Hxb HX]
  · isplitl [Hxb] <;> iassumption
  iintro ⟨Hxb, HX⟩
  iapply (cpW I c _ 0 0 rfl (so := k0_off14 c 0#32) (off14 c 0) rfl (fun v => shapeCast_self v _)) $$ [Hwt HW]
  · isplitl [Hwt] <;> iassumption
  iintro ⟨Hwt, HW⟩
  iapply (ldR c xbM (off := k0_off13 c 512#32) (inb' := inb_xrow 1 (lc c)) (off13 c 1)) $$ Hxb
  iintro Hxb
  unfold XCp
  iapply (ret_step c)
  iapply Hk
  isplitl [Ht]; · iexact Ht
  isplitl [HO]; · iexact HO
  isplitl [Hxb]; · iexact Hxb
  isplitl [Hwt]; · iexact Hwt
  isplitl [HX]; · iexact HX
  iexact HW

theorem part15 (v4 w : BitVec 32) {Q : _ → sProp 𝕄} :
    iprop(own c xbM fullShare (I.x c) ∗ own c wtM fullShare (WT I c) ∗ xcF I c (lc c) 1 ∗ wcF I c (lc c) 1)
      ⊢ iprop((own c xbM fullShare (I.x c) ∗ own c wtM fullShare (WT I c) ∗ own c xcM fullShare (XC I c (lc c)) ∗ own c wcM fullShare (WC I c (lc c))
          -∗ Q (Scalar.ofBits .f32 0x00000000#32))
        -∗ wpB c (atBufs (k0_part15 (F := F)) c v4 w (XCp I c (lc c) 1)) Q) := by
  simp only [atBufs, k0_part15_eq_skeleton]
  unfold k0_part15_skel
  simp only [Prog.lift, Prog.bind_op, Prog.bind_ret, Prog.pure_eq_ret]
  iintro ⟨Hxb, Hwt, HX, HW⟩ Hk
  iapply (fillPut c xcM (do' := fun p => ![128 * p.val, 0]) (idb := inb_xc) (A := fun p => own c (xcP p) fullShare (XCp I c (lc c) p)) 1 1 rfl rfl
    (w' := XCp I c (lc c) 1) (shapeCast_self _ _) (Idealize.SL.BI.Entails.refl _)) $$ HX
  iintro HX
  iapply (cpW I c _ 1 1 rfl (so := k0_off14 c 512#32) (off14 c 1) rfl (fun v => shapeCast_self v _)) $$ [Hwt HW]
  · isplitl [Hwt] <;> iassumption
  iintro ⟨Hwt, HW⟩
  iapply (cpX I c _ 2 2 rfl (so := k0_off13 c 1024#32) (off13 c 2) rfl (fun v => shapeCast_self v _)) $$ [Hxb HX]
  · isplitl [Hxb] <;> iassumption
  iintro ⟨Hxb, HX⟩
  iapply (cpW I c _ 2 2 rfl (so := k0_off14 c 1024#32) (off14 c 2) rfl (fun v => shapeCast_self v _)) $$ [Hwt HW]
  · isplitl [Hwt] <;> iassumption
  iintro ⟨Hwt, HW⟩
  iapply (cpX I c _ 3 3 rfl (so := k0_off13 c 1536#32) (off13 c 3) rfl (fun v => shapeCast_self v _)) $$ [Hxb HX]
  · isplitl [Hxb] <;> iassumption
  iintro ⟨Hxb, HX⟩
  iapply (cpW I c _ 3 3 rfl (so := k0_off14 c 1536#32) (off14 c 3) rfl (fun v => shapeCast_self v _)) $$ [Hwt HW]
  · isplitl [Hwt] <;> iassumption
  iintro ⟨Hwt, HW⟩
  ihave Hxc := (xc_done I c (lc c)) $$ HX
  ihave Hwc := (wc_done I c (lc c)) $$ HW
  iapply (ret_step c)
  iapply Hk
  isplitl [Hxb]; · iexact Hxb
  isplitl [Hwt]; · iexact Hwt
  isplitl [Hxc]; · iexact Hxc
  iexact Hwc

theorem part16 {Q : _ → sProp 𝕄} :
    iprop(own c xcM fullShare (XC I c (lc c)) ∗ own c wcM fullShare (WC I c (lc c)) ∗ wbs I c)
      ⊢ iprop((own c xcM fullShare (XC I c (lc c)) ∗ own c wcM fullShare (WC I c (lc c)) ∗ wbs I c
          -∗ Q ⟨k0_pay60 (Scalar.ofBits .f32 0x00000000#32) (XC I c (lc c)) (EW I c 0) (WCc I c (lc c) 0) (XC I c (lc c)) (EW I c 1) (WCc I c (lc c) 1) (XC I c (lc c)) (EW I c 2) (WCc I c (lc c) 2), k0_pay61 (XC I c (lc c)) (EW I c 3)⟩)
        -∗ wpB c (atBufs (k0_part16 (F := F)) (Scalar.ofBits .f32 0x00000000#32)) Q) := by
  unfold wbs
  simp only [atBufs, k0_part16_eq_skeleton]
  unfold k0_part16_skel
  simp only [Prog.lift, Prog.bind_op, Prog.bind_ret, Prog.pure_eq_ret]
  iintro ⟨Hxc, Hwc, Hb0, Hb1, Hb2, Hb3⟩ Hk
  iapply (mm I c _ 0 off0 rfl rfl) $$ [Hxc Hb0 Hwc]
  · isplitl [Hxc]; · iexact Hxc
    isplitl [Hb0] <;> iassumption
  iintro ⟨Hxc, Hb0, Hwc⟩
  iapply (mm I c _ 1 off0 rfl rfl) $$ [Hxc Hb1 Hwc]
  · isplitl [Hxc]; · iexact Hxc
    isplitl [Hb1] <;> iassumption
  iintro ⟨Hxc, Hb1, Hwc⟩
  iapply (mm I c _ 2 off0 rfl rfl) $$ [Hxc Hb2 Hwc]
  · isplitl [Hxc]; · iexact Hxc
    isplitl [Hb2] <;> iassumption
  iintro ⟨Hxc, Hb2, Hwc⟩
  iapply (ldAll c xcM off0) $$ Hxc
  iintro Hxc
  iapply (ld c wbM (inb' := inb_wb 3) rfl) $$ Hb3
  iintro Hb3
  iapply (ret_step c)
  iapply Hk
  isplitl [Hxc]; · iexact Hxc
  isplitl [Hwc]; · iexact Hwc
  isplitl [Hb0]; · iexact Hb0
  isplitl [Hb1]; · iexact Hb1
  isplitl [Hb2]; · iexact Hb2
  iexact Hb3

/-- A transfer's source is back, -/
def back (j : SIx) : sProp 𝕄 := iprop(sendPay I c j ∗ zero c (.snd j))
/-- and one has arrived. -/
def come (j : SIx) : sProp 𝕄 := iprop(landPay I c j ∗ zero c (.rcv j))

theorem part17 (v4 v17 : BitVec 32) {Q : _ → sProp 𝕄} :
    iprop(env I K ∗ owe c 9 ∗ own c wcM fullShare (WC I c (lc c)) ∗ some' c (parB (lc c)) ∗ sent (.prs 2) c ∗ rx (.prs 2) c ∗ sent (.prs 1) c)
      ⊢ iprop((∀ w, owe c 9 ∗ own c wcM fullShare (WC I c (lc c)) ∗ own c (parB (lc c)) fullShare (PB I c (lc c))
            ∗ back I c (.prs 2) ∗ come I c (.prs 2) ∗ back I c (.prs 1) -∗ Q w)
        -∗ wpB c (atBufs (k0_part17 (F := F)) c v4 v17 (k0_pay60 (Scalar.ofBits .f32 0x00000000#32) (XC I c (lc c)) (EW I c 0) (WCc I c (lc c) 0) (XC I c (lc c)) (EW I c 1) (WCc I c (lc c) 1) (XC I c (lc c)) (EW I c 2) (WCc I c (lc c) 2)) (k0_pay61 (XC I c (lc c)) (EW I c 3))) Q) := by
  unfold owe back come
  simp only [atBufs, k0_part17_eq_skeleton]
  unfold k0_part17_skel
  simp only [Prog.lift, Prog.bind_op, Prog.bind_ret, Prog.pure_eq_ret]
  iintro ⟨#HE, HO, Hwc, HP, Hs2, Hr2, Hs1⟩ Hk
  iapply (ldR c wcM (inb' := inb_wcol 3) rfl) $$ Hwc
  iintro Hwc
  iapply (put c parM (inb' := inb_blk (lc c)) (w' := PB I c (lc c)) (off15 c) (shapeCast_self _ _)) $$ HP
  iintro HP
  iapply (wait_snd I K c (.prs 2) (dues.drop 9) rfl (cr_par _ _ _)) $$ [Hs2 HO]
  · isplitr; · iexact HE
    isplitl [Hs2]; · iexact Hs2
    iexact HO
  iintro ⟨Hs2, Hs2z, HO⟩
  iapply (wait_rcv I K c (.prs 2) (dues.drop 9) (by decide) rfl rfl) $$ [Hr2 HO]
  · isplitr; · iexact HE
    isplitl [Hr2]; · iexact Hr2
    iexact HO
  iintro ⟨Hr2, Hr2z, HO⟩
  iapply (wait_snd I K c (.prs 1) (dues.drop 9) rfl (cr_par _ _ _)) $$ [Hs1 HO]
  · isplitr; · iexact HE
    isplitl [Hs1]; · iexact Hs1
    iexact HO
  iintro ⟨Hs1, Hs1z, HO⟩
  iapply (ret_step c)
  iapply Hk
  isplitl [HO]; · iexact HO
  isplitl [Hwc]; · iexact Hwc
  isplitl [HP]; · iexact HP
  isplitl [Hs2 Hs2z]
  · isplitl [Hs2]; · iexact Hs2
    iexact Hs2z
  isplitl [Hr2 Hr2z]
  · isplitl [Hr2]; · iexact Hr2
    iexact Hr2z
  isplitl [Hs1]; · iexact Hs1
  iexact Hs1z

theorem part18 (v4 v13 v15 w : BitVec 32) {Q : _ → sProp 𝕄} :
    iprop(env I K ∗ owe c 9 ∗ own c (parB (lc c)) fullShare (PB I c (lc c)) ∗ rx (.prs 1) c ∗ sent (.prs 0) c ∗ rx (.prs 0) c)
      ⊢ iprop((owe c 9 ∗ own c (parB (lc c)) fullShare (PB I c (lc c))
            ∗ (own c (prP 1) fullShare (PRS I c 1) ∗ zero c (.rcv (.prs 1))) ∗ back I c (.prs 0)
            ∗ (own c (prP 0) fullShare (PRS I c 0) ∗ zero c (.rcv (.prs 0)))
            -∗ Q ⟨k0_pay63 (PB I c (lc c)) (PRS I c 0), k0_pay64 (PRS I c 1)⟩)
        -∗ wpB c (atBufs (k0_part18 (F := F)) c v4 v13 v15 w) Q) := by
  unfold owe back
  simp only [atBufs, k0_part18_eq_skeleton]
  unfold k0_part18_skel
  simp only [Prog.lift, Prog.bind_op, Prog.bind_ret, Prog.pure_eq_ret]
  iintro ⟨#HE, HO, HP, Hr1, Hs0, Hr0⟩ Hk
  iapply (wait_rcv I K c (.prs 1) (dues.drop 9) (by decide) rfl rfl) $$ [Hr1 HO]
  · isplitr; · iexact HE
    isplitl [Hr1]; · iexact Hr1
    iexact HO
  iintro ⟨Hr1, Hr1z, HO⟩
  iapply (wait_snd I K c (.prs 0) (dues.drop 9) rfl (cr_par _ _ _)) $$ [Hs0 HO]
  · isplitr; · iexact HE
    isplitl [Hs0]; · iexact Hs0
    iexact HO
  iintro ⟨Hs0, Hs0z, HO⟩
  iapply (wait_rcv I K c (.prs 0) (dues.drop 9) (by decide) rfl rfl) $$ [Hr0 HO]
  · isplitr; · iexact HE
    isplitl [Hr0]; · iexact Hr0
    iexact HO
  iintro ⟨Hr0, Hr0z, HO⟩
  ihave Hr1 := (land_prP I c 1) $$ Hr1
  ihave Hr0 := (land_prP I c 0) $$ Hr0
  iapply (ld c parM (inb' := inb_blk (lc c)) (off15 c)) $$ HP
  iintro HP
  iapply (ld c prM (inb' := inb_slot 0) rfl) $$ Hr0
  iintro Hr0
  iapply (ld c prM (inb' := inb_slot 1) rfl) $$ Hr1
  iintro Hr1
  iapply (ret_step c)
  iapply Hk
  isplitl [HO]; · iexact HO
  isplitl [HP]; · iexact HP
  isplitl [Hr1 Hr1z]
  · isplitl [Hr1]; · iexact Hr1
    iexact Hr1z
  isplitl [Hs0 Hs0z]
  · isplitl [Hs0]; · iexact Hs0
    iexact Hs0z
  isplitl [Hr0]; · iexact Hr0
  iexact Hr0z

end Cert.KernelIdeal.Exch

end
-- ==== Proof.Chunks.lean ====
/-
# Chunks of the sums

How the plane's sum splits into chunks, what each later transfer leaves in its slot, how a received chunk becomes a
chunk of the result, and the later transfers. A chunk sent several times is lent a share at a time.
-/
module

public import proofs.«01_k».proof.Proof.PartsC

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

/-! ## The four planes and the four places -/

theorem four_px (p : Fin 4) (Φ : Fin 4 → sProp 𝕄) :
    bigSep Finset.univ Φ = iprop(Φ p ∗ Φ (px 0 p) ∗ Φ (px 1 p) ∗ Φ (px 2 p)) := by
  rw [bigSep_univ_eq_bigSepL [p, px 0 p, px 1 p, px 2 p] (by revert p; decide) (by revert p; decide)]
  rfl

theorem four_lx (l : Fin 4) (Φ : Fin 4 → sProp 𝕄) :
    bigSep Finset.univ Φ = iprop(Φ l ∗ Φ (lx 0 l) ∗ Φ (lx 1 l) ∗ Φ (lx 2 l)) := by
  rw [bigSep_univ_eq_bigSepL [l, lx 0 l, lx 1 l, lx 2 l] (by revert l; decide) (by revert l; decide)]
  rfl

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

/-- The plane's sum in its four chunks. -/
theorem cs_split : own c csM fullShare (CS I c) ⊢ iprop(own c (csP (pc c)) fullShare (CSc I c (pc c)) ∗ own c (csP (px 0 (pc c))) fullShare (CSc I c (px 0 (pc c)))
      ∗ own c (csP (px 1 (pc c))) fullShare (CSc I c (px 1 (pc c))) ∗ own c (csP (px 2 (pc c))) fullShare (CSc I c (px 2 (pc c)))) := by
  refine (tile_split (inb := inb_chk) c csM tile_chk fullShare (CS I c)).trans ?_
  rw [four_px (pc c)]
  exact Idealize.SL.BI.Entails.refl _

/-! ## What has landed, at the shape it is read at -/

/-- The reduced chunk of column partner `s` as it lies in its slot, -/
def ZAG (s : Fin 3) : Vec F S1x128x1024 .bf16 := unsq squeezes_S1x128x1024_S128x1024 (REDB I (cp s c))
/-- and the chunk of plane `b` from plane partner `k`. -/
def PGS (k : Fin 3) (b : Fin 4) : Vec F S1x128x1024 .bf16 := unsq squeezes_S1x128x1024_S128x1024 (REDB I (dv b (lx k (lc c))))

theorem land_zrP (i : Fin 3) {s : Fin 3} (h : ri i = s) : landPay I c (.zrs i) ⊢ own c (zrP s) fullShare (ZRS I c s) := by
  subst h
  show own c (zrQ (ri i)) fullShare (CSc I (cp (ri i) c) (pc c)) ⊢ _
  rw [own_squeeze]
  exact Idealize.SL.BI.Entails.refl _

theorem land_zaP (i : Fin 3) {s : Fin 3} (h : ri i = s) : landPay I c (.zag i) ⊢ own c (zaP s) fullShare (ZAG I c s) := by
  subst h
  show own c (zaQ (ri i)) fullShare (REDB I (cp (ri i) c)) ⊢ _
  rw [own_squeeze]
  exact Idealize.SL.BI.Entails.refl _

theorem land_pgo (k : Fin 3) : landPay I c (.pago k) ⊢ own c (pgP k (pc c)) fullShare (PGS I c k (pc c)) := by
  show own c (pgQ k (pc c)) fullShare (REDB I (pp k c)) ⊢ _
  rw [own_squeeze]
  exact Idealize.SL.BI.Entails.refl _

theorem land_pgP (k i : Fin 3) : landPay I c (.pag k i) ⊢ own c (pgP k (px i (pc c))) fullShare (PGS I c k (px i (pc c))) := by
  show own c (pgQ k (px i (pc c))) fullShare (REDB I (dv (px i (pc c)) (lx k (lc c)))) ⊢ _
  rw [own_squeeze]
  exact Idealize.SL.BI.Entails.refl _

/-- What a landing in a slot counts for. -/
theorem cr_qo (k : Fin 3) (off : Fin 3 → ℕ) (inb : ∀ a, off a + S1x128x1024.size a ≤ S3x512x1024.size a) :
    ((piece pgM off S1x128x1024.size inb).squeeze S128x1024 squeezes_S1x128x1024_S128x1024).view.dmaCredit = amt (.pago k) := by
  show sig.dmaCredit _ _ _ _ _ = sig.dmaCredit _ _ _ _ _
  rfl
theorem cr_qa (k i : Fin 3) (off : Fin 3 → ℕ) (inb : ∀ a, off a + S1x128x1024.size a ≤ S3x512x1024.size a) :
    ((piece pgM off S1x128x1024.size inb).squeeze S128x1024 squeezes_S1x128x1024_S128x1024).view.dmaCredit = amt (.pag k i) := by
  show sig.dmaCredit _ _ _ _ _ = sig.dmaCredit _ _ _ _ _
  rfl

/-! ## Chunks of the result -/

theorem cp_ne (s : Fin 3) : cp s c ≠ c := by revert s c; decide
theorem dv_lx_ne (k : Fin 3) (b : Fin 4) : dv b (lx k (lc c)) ≠ c := by revert k b c; decide

theorem out_own : OUTc I c c = RED I c := if_pos rfl

theorem out_of (d : Dev nD) (hd : d ≠ c) (h : S1x128x1024.Squeezes S128x1024) (hc : S1x128x1024.ShapeCasts S128x1024) :
    extf .f32 (shapeCast S128x1024 (unsq (F := F) (e := .bf16) h (REDB I d)) hc : FVec F S128x1024 .bf16) bitsLt_bf16_f32 = OUTc I c d := by
  unfold OUTc
  rw [if_neg hd, shapeCast_unsq]

section Rules
variable {α : Type}

/-- A received chunk becomes a chunk of the result. -/
theorem out_step (k : Fin 3) (b : Fin 4) {o₁ : Fin 3 → ℕ} {o₂ : Fin 2 → ℕ} (h₁ : o₁ = ![k.val, 128 * b.val, 0])
    (h₂ : o₂ = ![128 * (dv b (lx k (lc c))).val, 0]) {i₁ : ∀ a, o₁ a + S1x128x1024.size a ≤ S3x512x1024.size a}
    {i₂ i₃ : ∀ a, o₂ a + S128x1024.size a ≤ S2048x1024.size a} {g : Vec F S1x128x1024 .bf16 → Vec F S128x1024 .f32}
    (hg : ∀ v, g v = extf .f32 (shapeCast S128x1024 v shapeCasts_S1x128x1024_S128x1024 : FVec F S128x1024 .bf16) bitsLt_bf16_f32)
    {hl hl' hx hm} {kk : PUnit → Prog (TpuEff nD τ sig (Elt F) Λ₀ .tc) α} {Q : α → sProp 𝕄} :
    iprop(own c (pgP k b) fullShare (PGS I c k b) ∗ some' c (oP (dv b (lx k (lc c)))))
      ⊢ iprop((own c (pgP k b) fullShare (PGS I c k b) ∗ own c (oP (dv b (lx k (lc c)))) fullShare (OUTc I c (dv b (lx k (lc c)))) -∗ wpB c (kk ⟨⟩) Q)
        -∗ wpB c (.op (.load (cs := .vmem) pgM (Rect.unit (s := S3x512x1024) o₁ S1x128x1024.size i₁).toLoadRect hl) fun v =>
            .op (.load (cs := .vmem) oM (Rect.unit (s := S2048x1024) o₂ S128x1024.size i₂).toLoadRect hl') fun _ =>
            .op (.store (cs := .vmem) oM (Rect.unit (s := S2048x1024) o₂ S128x1024.size i₃) (g v) Finset.univ hx hm) kk) Q) := by
  iintro ⟨Hp, Ho⟩ Hk
  iapply (ld c pgM h₁) $$ Hp
  iintro Hp
  iapply (put c oM (w' := OUTc I c (dv b (lx k (lc c)))) h₂ ((hg _).trans (out_of I c _ (dv_lx_ne c k b) _ _))) $$ Ho
  iintro Ho
  iapply Hk
  isplitl [Hp]; · iexact Hp
  iexact Ho

/-! ## The remaining transfers -/

theorem send_zrs (i : Fin 3) (l : List Due) {n : Dev nD} (hn : n = tgt (.zrs i) c)
    {src : Memref sig .tc .vmem S128x1024 .bf16} (hs : src = csP (px i (pc c)))
    {dst : Memref sig (Dev.tc n : Thread nD τ).2.kind .vmem S128x1024 .bf16} (hd : dst = zrQ (ri i)) {sS sR : DmaSem sig} (hS : sS = sndS (.zrs i)) (hR : sR = rcvS (.zrs i))
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(env I K ∗ own c (csP (px i (pc c))) (fullShare) (CSc I c (px i (pc c))) ∗ some' (tgt (.zrs i) c) (zrQ (ri i)) ∗ owing c (.xf (.zrs i) :: l) ∗ tx (.zrs i) c)
      ⊢ iprop((sent (.zrs i) c ∗ owing c l -∗ wpB c (kk ⟨⟩) Q)
          -∗ wpB c (.op (.enqueueDma src (.remote (Dev.tc n : Thread nD τ) dst (.dma sS) hsc) (.dma sR) hsrc hdst hsem) kk) Q) :=
  send_step I K c (.zrs i) l hn (csP (px i (pc c))) (zrQ (ri i)) rfl (Idealize.SL.BI.Entails.refl _) (land_zrs I c i) hs hd hS hR

theorem send_zag (i : Fin 3) (l : List Due) {n : Dev nD} (hn : n = tgt (.zag i) c)
    {src : Memref sig .tc .vmem S128x1024 .bf16} (hs : src = crP (pc c))
    {dst : Memref sig (Dev.tc n : Thread nD τ).2.kind .vmem S128x1024 .bf16} (hd : dst = zaQ (ri i)) {sS sR : DmaSem sig} (hS : sS = sndS (.zag i)) (hR : sR = rcvS (.zag i))
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(env I K ∗ own c (crP (pc c)) (rest i.val) (REDB I c) ∗ some' (tgt (.zag i) c) (zaQ (ri i)) ∗ owing c (.xf (.zag i) :: l) ∗ tx (.zag i) c)
      ⊢ iprop((own c (crP (pc c)) (rest (i.val + 1)) (REDB I c) ∗ sent (.zag i) c ∗ owing c l -∗ wpB c (kk ⟨⟩) Q)
          -∗ wpB c (.op (.enqueueDma src (.remote (Dev.tc n : Thread nD τ) dst (.dma sS) hsc) (.dma sR) hsrc hdst hsem) kk) Q) := by
  iintro ⟨#HE, H, Hs, HO, Ht⟩ Hk
  ihave H := (own_half c (crP (pc c)) (rest i.val) (REDB I c)) $$ H
  icases H with ⟨H, HR⟩
  iapply (send_step I K c (.zag i) l hn (crP (pc c)) (zaQ (ri i)) rfl (q := loan i.val) (Idealize.SL.BI.Entails.refl _) (land_zag I c i) hs hd hS hR) $$ [H Hs HO Ht]
  · isplitr; · iexact HE
    isplitl [H]; · iexact H
    isplitl [Hs]; · iexact Hs
    isplitl [HO]; · iexact HO
    iexact Ht
  iintro ⟨Ht, HO⟩
  iapply Hk
  isplitl [HR]; · iexact HR
  isplitl [Ht]; · iexact Ht
  iexact HO

theorem send_pago (k : Fin 3) (l : List Due) {n : Dev nD} (hn : n = tgt (.pago k) c)
    {src : Memref sig .tc .vmem S128x1024 .bf16} (hs : src = crP (pc c))
    {dst : Memref sig (Dev.tc n : Thread nD τ).2.kind .vmem S128x1024 .bf16} (hd : dst = pgQ k (pc c)) {sS sR : DmaSem sig} (hS : sS = sndS (.pago k)) (hR : sR = rcvS (.pago k))
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(env I K ∗ own c (crP (pc c)) (rest (3 + k.val)) (REDB I c) ∗ some' (tgt (.pago k) c) (pgQ k (pc c)) ∗ owing c (.xf (.pago k) :: l) ∗ tx (.pago k) c)
      ⊢ iprop((own c (crP (pc c)) (rest (3 + k.val + 1)) (REDB I c) ∗ sent (.pago k) c ∗ owing c l -∗ wpB c (kk ⟨⟩) Q)
          -∗ wpB c (.op (.enqueueDma src (.remote (Dev.tc n : Thread nD τ) dst (.dma sS) hsc) (.dma sR) hsrc hdst hsem) kk) Q) := by
  iintro ⟨#HE, H, Hs, HO, Ht⟩ Hk
  ihave H := (own_half c (crP (pc c)) (rest (3 + k.val)) (REDB I c)) $$ H
  icases H with ⟨H, HR⟩
  iapply (send_step I K c (.pago k) l hn (crP (pc c)) (pgQ k (pc c)) rfl (q := loan (3 + k.val)) (Idealize.SL.BI.Entails.refl _) (land_pago I c k) hs hd hS hR) $$ [H Hs HO Ht]
  · isplitr; · iexact HE
    isplitl [H]; · iexact H
    isplitl [Hs]; · iexact Hs
    isplitl [HO]; · iexact HO
    iexact Ht
  iintro ⟨Ht, HO⟩
  iapply Hk
  isplitl [HR]; · iexact HR
  isplitl [Ht]; · iexact Ht
  iexact HO

theorem send_pag (k i : Fin 3) (l : List Due) {n : Dev nD} (hn : n = tgt (.pag k i) c)
    {src : Memref sig .tc .vmem S128x1024 .bf16} (hs : src = crP (px i (pc c)))
    {dst : Memref sig (Dev.tc n : Thread nD τ).2.kind .vmem S128x1024 .bf16} (hd : dst = pgQ k (px i (pc c))) {sS sR : DmaSem sig} (hS : sS = sndS (.pag k i)) (hR : sR = rcvS (.pag k i))
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(env I K ∗ own c (crP (px i (pc c))) (rest k.val) (REDB I (cp i c)) ∗ some' (tgt (.pag k i) c) (pgQ k (px i (pc c))) ∗ owing c (.xf (.pag k i) :: l) ∗ tx (.pag k i) c)
      ⊢ iprop((own c (crP (px i (pc c))) (rest (k.val + 1)) (REDB I (cp i c)) ∗ sent (.pag k i) c ∗ owing c l -∗ wpB c (kk ⟨⟩) Q)
          -∗ wpB c (.op (.enqueueDma src (.remote (Dev.tc n : Thread nD τ) dst (.dma sS) hsc) (.dma sR) hsrc hdst hsem) kk) Q) := by
  iintro ⟨#HE, H, Hs, HO, Ht⟩ Hk
  ihave H := (own_half c (crP (px i (pc c))) (rest k.val) (REDB I (cp i c))) $$ H
  icases H with ⟨H, HR⟩
  iapply (send_step I K c (.pag k i) l hn (crP (px i (pc c))) (pgQ k (px i (pc c))) rfl (q := loan k.val) (Idealize.SL.BI.Entails.refl _) (land_pag I c k i) hs hd hS hR) $$ [H Hs HO Ht]
  · isplitr; · iexact HE
    isplitl [H]; · iexact H
    isplitl [Hs]; · iexact Hs
    isplitl [HO]; · iexact HO
    iexact Ht
  iintro ⟨Ht, HO⟩
  iapply Hk
  isplitl [HR]; · iexact HR
  isplitl [Ht]; · iexact Ht
  iexact HO

end Rules

end Cert.KernelIdeal.Exch

end
-- ==== Proof.PartsD.lean ====
/-
# Reducing across planes

Parts 19 to 25 of the program: the plane's sum, its exchange with the column partners, the reduced chunk, and the
sends of that chunk.
-/
module

public import proofs.«01_k».proof.Proof.Chunks

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

theorem part19 (v3 : BitVec 32) (v21 : BitVec 32) (v25 : BitVec 32) {Q : _ → sProp 𝕄} :
    iprop(env I K ∗ owe c 9 ∗ own c (prP 2) fullShare (PRS I c 2) ∗ some' c csM ∗ some' (cp 0 c) (zrQ (ri 0)) ∗ tx (.zrs 0) c)
      ⊢ iprop((owe c 10 ∗ own c (prP 2) fullShare (PRS I c 2) ∗ own c (csP (pc c)) fullShare (CSc I c (pc c))
        ∗ own c (csP (px 1 (pc c))) fullShare (CSc I c (px 1 (pc c)))
        ∗ own c (csP (px 2 (pc c))) fullShare (CSc I c (px 2 (pc c))) ∗ sent (.zrs 0) c -∗ Q ⟨⟩)
        -∗ wpB c (atBufs (k0_part19 (F := F)) c v3 v21 v25 (k0_pay63 (PB I c (lc c)) (PRS I c 0)) (k0_pay64 (PRS I c 1))) Q) := by
  unfold owe
  simp only [atBufs, k0_part19_eq_skeleton]
  unfold k0_part19_skel
  simp only [Prog.lift, Prog.bind_op, Prog.bind_ret, Prog.pure_eq_ret]
  iintro ⟨#HE, HO, D2, Hcs, E0, Tzrs0⟩ Hk
  iapply (ld c prM (inb' := inb_slot 2) rfl) $$ D2
  iintro D2
  iapply (putAll c csM (w' := CS I c) off0 rfl) $$ Hcs
  iintro Hcs
  ihave Hcs := (cs_split I c) $$ Hcs
  icases Hcs with ⟨A, A0, A1, A2⟩
  iapply (send_zrs I K c 0 (dues.drop 10) (dev10 c _) (piece_congr csM (off := k0_off16 c 1#32) (off16 c 0) _ _) rfl rfl rfl) $$ [A0 E0 HO Tzrs0]
  · isplitr; · iexact HE
    isplitl [A0]; · iexact A0
    isplitl [E0]; · iexact E0
    isplitl [HO]; · iexact HO
    iexact Tzrs0
  iintro ⟨Szrs0, HO⟩
  iapply (ret_step c)
  iapply Hk
  isplitl [HO]; · iexact HO
  isplitl [D2]; · iexact D2
  isplitl [A]; · iexact A
  isplitl [A1]; · iexact A1
  isplitl [A2]; · iexact A2
  iexact Szrs0

theorem part20 (v3 : BitVec 32) (v21 : BitVec 32) (v29 : BitVec 32) {Q : _ → sProp 𝕄} :
    iprop(env I K ∗ owe c 10 ∗ own c (csP (px 1 (pc c))) fullShare (CSc I c (px 1 (pc c))) ∗ some' (cp 1 c) (zrQ (ri 1))
        ∗ tx (.zrs 1) c ∗ own c (csP (px 2 (pc c))) fullShare (CSc I c (px 2 (pc c))) ∗ some' (cp 2 c) (zrQ (ri 2))
        ∗ tx (.zrs 2) c ∗ sent (.zrs 0) c ∗ rx (.zrs 0) c)
      ⊢ iprop((owe c 12 ∗ sent (.zrs 1) c ∗ sent (.zrs 2) c ∗ sendPay I c (.zrs 0) ∗ zero c (.snd (.zrs 0))
        ∗ own c (zrP 2) fullShare (ZRS I c 2) ∗ zero c (.rcv (.zrs 0)) -∗ Q ⟨⟩)
        -∗ wpB c (atBufs (k0_part20 (F := F)) c v3 v21 v29) Q) := by
  unfold owe
  simp only [atBufs, k0_part20_eq_skeleton]
  unfold k0_part20_skel
  simp only [Prog.lift, Prog.bind_op, Prog.bind_ret, Prog.pure_eq_ret]
  iintro ⟨#HE, HO, A1, E1, Tzrs1, A2, E2, Tzrs2, Szrs0, Rzrs0⟩ Hk
  iapply (send_zrs I K c 1 (dues.drop 11) (dev11 c _) (piece_congr csM (off := k0_off16 c 2#32) (off16 c 1) _ _) rfl rfl rfl) $$ [A1 E1 HO Tzrs1]
  · isplitr; · iexact HE
    isplitl [A1]; · iexact A1
    isplitl [E1]; · iexact E1
    isplitl [HO]; · iexact HO
    iexact Tzrs1
  iintro ⟨Szrs1, HO⟩
  iapply (send_zrs I K c 2 (dues.drop 12) (dev12 c _) (piece_congr csM (off := k0_off16 c 3#32) (off16 c 2) _ _) rfl rfl rfl) $$ [A2 E2 HO Tzrs2]
  · isplitr; · iexact HE
    isplitl [A2]; · iexact A2
    isplitl [E2]; · iexact E2
    isplitl [HO]; · iexact HO
    iexact Tzrs2
  iintro ⟨Szrs2, HO⟩
  iapply (wait_snd I K c (.zrs 0) (dues.drop 12) rfl (cr_cs _ _ _)) $$ [Szrs0 HO]
  · isplitr; · iexact HE
    isplitl [Szrs0]; · iexact Szrs0
    iexact HO
  iintro ⟨Bzrs0, Yzrs0, HO⟩
  iapply (wait_rcv I K c (.zrs 0) (dues.drop 12) (by decide) rfl rfl) $$ [Rzrs0 HO]
  · isplitr; · iexact HE
    isplitl [Rzrs0]; · iexact Rzrs0
    iexact HO
  iintro ⟨V2, Zzrs0, HO⟩
  ihave V2 := (land_zrP I c 0 (s := 2) rfl) $$ V2
  iapply (ret_step c)
  iapply Hk
  isplitl [HO]; · iexact HO
  isplitl [Szrs1]; · iexact Szrs1
  isplitl [Szrs2]; · iexact Szrs2
  isplitl [Bzrs0]; · iexact Bzrs0
  isplitl [Yzrs0]; · iexact Yzrs0
  isplitl [V2]; · iexact V2
  iexact Zzrs0

theorem part21 (v3 : BitVec 32) (v25 : BitVec 32) (v29 : BitVec 32) {Q : _ → sProp 𝕄} :
    iprop(env I K ∗ owe c 12 ∗ sent (.zrs 1) c ∗ rx (.zrs 1) c ∗ sent (.zrs 2) c ∗ rx (.zrs 2) c
        ∗ own c (csP (pc c)) fullShare (CSc I c (pc c)))
      ⊢ iprop((owe c 12 ∗ sendPay I c (.zrs 1) ∗ zero c (.snd (.zrs 1)) ∗ own c (zrP 1) fullShare (ZRS I c 1) ∗ zero c (.rcv (.zrs 1))
        ∗ sendPay I c (.zrs 2) ∗ zero c (.snd (.zrs 2)) ∗ own c (zrP 0) fullShare (ZRS I c 0) ∗ zero c (.rcv (.zrs 2))
        ∗ own c (csP (pc c)) fullShare (CSc I c (pc c)) -∗ Q (k0_pay66 (CSc I c (pc c))))
        -∗ wpB c (atBufs (k0_part21 (F := F)) c v3 v25 v29) Q) := by
  unfold owe
  simp only [atBufs, k0_part21_eq_skeleton]
  unfold k0_part21_skel
  simp only [Prog.lift, Prog.bind_op, Prog.bind_ret, Prog.pure_eq_ret]
  iintro ⟨#HE, HO, Szrs1, Rzrs1, Szrs2, Rzrs2, A⟩ Hk
  iapply (wait_snd I K c (.zrs 1) (dues.drop 12) rfl (cr_cs _ _ _)) $$ [Szrs1 HO]
  · isplitr; · iexact HE
    isplitl [Szrs1]; · iexact Szrs1
    iexact HO
  iintro ⟨Bzrs1, Yzrs1, HO⟩
  iapply (wait_rcv I K c (.zrs 1) (dues.drop 12) (by decide) rfl rfl) $$ [Rzrs1 HO]
  · isplitr; · iexact HE
    isplitl [Rzrs1]; · iexact Rzrs1
    iexact HO
  iintro ⟨V1, Zzrs1, HO⟩
  ihave V1 := (land_zrP I c 1 (s := 1) rfl) $$ V1
  iapply (wait_snd I K c (.zrs 2) (dues.drop 12) rfl (cr_cs _ _ _)) $$ [Szrs2 HO]
  · isplitr; · iexact HE
    isplitl [Szrs2]; · iexact Szrs2
    iexact HO
  iintro ⟨Bzrs2, Yzrs2, HO⟩
  iapply (wait_rcv I K c (.zrs 2) (dues.drop 12) (by decide) rfl rfl) $$ [Rzrs2 HO]
  · isplitr; · iexact HE
    isplitl [Rzrs2]; · iexact Rzrs2
    iexact HO
  iintro ⟨V0, Zzrs2, HO⟩
  ihave V0 := (land_zrP I c 2 (s := 0) rfl) $$ V0
  iapply (ld c csM (inb' := inb_chk (pc c)) (off17 c)) $$ A
  iintro A
  iapply (ret_step c)
  iapply Hk
  isplitl [HO]; · iexact HO
  isplitl [Bzrs1]; · iexact Bzrs1
  isplitl [Yzrs1]; · iexact Yzrs1
  isplitl [V1]; · iexact V1
  isplitl [Zzrs1]; · iexact Zzrs1
  isplitl [Bzrs2]; · iexact Bzrs2
  isplitl [Yzrs2]; · iexact Yzrs2
  isplitl [V0]; · iexact V0
  isplitl [Zzrs2]; · iexact Zzrs2
  iexact A

theorem part22 (v2 : BitVec 32) (v3 : BitVec 32) (v21 : BitVec 32) {Q : _ → sProp 𝕄} :
    iprop(env I K ∗ owe c 12 ∗ own c (zrP 0) fullShare (ZRS I c 0) ∗ own c (zrP 1) fullShare (ZRS I c 1)
        ∗ own c (zrP 2) fullShare (ZRS I c 2) ∗ some' c (oP c) ∗ some' c (crP (pc c)) ∗ some' (cp 0 c) (zaQ (ri 0))
        ∗ tx (.zag 0) c)
      ⊢ iprop((owe c 13 ∗ own c (zrP 0) fullShare (ZRS I c 0) ∗ own c (zrP 1) fullShare (ZRS I c 1)
        ∗ own c (zrP 2) fullShare (ZRS I c 2) ∗ own c (oP c) fullShare (OUTc I c c) ∗ own c (crP (pc c)) (rest 1) (REDB I c)
        ∗ sent (.zag 0) c -∗ Q ⟨⟩)
        -∗ wpB c (atBufs (k0_part22 (F := F)) c v2 v3 v21 (k0_pay66 (CSc I c (pc c)))) Q) := by
  unfold owe
  simp only [atBufs, k0_part22_eq_skeleton]
  unfold k0_part22_skel
  simp only [Prog.lift, Prog.bind_op, Prog.bind_ret, Prog.pure_eq_ret]
  iintro ⟨#HE, HO, V0, V1, V2, O, C, G0, Tzag0⟩ Hk
  iapply (ld c zrM (inb' := inb_zslot 0) rfl) $$ V0
  iintro V0
  iapply (ld c zrM (inb' := inb_zslot 1) rfl) $$ V1
  iintro V1
  iapply (ld c zrM (inb' := inb_zslot 2) rfl) $$ V2
  iintro V2
  iapply (put c oM (inb' := inb_out c) (w' := OUTc I c c) (off18 c) (out_own I c).symm) $$ O
  iintro O
  iapply (put c crM (inb' := inb_chk (pc c)) (w' := REDB I c) (off17 c) rfl) $$ C
  iintro C
  iapply (send_zag I K c 0 (dues.drop 13) (dev13 c _) (piece_congr crM (off19 c) _ _) rfl rfl rfl) $$ [C G0 HO Tzag0]
  · isplitr; · iexact HE
    isplitl [C]; · iexact C
    isplitl [G0]; · iexact G0
    isplitl [HO]; · iexact HO
    iexact Tzag0
  iintro ⟨C, Szag0, HO⟩
  iapply (ret_step c)
  iapply Hk
  isplitl [HO]; · iexact HO
  isplitl [V0]; · iexact V0
  isplitl [V1]; · iexact V1
  isplitl [V2]; · iexact V2
  isplitl [O]; · iexact O
  isplitl [C]; · iexact C
  iexact Szag0

theorem part23 (v3 : BitVec 32) (v13 : BitVec 32) (v25 : BitVec 32) (v29 : BitVec 32) {Q : _ → sProp 𝕄} :
    iprop(env I K ∗ owe c 13 ∗ own c (crP (pc c)) (rest 1) (REDB I c) ∗ some' (cp 1 c) (zaQ (ri 1)) ∗ tx (.zag 1) c
        ∗ some' (cp 2 c) (zaQ (ri 2)) ∗ tx (.zag 2) c ∗ some' (pp 0 c) (pgQ 0 (pc c)) ∗ tx (.pago 0) c)
      ⊢ iprop((∀ w, owe c 16 ∗ own c (crP (pc c)) (rest 4) (REDB I c) ∗ sent (.zag 1) c ∗ sent (.zag 2) c ∗ sent (.pago 0) c -∗ Q w)
        -∗ wpB c (atBufs (k0_part23 (F := F)) c v3 v13 v25 v29) Q) := by
  unfold owe
  simp only [atBufs, k0_part23_eq_skeleton]
  unfold k0_part23_skel
  simp only [Prog.lift, Prog.bind_op, Prog.bind_ret, Prog.pure_eq_ret]
  iintro ⟨#HE, HO, C, G1, Tzag1, G2, Tzag2, H0, Tpago0⟩ Hk
  iapply (send_zag I K c 1 (dues.drop 14) (dev14 c _) (piece_congr crM (off19 c) _ _) rfl rfl rfl) $$ [C G1 HO Tzag1]
  · isplitr; · iexact HE
    isplitl [C]; · iexact C
    isplitl [G1]; · iexact G1
    isplitl [HO]; · iexact HO
    iexact Tzag1
  iintro ⟨C, Szag1, HO⟩
  iapply (send_zag I K c 2 (dues.drop 15) (dev15 c _) (piece_congr crM (off19 c) _ _) rfl rfl rfl) $$ [C G2 HO Tzag2]
  · isplitr; · iexact HE
    isplitl [C]; · iexact C
    isplitl [G2]; · iexact G2
    isplitl [HO]; · iexact HO
    iexact Tzag2
  iintro ⟨C, Szag2, HO⟩
  iapply (send_pago I K c 0 (dues.drop 16) (dev16 c _) (piece_congr crM (off19 c) _ _) (congrArg (fun m => m.squeeze S128x1024 squeezes_S1x128x1024_S128x1024) (piece_congr pgM (off20 c) _ (inb_pslot 0 (pc c)))) rfl rfl) $$ [C H0 HO Tpago0]
  · isplitr; · iexact HE
    isplitl [C]; · iexact C
    isplitl [H0]; · iexact H0
    isplitl [HO]; · iexact HO
    iexact Tpago0
  iintro ⟨C, Spago0, HO⟩
  iapply (ret_step c)
  iapply Hk
  isplitl [HO]; · iexact HO
  isplitl [C]; · iexact C
  isplitl [Szag1]; · iexact Szag1
  isplitl [Szag2]; · iexact Szag2
  iexact Spago0

theorem part24 (v3 : BitVec 32) (v15 : BitVec 32) (v17 : BitVec 32) (v21 : BitVec 32) (w : BitVec 32) {Q : _ → sProp 𝕄} :
    iprop(env I K ∗ owe c 16 ∗ own c (crP (pc c)) (rest 4) (REDB I c) ∗ some' (pp 1 c) (pgQ 1 (pc c)) ∗ tx (.pago 1) c
        ∗ some' (pp 2 c) (pgQ 2 (pc c)) ∗ tx (.pago 2) c ∗ sent (.zag 0) c)
      ⊢ iprop((owe c 18 ∗ own c (crP (pc c)) (rest 6) (REDB I c) ∗ sent (.pago 1) c ∗ sent (.pago 2) c ∗ sendPay I c (.zag 0)
        ∗ zero c (.snd (.zag 0)) -∗ Q ⟨⟩)
        -∗ wpB c (atBufs (k0_part24 (F := F)) c v3 v15 v17 v21 w) Q) := by
  unfold owe
  simp only [atBufs, k0_part24_eq_skeleton]
  unfold k0_part24_skel
  simp only [Prog.lift, Prog.bind_op, Prog.bind_ret, Prog.pure_eq_ret]
  iintro ⟨#HE, HO, C, H1, Tpago1, H2, Tpago2, Szag0⟩ Hk
  iapply (send_pago I K c 1 (dues.drop 17) (dev17 c _) (piece_congr crM (off19 c) _ _) (congrArg (fun m => m.squeeze S128x1024 squeezes_S1x128x1024_S128x1024) (piece_congr pgM (off21 c) _ (inb_pslot 1 (pc c)))) rfl rfl) $$ [C H1 HO Tpago1]
  · isplitr; · iexact HE
    isplitl [C]; · iexact C
    isplitl [H1]; · iexact H1
    isplitl [HO]; · iexact HO
    iexact Tpago1
  iintro ⟨C, Spago1, HO⟩
  iapply (send_pago I K c 2 (dues.drop 18) (dev18 c _) (piece_congr crM (off19 c) _ _) (congrArg (fun m => m.squeeze S128x1024 squeezes_S1x128x1024_S128x1024) (piece_congr pgM (off22 c) _ (inb_pslot 2 (pc c)))) rfl rfl) $$ [C H2 HO Tpago2]
  · isplitr; · iexact HE
    isplitl [C]; · iexact C
    isplitl [H2]; · iexact H2
    isplitl [HO]; · iexact HO
    iexact Tpago2
  iintro ⟨C, Spago2, HO⟩
  iapply (wait_snd I K c (.zag 0) (dues.drop 18) rfl (cr_zag _ _ _)) $$ [Szag0 HO]
  · isplitr; · iexact HE
    isplitl [Szag0]; · iexact Szag0
    iexact HO
  iintro ⟨Bzag0, Yzag0, HO⟩
  iapply (ret_step c)
  iapply Hk
  isplitl [HO]; · iexact HO
  isplitl [C]; · iexact C
  isplitl [Spago1]; · iexact Spago1
  isplitl [Spago2]; · iexact Spago2
  isplitl [Bzag0]; · iexact Bzag0
  iexact Yzag0

theorem part25 (v25 : BitVec 32) (v29 : BitVec 32) {Q : _ → sProp 𝕄} :
    iprop(env I K ∗ owe c 18 ∗ rx (.zag 0) c ∗ sent (.zag 1) c ∗ rx (.zag 1) c ∗ sent (.zag 2) c)
      ⊢ iprop((owe c 18 ∗ own c (zaP 2) fullShare (ZAG I c 2) ∗ zero c (.rcv (.zag 0)) ∗ sendPay I c (.zag 1) ∗ zero c (.snd (.zag 1))
        ∗ own c (zaP 1) fullShare (ZAG I c 1) ∗ zero c (.rcv (.zag 1)) ∗ sendPay I c (.zag 2) ∗ zero c (.snd (.zag 2)) -∗ Q ⟨⟩)
        -∗ wpB c (atBufs (k0_part25 (F := F)) c v25 v29) Q) := by
  unfold owe
  simp only [atBufs, k0_part25_eq_skeleton]
  unfold k0_part25_skel
  simp only [Prog.lift, Prog.bind_op, Prog.bind_ret, Prog.pure_eq_ret]
  iintro ⟨#HE, HO, Rzag0, Szag1, Rzag1, Szag2⟩ Hk
  iapply (wait_rcv I K c (.zag 0) (dues.drop 18) (by decide) rfl rfl) $$ [Rzag0 HO]
  · isplitr; · iexact HE
    isplitl [Rzag0]; · iexact Rzag0
    iexact HO
  iintro ⟨W2, Zzag0, HO⟩
  ihave W2 := (land_zaP I c 0 (s := 2) rfl) $$ W2
  iapply (wait_snd I K c (.zag 1) (dues.drop 18) rfl (cr_zag _ _ _)) $$ [Szag1 HO]
  · isplitr; · iexact HE
    isplitl [Szag1]; · iexact Szag1
    iexact HO
  iintro ⟨Bzag1, Yzag1, HO⟩
  iapply (wait_rcv I K c (.zag 1) (dues.drop 18) (by decide) rfl rfl) $$ [Rzag1 HO]
  · isplitr; · iexact HE
    isplitl [Rzag1]; · iexact Rzag1
    iexact HO
  iintro ⟨W1, Zzag1, HO⟩
  ihave W1 := (land_zaP I c 1 (s := 1) rfl) $$ W1
  iapply (wait_snd I K c (.zag 2) (dues.drop 18) rfl (cr_zag _ _ _)) $$ [Szag2 HO]
  · isplitr; · iexact HE
    isplitl [Szag2]; · iexact Szag2
    iexact HO
  iintro ⟨Bzag2, Yzag2, HO⟩
  iapply (ret_step c)
  iapply Hk
  isplitl [HO]; · iexact HO
  isplitl [W2]; · iexact W2
  isplitl [Zzag0]; · iexact Zzag0
  isplitl [Bzag1]; · iexact Bzag1
  isplitl [Yzag1]; · iexact Yzag1
  isplitl [W1]; · iexact W1
  isplitl [Zzag1]; · iexact Zzag1
  isplitl [Bzag2]; · iexact Bzag2
  iexact Yzag2

end Cert.KernelIdeal.Exch

end
-- ==== Proof.PartsE.lean ====
/-
# Passing the reduced chunks on

Parts 26 to 31 of the program: the column partners' chunks go into the result and on to the plane partners.
-/
module

public import proofs.«01_k».proof.Proof.PartsD

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

theorem cr_of (s : Fin 3) : k0_pay69 (ZAG I c s) = REDB I (cp s c) := by
  unfold k0_pay69 ZAG
  dsimp only
  rw [shapeCast_self, shapeCast_unsq]

theorem part26 (v3 : BitVec 32) (v4 : BitVec 32) {Q : _ → sProp 𝕄} :
    iprop(env I K ∗ owe c 18 ∗ rx (.zag 2) c ∗ some' c (crP (px 0 (pc c))) ∗ some' c (oP (cp 0 c))
        ∗ own c (zaP 1) fullShare (ZAG I c 1) ∗ some' c (crP (px 1 (pc c))))
      ⊢ iprop((∀ w, owe c 18 ∗ own c (zaP 0) fullShare (ZAG I c 0) ∗ zero c (.rcv (.zag 2))
        ∗ own c (crP (px 0 (pc c))) (rest 0) (REDB I (cp 0 c)) ∗ own c (oP (cp 0 c)) fullShare (OUTc I c (cp 0 c))
        ∗ own c (zaP 1) fullShare (ZAG I c 1) ∗ some' c (crP (px 1 (pc c))) -∗ Q ⟨w, k0_pay71 (ZAG I c 1)⟩)
        -∗ wpB c (atBufs (k0_part26 (F := F)) c v3 v4) Q) := by
  unfold owe
  simp only [atBufs, k0_part26_eq_skeleton]
  unfold k0_part26_skel
  simp only [Prog.lift, Prog.bind_op, Prog.bind_ret, Prog.pure_eq_ret]
  iintro ⟨#HE, HO, Rzag2, X0, O0, W1, X1⟩ Hk
  iapply (wait_rcv I K c (.zag 2) (dues.drop 18) (by decide) rfl rfl) $$ [Rzag2 HO]
  · isplitr; · iexact HE
    isplitl [Rzag2]; · iexact Rzag2
    iexact HO
  iintro ⟨W0, Zzag2, HO⟩
  ihave W0 := (land_zaP I c 2 (s := 0) rfl) $$ W0
  iapply (ld c zaM (inb' := inb_zslot 0) rfl) $$ W0
  iintro W0
  iapply (put c crM (off := k0_off23 c 0#32) (inb' := inb_chk (px 0 (pc c))) (w' := REDB I (cp 0 c)) (off23 c 0) (cr_of I c 0)) $$ X0
  iintro X0
  iapply (ld c zaM (inb' := inb_zslot 0) rfl) $$ W0
  iintro W0
  iapply (put c oM (off := k0_off24 c 0#32) (inb' := inb_out (cp 0 c)) (w' := OUTc I c (cp 0 c)) (off24 c 0) (out_of I c _ (cp_ne c 0) _ _)) $$ O0
  iintro O0
  iapply (ld c zaM (inb' := inb_zslot 1) rfl) $$ W1
  iintro W1
  iapply (ldS c crM (off := k0_off23 c 1#32) (inb' := inb_chk (px 1 (pc c))) (off23 c 1)) $$ X1
  iintro %v X1
  iapply (ret_step c)
  iapply Hk
  isplitl [HO]; · iexact HO
  isplitl [W0]; · iexact W0
  isplitl [Zzag2]; · iexact Zzag2
  isplitl [X0]; · iexact X0
  isplitl [O0]; · iexact O0
  isplitl [W1]; · iexact W1
  iexact X1

theorem part27 (v3 : BitVec 32) (v4 : BitVec 32) (w : BitVec 32) {Q : _ → sProp 𝕄} :
    iprop(some' c (crP (px 1 (pc c))) ∗ own c (zaP 1) fullShare (ZAG I c 1) ∗ some' c (oP (cp 1 c))
        ∗ own c (zaP 2) fullShare (ZAG I c 2) ∗ some' c (crP (px 2 (pc c))) ∗ some' c (oP (cp 2 c)))
      ⊢ iprop((∀ w, own c (crP (px 1 (pc c))) (rest 0) (REDB I (cp 1 c)) ∗ own c (zaP 1) fullShare (ZAG I c 1)
        ∗ own c (oP (cp 1 c)) fullShare (OUTc I c (cp 1 c)) ∗ own c (zaP 2) fullShare (ZAG I c 2)
        ∗ own c (crP (px 2 (pc c))) (rest 0) (REDB I (cp 2 c)) ∗ own c (oP (cp 2 c)) fullShare (OUTc I c (cp 2 c)) -∗ Q w)
        -∗ wpB c (atBufs (k0_part27 (F := F)) c v3 v4 w (k0_pay71 (ZAG I c 1))) Q) := by
  simp only [atBufs, k0_part27_eq_skeleton]
  unfold k0_part27_skel
  simp only [Prog.lift, Prog.bind_op, Prog.bind_ret, Prog.pure_eq_ret]
  iintro ⟨X1, W1, O1, W2, X2, O2⟩ Hk
  iapply (stS c crM (off := k0_off23 c 1#32) (inb' := inb_chk (px 1 (pc c))) (w' := REDB I (cp 1 c)) (off23 c 1) (cr_of I c 1)) $$ X1
  iintro X1
  iapply (ld c zaM (inb' := inb_zslot 1) rfl) $$ W1
  iintro W1
  iapply (put c oM (off := k0_off24 c 1#32) (inb' := inb_out (cp 1 c)) (w' := OUTc I c (cp 1 c)) (off24 c 1) (out_of I c _ (cp_ne c 1) _ _)) $$ O1
  iintro O1
  iapply (ld c zaM (inb' := inb_zslot 2) rfl) $$ W2
  iintro W2
  iapply (put c crM (off := k0_off23 c 2#32) (inb' := inb_chk (px 2 (pc c))) (w' := REDB I (cp 2 c)) (off23 c 2) (cr_of I c 2)) $$ X2
  iintro X2
  iapply (ld c zaM (inb' := inb_zslot 2) rfl) $$ W2
  iintro W2
  iapply (put c oM (off := k0_off24 c 2#32) (inb' := inb_out (cp 2 c)) (w' := OUTc I c (cp 2 c)) (off24 c 2) (out_of I c _ (cp_ne c 2) _ _)) $$ O2
  iintro O2
  iapply (ret_step c)
  iapply Hk
  isplitl [X1]; · iexact X1
  isplitl [W1]; · iexact W1
  isplitl [O1]; · iexact O1
  isplitl [W2]; · iexact W2
  isplitl [X2]; · iexact X2
  iexact O2

theorem part28 (v3 : BitVec 32) (v13 : BitVec 32) (w : BitVec 32) {Q : _ → sProp 𝕄} :
    iprop(env I K ∗ owe c 18 ∗ own c (crP (px 0 (pc c))) (rest 0) (REDB I (cp 0 c)) ∗ some' (pp 0 c) (pgQ 0 (px 0 (pc c)))
        ∗ tx (.pag 0 0) c ∗ own c (crP (px 1 (pc c))) (rest 0) (REDB I (cp 1 c)) ∗ some' (pp 0 c) (pgQ 0 (px 1 (pc c)))
        ∗ tx (.pag 0 1) c)
      ⊢ iprop((owe c 20 ∗ own c (crP (px 0 (pc c))) (rest 1) (REDB I (cp 0 c)) ∗ sent (.pag 0 0) c
        ∗ own c (crP (px 1 (pc c))) (rest 1) (REDB I (cp 1 c)) ∗ sent (.pag 0 1) c -∗ Q ⟨⟩)
        -∗ wpB c (atBufs (k0_part28 (F := F)) c v3 v13 w) Q) := by
  unfold owe
  simp only [atBufs, k0_part28_eq_skeleton]
  unfold k0_part28_skel
  simp only [Prog.lift, Prog.bind_op, Prog.bind_ret, Prog.pure_eq_ret]
  iintro ⟨#HE, HO, X0, J00, Tpag00, X1, J01, Tpag01⟩ Hk
  iapply (send_pag I K c 0 0 (dues.drop 19) (dev19 c _) (piece_congr crM (off := k0_off16 c 1#32) (off16 c 0) _ _) (congrArg (fun m => m.squeeze S128x1024 squeezes_S1x128x1024_S128x1024) (piece_congr pgM (off := k0_off25 c 1#32) (off25 c 0) _ (inb_pslot 0 (px 0 (pc c))))) rfl rfl) $$ [X0 J00 HO Tpag00]
  · isplitr; · iexact HE
    isplitl [X0]; · iexact X0
    isplitl [J00]; · iexact J00
    isplitl [HO]; · iexact HO
    iexact Tpag00
  iintro ⟨X0, Spag00, HO⟩
  iapply (send_pag I K c 0 1 (dues.drop 20) (dev20 c _) (piece_congr crM (off := k0_off16 c 2#32) (off16 c 1) _ _) (congrArg (fun m => m.squeeze S128x1024 squeezes_S1x128x1024_S128x1024) (piece_congr pgM (off := k0_off25 c 2#32) (off25 c 1) _ (inb_pslot 0 (px 1 (pc c))))) rfl rfl) $$ [X1 J01 HO Tpag01]
  · isplitr; · iexact HE
    isplitl [X1]; · iexact X1
    isplitl [J01]; · iexact J01
    isplitl [HO]; · iexact HO
    iexact Tpag01
  iintro ⟨X1, Spag01, HO⟩
  iapply (ret_step c)
  iapply Hk
  isplitl [HO]; · iexact HO
  isplitl [X0]; · iexact X0
  isplitl [Spag00]; · iexact Spag00
  isplitl [X1]; · iexact X1
  iexact Spag01

theorem part29 (v3 : BitVec 32) (v15 : BitVec 32) {Q : _ → sProp 𝕄} :
    iprop(env I K ∗ owe c 20 ∗ own c (crP (px 2 (pc c))) (rest 0) (REDB I (cp 2 c)) ∗ some' (pp 0 c) (pgQ 0 (px 2 (pc c)))
        ∗ tx (.pag 0 2) c ∗ own c (crP (px 0 (pc c))) (rest 1) (REDB I (cp 0 c)) ∗ some' (pp 1 c) (pgQ 1 (px 0 (pc c)))
        ∗ tx (.pag 1 0) c ∗ own c (crP (px 1 (pc c))) (rest 1) (REDB I (cp 1 c)) ∗ some' (pp 1 c) (pgQ 1 (px 1 (pc c)))
        ∗ tx (.pag 1 1) c)
      ⊢ iprop((∀ w, owe c 23 ∗ own c (crP (px 2 (pc c))) (rest 1) (REDB I (cp 2 c)) ∗ sent (.pag 0 2) c
        ∗ own c (crP (px 0 (pc c))) (rest 2) (REDB I (cp 0 c)) ∗ sent (.pag 1 0) c
        ∗ own c (crP (px 1 (pc c))) (rest 2) (REDB I (cp 1 c)) ∗ sent (.pag 1 1) c -∗ Q w)
        -∗ wpB c (atBufs (k0_part29 (F := F)) c v3 v15) Q) := by
  unfold owe
  simp only [atBufs, k0_part29_eq_skeleton]
  unfold k0_part29_skel
  simp only [Prog.lift, Prog.bind_op, Prog.bind_ret, Prog.pure_eq_ret]
  iintro ⟨#HE, HO, X2, J02, Tpag02, X0, J10, Tpag10, X1, J11, Tpag11⟩ Hk
  iapply (send_pag I K c 0 2 (dues.drop 21) (dev21 c _) (piece_congr crM (off := k0_off16 c 3#32) (off16 c 2) _ _) (congrArg (fun m => m.squeeze S128x1024 squeezes_S1x128x1024_S128x1024) (piece_congr pgM (off := k0_off25 c 3#32) (off25 c 2) _ (inb_pslot 0 (px 2 (pc c))))) rfl rfl) $$ [X2 J02 HO Tpag02]
  · isplitr; · iexact HE
    isplitl [X2]; · iexact X2
    isplitl [J02]; · iexact J02
    isplitl [HO]; · iexact HO
    iexact Tpag02
  iintro ⟨X2, Spag02, HO⟩
  iapply (send_pag I K c 1 0 (dues.drop 22) (dev22 c _) (piece_congr crM (off := k0_off16 c 1#32) (off16 c 0) _ _) (congrArg (fun m => m.squeeze S128x1024 squeezes_S1x128x1024_S128x1024) (piece_congr pgM (off := k0_off26 c 1#32) (off26 c 0) _ (inb_pslot 1 (px 0 (pc c))))) rfl rfl) $$ [X0 J10 HO Tpag10]
  · isplitr; · iexact HE
    isplitl [X0]; · iexact X0
    isplitl [J10]; · iexact J10
    isplitl [HO]; · iexact HO
    iexact Tpag10
  iintro ⟨X0, Spag10, HO⟩
  iapply (send_pag I K c 1 1 (dues.drop 23) (dev23 c _) (piece_congr crM (off := k0_off16 c 2#32) (off16 c 1) _ _) (congrArg (fun m => m.squeeze S128x1024 squeezes_S1x128x1024_S128x1024) (piece_congr pgM (off := k0_off26 c 2#32) (off26 c 1) _ (inb_pslot 1 (px 1 (pc c))))) rfl rfl) $$ [X1 J11 HO Tpag11]
  · isplitr; · iexact HE
    isplitl [X1]; · iexact X1
    isplitl [J11]; · iexact J11
    isplitl [HO]; · iexact HO
    iexact Tpag11
  iintro ⟨X1, Spag11, HO⟩
  iapply (ret_step c)
  iapply Hk
  isplitl [HO]; · iexact HO
  isplitl [X2]; · iexact X2
  isplitl [Spag02]; · iexact Spag02
  isplitl [X0]; · iexact X0
  isplitl [Spag10]; · iexact Spag10
  isplitl [X1]; · iexact X1
  iexact Spag11

theorem part30 (v3 : BitVec 32) (v15 : BitVec 32) (v17 : BitVec 32) (w : BitVec 32) {Q : _ → sProp 𝕄} :
    iprop(env I K ∗ owe c 23 ∗ own c (crP (px 2 (pc c))) (rest 1) (REDB I (cp 2 c)) ∗ some' (pp 1 c) (pgQ 1 (px 2 (pc c)))
        ∗ tx (.pag 1 2) c ∗ own c (crP (px 0 (pc c))) (rest 2) (REDB I (cp 0 c)) ∗ some' (pp 2 c) (pgQ 2 (px 0 (pc c)))
        ∗ tx (.pag 2 0) c)
      ⊢ iprop((owe c 25 ∗ own c (crP (px 2 (pc c))) (rest 2) (REDB I (cp 2 c)) ∗ sent (.pag 1 2) c
        ∗ own c (crP (px 0 (pc c))) (rest 3) (REDB I (cp 0 c)) ∗ sent (.pag 2 0) c -∗ Q ⟨⟩)
        -∗ wpB c (atBufs (k0_part30 (F := F)) c v3 v15 v17 w) Q) := by
  unfold owe
  simp only [atBufs, k0_part30_eq_skeleton]
  unfold k0_part30_skel
  simp only [Prog.lift, Prog.bind_op, Prog.bind_ret, Prog.pure_eq_ret]
  iintro ⟨#HE, HO, X2, J12, Tpag12, X0, J20, Tpag20⟩ Hk
  iapply (send_pag I K c 1 2 (dues.drop 24) (dev24 c _) (piece_congr crM (off := k0_off16 c 3#32) (off16 c 2) _ _) (congrArg (fun m => m.squeeze S128x1024 squeezes_S1x128x1024_S128x1024) (piece_congr pgM (off := k0_off26 c 3#32) (off26 c 2) _ (inb_pslot 1 (px 2 (pc c))))) rfl rfl) $$ [X2 J12 HO Tpag12]
  · isplitr; · iexact HE
    isplitl [X2]; · iexact X2
    isplitl [J12]; · iexact J12
    isplitl [HO]; · iexact HO
    iexact Tpag12
  iintro ⟨X2, Spag12, HO⟩
  iapply (send_pag I K c 2 0 (dues.drop 25) (dev25 c _) (piece_congr crM (off := k0_off16 c 1#32) (off16 c 0) _ _) (congrArg (fun m => m.squeeze S128x1024 squeezes_S1x128x1024_S128x1024) (piece_congr pgM (off := k0_off27 c 1#32) (off27 c 0) _ (inb_pslot 2 (px 0 (pc c))))) rfl rfl) $$ [X0 J20 HO Tpag20]
  · isplitr; · iexact HE
    isplitl [X0]; · iexact X0
    isplitl [J20]; · iexact J20
    isplitl [HO]; · iexact HO
    iexact Tpag20
  iintro ⟨X0, Spag20, HO⟩
  iapply (ret_step c)
  iapply Hk
  isplitl [HO]; · iexact HO
  isplitl [X2]; · iexact X2
  isplitl [Spag12]; · iexact Spag12
  isplitl [X0]; · iexact X0
  iexact Spag20

theorem part31 (v3 : BitVec 32) (v13 : BitVec 32) (v17 : BitVec 32) {Q : _ → sProp 𝕄} :
    iprop(env I K ∗ owe c 25 ∗ own c (crP (px 1 (pc c))) (rest 2) (REDB I (cp 1 c)) ∗ some' (pp 2 c) (pgQ 2 (px 1 (pc c)))
        ∗ tx (.pag 2 1) c ∗ own c (crP (px 2 (pc c))) (rest 2) (REDB I (cp 2 c)) ∗ some' (pp 2 c) (pgQ 2 (px 2 (pc c)))
        ∗ tx (.pag 2 2) c ∗ sent (.pago 0) c)
      ⊢ iprop((owe c 27 ∗ own c (crP (px 1 (pc c))) (rest 3) (REDB I (cp 1 c)) ∗ sent (.pag 2 1) c
        ∗ own c (crP (px 2 (pc c))) (rest 3) (REDB I (cp 2 c)) ∗ sent (.pag 2 2) c ∗ sendPay I c (.pago 0)
        ∗ zero c (.snd (.pago 0)) -∗ Q ⟨⟩)
        -∗ wpB c (atBufs (k0_part31 (F := F)) c v3 v13 v17) Q) := by
  unfold owe
  simp only [atBufs, k0_part31_eq_skeleton]
  unfold k0_part31_skel
  simp only [Prog.lift, Prog.bind_op, Prog.bind_ret, Prog.pure_eq_ret]
  iintro ⟨#HE, HO, X1, J21, Tpag21, X2, J22, Tpag22, Spago0⟩ Hk
  iapply (send_pag I K c 2 1 (dues.drop 26) (dev26 c _) (piece_congr crM (off := k0_off16 c 2#32) (off16 c 1) _ _) (congrArg (fun m => m.squeeze S128x1024 squeezes_S1x128x1024_S128x1024) (piece_congr pgM (off := k0_off27 c 2#32) (off27 c 1) _ (inb_pslot 2 (px 1 (pc c))))) rfl rfl) $$ [X1 J21 HO Tpag21]
  · isplitr; · iexact HE
    isplitl [X1]; · iexact X1
    isplitl [J21]; · iexact J21
    isplitl [HO]; · iexact HO
    iexact Tpag21
  iintro ⟨X1, Spag21, HO⟩
  iapply (send_pag I K c 2 2 (dues.drop 27) (dev27 c _) (piece_congr crM (off := k0_off16 c 3#32) (off16 c 2) _ _) (congrArg (fun m => m.squeeze S128x1024 squeezes_S1x128x1024_S128x1024) (piece_congr pgM (off := k0_off27 c 3#32) (off27 c 2) _ (inb_pslot 2 (px 2 (pc c))))) rfl rfl) $$ [X2 J22 HO Tpag22]
  · isplitr; · iexact HE
    isplitl [X2]; · iexact X2
    isplitl [J22]; · iexact J22
    isplitl [HO]; · iexact HO
    iexact Tpag22
  iintro ⟨X2, Spag22, HO⟩
  iapply (wait_snd I K c (.pago 0) (dues.drop 27) rfl (cr_pago _ _ _)) $$ [Spago0 HO]
  · isplitr; · iexact HE
    isplitl [Spago0]; · iexact Spago0
    iexact HO
  iintro ⟨Bpago0, Ypago0, HO⟩
  iapply (ret_step c)
  iapply Hk
  isplitl [HO]; · iexact HO
  isplitl [X1]; · iexact X1
  isplitl [Spag21]; · iexact Spag21
  isplitl [X2]; · iexact X2
  isplitl [Spag22]; · iexact Spag22
  isplitl [Bpago0]; · iexact Bpago0
  iexact Ypago0

end Cert.KernelIdeal.Exch

end
-- ==== Proof.PartsF.lean ====
/-
# The last waits

Parts 32 to 38 of the program: the waits for the passed chunks, and the first of them into the result.
-/
module

public import proofs.«01_k».proof.Proof.PartsE

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

theorem part32 (v15 : BitVec 32) (v17 : BitVec 32) {Q : _ → sProp 𝕄} :
    iprop(env I K ∗ owe c 27 ∗ rx (.pago 0) c ∗ sent (.pago 1) c ∗ rx (.pago 1) c ∗ sent (.pago 2) c ∗ rx (.pago 2) c)
      ⊢ iprop((owe c 27 ∗ own c (pgP 0 (pc c)) fullShare (PGS I c 0 (pc c)) ∗ zero c (.rcv (.pago 0)) ∗ sendPay I c (.pago 1)
        ∗ zero c (.snd (.pago 1)) ∗ own c (pgP 1 (pc c)) fullShare (PGS I c 1 (pc c)) ∗ zero c (.rcv (.pago 1))
        ∗ sendPay I c (.pago 2) ∗ zero c (.snd (.pago 2)) ∗ own c (pgP 2 (pc c)) fullShare (PGS I c 2 (pc c))
        ∗ zero c (.rcv (.pago 2)) -∗ Q ⟨⟩)
        -∗ wpB c (atBufs (k0_part32 (F := F)) c v15 v17) Q) := by
  unfold owe
  simp only [atBufs, k0_part32_eq_skeleton]
  unfold k0_part32_skel
  simp only [Prog.lift, Prog.bind_op, Prog.bind_ret, Prog.pure_eq_ret]
  iintro ⟨#HE, HO, Rpago0, Spago1, Rpago1, Spago2, Rpago2⟩ Hk
  iapply (wait_rcv I K c (.pago 0) (dues.drop 27) (by decide) rfl (cr_qo _ _ _)) $$ [Rpago0 HO]
  · isplitr; · iexact HE
    isplitl [Rpago0]; · iexact Rpago0
    iexact HO
  iintro ⟨P0, Zpago0, HO⟩
  ihave P0 := (land_pgo I c 0) $$ P0
  iapply (wait_snd I K c (.pago 1) (dues.drop 27) rfl (cr_pago _ _ _)) $$ [Spago1 HO]
  · isplitr; · iexact HE
    isplitl [Spago1]; · iexact Spago1
    iexact HO
  iintro ⟨Bpago1, Ypago1, HO⟩
  iapply (wait_rcv I K c (.pago 1) (dues.drop 27) (by decide) rfl (cr_qo _ _ _)) $$ [Rpago1 HO]
  · isplitr; · iexact HE
    isplitl [Rpago1]; · iexact Rpago1
    iexact HO
  iintro ⟨P1, Zpago1, HO⟩
  ihave P1 := (land_pgo I c 1) $$ P1
  iapply (wait_snd I K c (.pago 2) (dues.drop 27) rfl (cr_pago _ _ _)) $$ [Spago2 HO]
  · isplitr; · iexact HE
    isplitl [Spago2]; · iexact Spago2
    iexact HO
  iintro ⟨Bpago2, Ypago2, HO⟩
  iapply (wait_rcv I K c (.pago 2) (dues.drop 27) (by decide) rfl (cr_qo _ _ _)) $$ [Rpago2 HO]
  · isplitr; · iexact HE
    isplitl [Rpago2]; · iexact Rpago2
    iexact HO
  iintro ⟨P2, Zpago2, HO⟩
  ihave P2 := (land_pgo I c 2) $$ P2
  iapply (ret_step c)
  iapply Hk
  isplitl [HO]; · iexact HO
  isplitl [P0]; · iexact P0
  isplitl [Zpago0]; · iexact Zpago0
  isplitl [Bpago1]; · iexact Bpago1
  isplitl [Ypago1]; · iexact Ypago1
  isplitl [P1]; · iexact P1
  isplitl [Zpago1]; · iexact Zpago1
  isplitl [Bpago2]; · iexact Bpago2
  isplitl [Ypago2]; · iexact Ypago2
  isplitl [P2]; · iexact P2
  iexact Zpago2

theorem part33 (v13 : BitVec 32) {Q : _ → sProp 𝕄} :
    iprop(env I K ∗ owe c 27 ∗ sent (.pag 0 0) c ∗ rx (.pag 0 0) c ∗ sent (.pag 0 1) c ∗ rx (.pag 0 1) c)
      ⊢ iprop((owe c 27 ∗ sendPay I c (.pag 0 0) ∗ zero c (.snd (.pag 0 0))
        ∗ own c (pgP 0 (px 0 (pc c))) fullShare (PGS I c 0 (px 0 (pc c))) ∗ zero c (.rcv (.pag 0 0)) ∗ sendPay I c (.pag 0 1)
        ∗ zero c (.snd (.pag 0 1)) ∗ own c (pgP 0 (px 1 (pc c))) fullShare (PGS I c 0 (px 1 (pc c))) ∗ zero c (.rcv (.pag 0 1)) -∗ Q ⟨⟩)
        -∗ wpB c (atBufs (k0_part33 (F := F)) c v13) Q) := by
  unfold owe
  simp only [atBufs, k0_part33_eq_skeleton]
  unfold k0_part33_skel
  simp only [Prog.lift, Prog.bind_op, Prog.bind_ret, Prog.pure_eq_ret]
  iintro ⟨#HE, HO, Spag00, Rpag00, Spag01, Rpag01⟩ Hk
  iapply (wait_snd I K c (.pag 0 0) (dues.drop 27) rfl (cr_pag _ _ _ _)) $$ [Spag00 HO]
  · isplitr; · iexact HE
    isplitl [Spag00]; · iexact Spag00
    iexact HO
  iintro ⟨Bpag00, Ypag00, HO⟩
  iapply (wait_rcv I K c (.pag 0 0) (dues.drop 27) (by decide) rfl (cr_qa _ _ _ _)) $$ [Rpag00 HO]
  · isplitr; · iexact HE
    isplitl [Rpag00]; · iexact Rpag00
    iexact HO
  iintro ⟨P0x0, Zpag00, HO⟩
  ihave P0x0 := (land_pgP I c 0 0) $$ P0x0
  iapply (wait_snd I K c (.pag 0 1) (dues.drop 27) rfl (cr_pag _ _ _ _)) $$ [Spag01 HO]
  · isplitr; · iexact HE
    isplitl [Spag01]; · iexact Spag01
    iexact HO
  iintro ⟨Bpag01, Ypag01, HO⟩
  iapply (wait_rcv I K c (.pag 0 1) (dues.drop 27) (by decide) rfl (cr_qa _ _ _ _)) $$ [Rpag01 HO]
  · isplitr; · iexact HE
    isplitl [Rpag01]; · iexact Rpag01
    iexact HO
  iintro ⟨P0x1, Zpag01, HO⟩
  ihave P0x1 := (land_pgP I c 0 1) $$ P0x1
  iapply (ret_step c)
  iapply Hk
  isplitl [HO]; · iexact HO
  isplitl [Bpag00]; · iexact Bpag00
  isplitl [Ypag00]; · iexact Ypag00
  isplitl [P0x0]; · iexact P0x0
  isplitl [Zpag00]; · iexact Zpag00
  isplitl [Bpag01]; · iexact Bpag01
  isplitl [Ypag01]; · iexact Ypag01
  isplitl [P0x1]; · iexact P0x1
  iexact Zpag01

theorem part34 (v13 : BitVec 32) (v15 : BitVec 32) {Q : _ → sProp 𝕄} :
    iprop(env I K ∗ owe c 27 ∗ sent (.pag 0 2) c ∗ rx (.pag 0 2) c ∗ sent (.pag 1 0) c ∗ rx (.pag 1 0) c ∗ sent (.pag 1 1) c)
      ⊢ iprop((owe c 27 ∗ sendPay I c (.pag 0 2) ∗ zero c (.snd (.pag 0 2))
        ∗ own c (pgP 0 (px 2 (pc c))) fullShare (PGS I c 0 (px 2 (pc c))) ∗ zero c (.rcv (.pag 0 2)) ∗ sendPay I c (.pag 1 0)
        ∗ zero c (.snd (.pag 1 0)) ∗ own c (pgP 1 (px 0 (pc c))) fullShare (PGS I c 1 (px 0 (pc c))) ∗ zero c (.rcv (.pag 1 0))
        ∗ sendPay I c (.pag 1 1) ∗ zero c (.snd (.pag 1 1)) -∗ Q ⟨⟩)
        -∗ wpB c (atBufs (k0_part34 (F := F)) c v13 v15) Q) := by
  unfold owe
  simp only [atBufs, k0_part34_eq_skeleton]
  unfold k0_part34_skel
  simp only [Prog.lift, Prog.bind_op, Prog.bind_ret, Prog.pure_eq_ret]
  iintro ⟨#HE, HO, Spag02, Rpag02, Spag10, Rpag10, Spag11⟩ Hk
  iapply (wait_snd I K c (.pag 0 2) (dues.drop 27) rfl (cr_pag _ _ _ _)) $$ [Spag02 HO]
  · isplitr; · iexact HE
    isplitl [Spag02]; · iexact Spag02
    iexact HO
  iintro ⟨Bpag02, Ypag02, HO⟩
  iapply (wait_rcv I K c (.pag 0 2) (dues.drop 27) (by decide) rfl (cr_qa _ _ _ _)) $$ [Rpag02 HO]
  · isplitr; · iexact HE
    isplitl [Rpag02]; · iexact Rpag02
    iexact HO
  iintro ⟨P0x2, Zpag02, HO⟩
  ihave P0x2 := (land_pgP I c 0 2) $$ P0x2
  iapply (wait_snd I K c (.pag 1 0) (dues.drop 27) rfl (cr_pag _ _ _ _)) $$ [Spag10 HO]
  · isplitr; · iexact HE
    isplitl [Spag10]; · iexact Spag10
    iexact HO
  iintro ⟨Bpag10, Ypag10, HO⟩
  iapply (wait_rcv I K c (.pag 1 0) (dues.drop 27) (by decide) rfl (cr_qa _ _ _ _)) $$ [Rpag10 HO]
  · isplitr; · iexact HE
    isplitl [Rpag10]; · iexact Rpag10
    iexact HO
  iintro ⟨P1x0, Zpag10, HO⟩
  ihave P1x0 := (land_pgP I c 1 0) $$ P1x0
  iapply (wait_snd I K c (.pag 1 1) (dues.drop 27) rfl (cr_pag _ _ _ _)) $$ [Spag11 HO]
  · isplitr; · iexact HE
    isplitl [Spag11]; · iexact Spag11
    iexact HO
  iintro ⟨Bpag11, Ypag11, HO⟩
  iapply (ret_step c)
  iapply Hk
  isplitl [HO]; · iexact HO
  isplitl [Bpag02]; · iexact Bpag02
  isplitl [Ypag02]; · iexact Ypag02
  isplitl [P0x2]; · iexact P0x2
  isplitl [Zpag02]; · iexact Zpag02
  isplitl [Bpag10]; · iexact Bpag10
  isplitl [Ypag10]; · iexact Ypag10
  isplitl [P1x0]; · iexact P1x0
  isplitl [Zpag10]; · iexact Zpag10
  isplitl [Bpag11]; · iexact Bpag11
  iexact Ypag11

theorem part35 (v15 : BitVec 32) (v17 : BitVec 32) {Q : _ → sProp 𝕄} :
    iprop(env I K ∗ owe c 27 ∗ rx (.pag 1 1) c ∗ sent (.pag 1 2) c ∗ rx (.pag 1 2) c ∗ sent (.pag 2 0) c)
      ⊢ iprop((∀ w v, owe c 27 ∗ own c (pgP 1 (px 1 (pc c))) fullShare (PGS I c 1 (px 1 (pc c))) ∗ zero c (.rcv (.pag 1 1))
        ∗ sendPay I c (.pag 1 2) ∗ zero c (.snd (.pag 1 2)) ∗ own c (pgP 1 (px 2 (pc c))) fullShare (PGS I c 1 (px 2 (pc c)))
        ∗ zero c (.rcv (.pag 1 2)) ∗ sendPay I c (.pag 2 0) ∗ zero c (.snd (.pag 2 0)) -∗ Q ⟨w, v⟩)
        -∗ wpB c (atBufs (k0_part35 (F := F)) c v15 v17) Q) := by
  unfold owe
  simp only [atBufs, k0_part35_eq_skeleton]
  unfold k0_part35_skel
  simp only [Prog.lift, Prog.bind_op, Prog.bind_ret, Prog.pure_eq_ret]
  iintro ⟨#HE, HO, Rpag11, Spag12, Rpag12, Spag20⟩ Hk
  iapply (wait_rcv I K c (.pag 1 1) (dues.drop 27) (by decide) rfl (cr_qa _ _ _ _)) $$ [Rpag11 HO]
  · isplitr; · iexact HE
    isplitl [Rpag11]; · iexact Rpag11
    iexact HO
  iintro ⟨P1x1, Zpag11, HO⟩
  ihave P1x1 := (land_pgP I c 1 1) $$ P1x1
  iapply (wait_snd I K c (.pag 1 2) (dues.drop 27) rfl (cr_pag _ _ _ _)) $$ [Spag12 HO]
  · isplitr; · iexact HE
    isplitl [Spag12]; · iexact Spag12
    iexact HO
  iintro ⟨Bpag12, Ypag12, HO⟩
  iapply (wait_rcv I K c (.pag 1 2) (dues.drop 27) (by decide) rfl (cr_qa _ _ _ _)) $$ [Rpag12 HO]
  · isplitr; · iexact HE
    isplitl [Rpag12]; · iexact Rpag12
    iexact HO
  iintro ⟨P1x2, Zpag12, HO⟩
  ihave P1x2 := (land_pgP I c 1 2) $$ P1x2
  iapply (wait_snd I K c (.pag 2 0) (dues.drop 27) rfl (cr_pag _ _ _ _)) $$ [Spag20 HO]
  · isplitr; · iexact HE
    isplitl [Spag20]; · iexact Spag20
    iexact HO
  iintro ⟨Bpag20, Ypag20, HO⟩
  iapply (ret_step c)
  iapply Hk
  isplitl [HO]; · iexact HO
  isplitl [P1x1]; · iexact P1x1
  isplitl [Zpag11]; · iexact Zpag11
  isplitl [Bpag12]; · iexact Bpag12
  isplitl [Ypag12]; · iexact Ypag12
  isplitl [P1x2]; · iexact P1x2
  isplitl [Zpag12]; · iexact Zpag12
  isplitl [Bpag20]; · iexact Bpag20
  iexact Ypag20

theorem part36 (v17 : BitVec 32) (w : BitVec 32) (w' : BitVec 32) {Q : _ → sProp 𝕄} :
    iprop(env I K ∗ owe c 27 ∗ rx (.pag 2 0) c ∗ sent (.pag 2 1) c ∗ rx (.pag 2 1) c ∗ sent (.pag 2 2) c)
      ⊢ iprop((owe c 27 ∗ own c (pgP 2 (px 0 (pc c))) fullShare (PGS I c 2 (px 0 (pc c))) ∗ zero c (.rcv (.pag 2 0))
        ∗ sendPay I c (.pag 2 1) ∗ zero c (.snd (.pag 2 1)) ∗ own c (pgP 2 (px 1 (pc c))) fullShare (PGS I c 2 (px 1 (pc c)))
        ∗ zero c (.rcv (.pag 2 1)) ∗ sendPay I c (.pag 2 2) ∗ zero c (.snd (.pag 2 2)) -∗ Q ⟨⟩)
        -∗ wpB c (atBufs (k0_part36 (F := F)) c v17 w w') Q) := by
  unfold owe
  simp only [atBufs, k0_part36_eq_skeleton]
  unfold k0_part36_skel
  simp only [Prog.lift, Prog.bind_op, Prog.bind_ret, Prog.pure_eq_ret]
  iintro ⟨#HE, HO, Rpag20, Spag21, Rpag21, Spag22⟩ Hk
  iapply (wait_rcv I K c (.pag 2 0) (dues.drop 27) (by decide) rfl (cr_qa _ _ _ _)) $$ [Rpag20 HO]
  · isplitr; · iexact HE
    isplitl [Rpag20]; · iexact Rpag20
    iexact HO
  iintro ⟨P2x0, Zpag20, HO⟩
  ihave P2x0 := (land_pgP I c 2 0) $$ P2x0
  iapply (wait_snd I K c (.pag 2 1) (dues.drop 27) rfl (cr_pag _ _ _ _)) $$ [Spag21 HO]
  · isplitr; · iexact HE
    isplitl [Spag21]; · iexact Spag21
    iexact HO
  iintro ⟨Bpag21, Ypag21, HO⟩
  iapply (wait_rcv I K c (.pag 2 1) (dues.drop 27) (by decide) rfl (cr_qa _ _ _ _)) $$ [Rpag21 HO]
  · isplitr; · iexact HE
    isplitl [Rpag21]; · iexact Rpag21
    iexact HO
  iintro ⟨P2x1, Zpag21, HO⟩
  ihave P2x1 := (land_pgP I c 2 1) $$ P2x1
  iapply (wait_snd I K c (.pag 2 2) (dues.drop 27) rfl (cr_pag _ _ _ _)) $$ [Spag22 HO]
  · isplitr; · iexact HE
    isplitl [Spag22]; · iexact Spag22
    iexact HO
  iintro ⟨Bpag22, Ypag22, HO⟩
  iapply (ret_step c)
  iapply Hk
  isplitl [HO]; · iexact HO
  isplitl [P2x0]; · iexact P2x0
  isplitl [Zpag20]; · iexact Zpag20
  isplitl [Bpag21]; · iexact Bpag21
  isplitl [Ypag21]; · iexact Ypag21
  isplitl [P2x1]; · iexact P2x1
  isplitl [Zpag21]; · iexact Zpag21
  isplitl [Bpag22]; · iexact Bpag22
  iexact Ypag22

theorem part37 (v9 : BitVec 32) {Q : _ → sProp 𝕄} :
    iprop(env I K ∗ owe c 27 ∗ rx (.pag 2 2) c ∗ own c (pgP 0 0) fullShare (PGS I c 0 0) ∗ some' c (oP (dv 0 (lx 0 (lc c))))
        ∗ own c (pgP 0 1) fullShare (PGS I c 0 1) ∗ some' c (oP (dv 1 (lx 0 (lc c)))) ∗ own c (pgP 0 2) fullShare (PGS I c 0 2)
        ∗ some' c (oP (dv 2 (lx 0 (lc c)))) ∗ own c (pgP 0 3) fullShare (PGS I c 0 3) ∗ some' c (oP (dv 3 (lx 0 (lc c)))))
      ⊢ iprop((owe c 27 ∗ own c (pgP 2 (px 2 (pc c))) fullShare (PGS I c 2 (px 2 (pc c))) ∗ zero c (.rcv (.pag 2 2))
        ∗ own c (pgP 0 0) fullShare (PGS I c 0 0) ∗ own c (oP (dv 0 (lx 0 (lc c)))) fullShare (OUTc I c (dv 0 (lx 0 (lc c))))
        ∗ own c (pgP 0 1) fullShare (PGS I c 0 1) ∗ own c (oP (dv 1 (lx 0 (lc c)))) fullShare (OUTc I c (dv 1 (lx 0 (lc c))))
        ∗ own c (pgP 0 2) fullShare (PGS I c 0 2) ∗ own c (oP (dv 2 (lx 0 (lc c)))) fullShare (OUTc I c (dv 2 (lx 0 (lc c))))
        ∗ own c (pgP 0 3) fullShare (PGS I c 0 3) ∗ own c (oP (dv 3 (lx 0 (lc c)))) fullShare (OUTc I c (dv 3 (lx 0 (lc c)))) -∗ Q ⟨⟩)
        -∗ wpB c (atBufs (k0_part37 (F := F)) c v9) Q) := by
  unfold owe
  simp only [atBufs, k0_part37_eq_skeleton]
  unfold k0_part37_skel
  simp only [Prog.lift, Prog.bind_op, Prog.bind_ret, Prog.pure_eq_ret]
  iintro ⟨#HE, HO, Rpag22, Q00, U00, Q01, U01, Q02, U02, Q03, U03⟩ Hk
  iapply (wait_rcv I K c (.pag 2 2) (dues.drop 27) (by decide) rfl (cr_qa _ _ _ _)) $$ [Rpag22 HO]
  · isplitr; · iexact HE
    isplitl [Rpag22]; · iexact Rpag22
    iexact HO
  iintro ⟨P2x2, Zpag22, HO⟩
  ihave P2x2 := (land_pgP I c 2 2) $$ P2x2
  iapply (out_step I c 0 0 (o₂ := k0_off28 c 0#32) rfl (off28 c 0) (fun _ => rfl)) $$ [Q00 U00]
  · isplitl [Q00] <;> iassumption
  iintro ⟨Q00, U00⟩
  iapply (out_step I c 0 1 (o₂ := k0_off28 c 512#32) rfl (off28 c 1) (fun _ => rfl)) $$ [Q01 U01]
  · isplitl [Q01] <;> iassumption
  iintro ⟨Q01, U01⟩
  iapply (out_step I c 0 2 (o₂ := k0_off28 c 1024#32) rfl (off28 c 2) (fun _ => rfl)) $$ [Q02 U02]
  · isplitl [Q02] <;> iassumption
  iintro ⟨Q02, U02⟩
  iapply (out_step I c 0 3 (o₂ := k0_off28 c 1536#32) rfl (off28 c 3) (fun _ => rfl)) $$ [Q03 U03]
  · isplitl [Q03] <;> iassumption
  iintro ⟨Q03, U03⟩
  iapply (ret_step c)
  iapply Hk
  isplitl [HO]; · iexact HO
  isplitl [P2x2]; · iexact P2x2
  isplitl [Zpag22]; · iexact Zpag22
  isplitl [Q00]; · iexact Q00
  isplitl [U00]; · iexact U00
  isplitl [Q01]; · iexact Q01
  isplitl [U01]; · iexact U01
  isplitl [Q02]; · iexact Q02
  isplitl [U02]; · iexact U02
  isplitl [Q03]; · iexact Q03
  iexact U03

theorem part38 (v10 : BitVec 32) {Q : _ → sProp 𝕄} :
    iprop(own c (pgP 1 0) fullShare (PGS I c 1 0) ∗ some' c (oP (dv 0 (lx 1 (lc c)))) ∗ own c (pgP 1 1) fullShare (PGS I c 1 1)
        ∗ some' c (oP (dv 1 (lx 1 (lc c)))) ∗ own c (pgP 1 2) fullShare (PGS I c 1 2) ∗ some' c (oP (dv 2 (lx 1 (lc c))))
        ∗ own c (pgP 1 3) fullShare (PGS I c 1 3) ∗ some' c (oP (dv 3 (lx 1 (lc c)))) ∗ own c (pgP 2 0) fullShare (PGS I c 2 0))
      ⊢ iprop((own c (pgP 1 0) fullShare (PGS I c 1 0) ∗ own c (oP (dv 0 (lx 1 (lc c)))) fullShare (OUTc I c (dv 0 (lx 1 (lc c))))
        ∗ own c (pgP 1 1) fullShare (PGS I c 1 1) ∗ own c (oP (dv 1 (lx 1 (lc c)))) fullShare (OUTc I c (dv 1 (lx 1 (lc c))))
        ∗ own c (pgP 1 2) fullShare (PGS I c 1 2) ∗ own c (oP (dv 2 (lx 1 (lc c)))) fullShare (OUTc I c (dv 2 (lx 1 (lc c))))
        ∗ own c (pgP 1 3) fullShare (PGS I c 1 3) ∗ own c (oP (dv 3 (lx 1 (lc c)))) fullShare (OUTc I c (dv 3 (lx 1 (lc c))))
        ∗ own c (pgP 2 0) fullShare (PGS I c 2 0) -∗ Q (k0_pay83 (PGS I c 2 0)))
        -∗ wpB c (atBufs (k0_part38 (F := F)) c v10) Q) := by
  simp only [atBufs, k0_part38_eq_skeleton]
  unfold k0_part38_skel
  simp only [Prog.lift, Prog.bind_op, Prog.bind_ret, Prog.pure_eq_ret]
  iintro ⟨Q10, U10, Q11, U11, Q12, U12, Q13, U13, Q20⟩ Hk
  iapply (out_step I c 1 0 (o₂ := k0_off29 c 0#32) rfl (off29 c 0) (fun _ => rfl)) $$ [Q10 U10]
  · isplitl [Q10] <;> iassumption
  iintro ⟨Q10, U10⟩
  iapply (out_step I c 1 1 (o₂ := k0_off29 c 512#32) rfl (off29 c 1) (fun _ => rfl)) $$ [Q11 U11]
  · isplitl [Q11] <;> iassumption
  iintro ⟨Q11, U11⟩
  iapply (out_step I c 1 2 (o₂ := k0_off29 c 1024#32) rfl (off29 c 2) (fun _ => rfl)) $$ [Q12 U12]
  · isplitl [Q12] <;> iassumption
  iintro ⟨Q12, U12⟩
  iapply (out_step I c 1 3 (o₂ := k0_off29 c 1536#32) rfl (off29 c 3) (fun _ => rfl)) $$ [Q13 U13]
  · isplitl [Q13] <;> iassumption
  iintro ⟨Q13, U13⟩
  iapply (ld c pgM (inb' := inb_pslot 2 0) rfl) $$ Q20
  iintro Q20
  iapply (ret_step c)
  iapply Hk
  isplitl [Q10]; · iexact Q10
  isplitl [U10]; · iexact U10
  isplitl [Q11]; · iexact Q11
  isplitl [U11]; · iexact U11
  isplitl [Q12]; · iexact Q12
  isplitl [U12]; · iexact U12
  isplitl [Q13]; · iexact Q13
  isplitl [U13]; · iexact U13
  iexact Q20

end Cert.KernelIdeal.Exch

end
-- ==== Proof.Ends.lean ====
/-
# Before and after

How a device's buffers come apart into the pieces the program works on, which slots it hands its partners, and how
the pieces come back together at the end.
-/
module

public import proofs.«01_k».proof.Proof.PartsF

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD)

theorem three (Φ : Fin 3 → sProp 𝕄) : bigSep Finset.univ Φ = iprop(Φ 0 ∗ Φ 1 ∗ Φ 2) := by
  rw [bigSep_univ_eq_bigSepL [0, 1, 2] (by decide) (by decide)]
  rfl

/-- The devices as a device meets them: itself, its column, then its three plane partners' columns. -/
theorem sixteen (Φ : Dev nD → sProp 𝕄) : bigSep Finset.univ Φ = iprop(Φ c ∗ Φ (cp 0 c) ∗ Φ (cp 1 c) ∗ Φ (cp 2 c) ∗ Φ (dv 0 (lx 0 (lc c))) ∗ Φ (dv 1 (lx 0 (lc c))) ∗ Φ (dv 2 (lx 0 (lc c))) ∗ Φ (dv 3 (lx 0 (lc c))) ∗ Φ (dv 0 (lx 1 (lc c))) ∗ Φ (dv 1 (lx 1 (lc c))) ∗ Φ (dv 2 (lx 1 (lc c))) ∗ Φ (dv 3 (lx 1 (lc c))) ∗ Φ (dv 0 (lx 2 (lc c))) ∗ Φ (dv 1 (lx 2 (lc c))) ∗ Φ (dv 2 (lx 2 (lc c))) ∗ Φ (dv 3 (lx 2 (lc c)))) := by
  rw [bigSep_univ_eq_bigSepL [c, (cp 0 c), (cp 1 c), (cp 2 c), (dv 0 (lx 0 (lc c))), (dv 1 (lx 0 (lc c))), (dv 2 (lx 0 (lc c))), (dv 3 (lx 0 (lc c))), (dv 0 (lx 1 (lc c))), (dv 1 (lx 1 (lc c))), (dv 2 (lx 1 (lc c))), (dv 3 (lx 1 (lc c))), (dv 0 (lx 2 (lc c))), (dv 1 (lx 2 (lc c))), (dv 2 (lx 2 (lc c))), (dv 3 (lx 2 (lc c)))]
    (by revert c; decide) (by revert c; decide)]
  rfl

/-! ## Buffers into pieces and back -/

/-- The weight table's columns, -/
theorem wt_split : some' c wtM ⊢ (iprop(some' c (wtP 0) ∗ some' c (wtP 1) ∗ some' c (wtP 2) ∗ some' c (wtP 3)) : sProp 𝕄) := by
  refine (some_split (inb := inb_wt) c wtM tile_wt).trans ?_
  rw [four]
theorem wt_join : (iprop(some' c (wtP 0) ∗ some' c (wtP 1) ∗ some' c (wtP 2) ∗ some' c (wtP 3)) : sProp 𝕄) ⊢ some' c wtM := by
  refine BIBase.Entails.trans ?_ (some_join (inb := inb_wt) c wtM tile_wt)
  rw [four]

/-- the experts' matrices, -/
theorem wb_split : some' c wbM ⊢ (iprop(some' c (wbP 0) ∗ some' c (wbP 1) ∗ some' c (wbP 2) ∗ some' c (wbP 3)) : sProp 𝕄) := by
  refine (some_split (inb := inb_wb) c wbM tile_wb).trans ?_
  rw [four]
theorem wb_join : (iprop(some' c (wbP 0) ∗ some' c (wbP 1) ∗ some' c (wbP 2) ∗ some' c (wbP 3)) : sProp 𝕄) ⊢ some' c wbM := by
  refine BIBase.Entails.trans ?_ (some_join (inb := inb_wb) c wbM tile_wb)
  rw [four]

/-- the partial products' blocks, -/
theorem par_split : some' c parM ⊢ (iprop(some' c (parB (lc c)) ∗ some' c (parB (lx 0 (lc c))) ∗ some' c (parB (lx 1 (lc c))) ∗ some' c (parB (lx 2 (lc c)))) : sProp 𝕄) := by
  refine (some_split (inb := inb_blk) c parM tile_blk).trans ?_
  rw [four_lx (lc c)]
theorem par_join : (iprop(some' c (parB (lc c)) ∗ some' c (parB (lx 0 (lc c))) ∗ some' c (parB (lx 1 (lc c))) ∗ some' c (parB (lx 2 (lc c)))) : sProp 𝕄) ⊢ some' c parM := by
  refine BIBase.Entails.trans ?_ (some_join (inb := inb_blk) c parM tile_blk)
  rw [four_lx (lc c)]

/-- the plane sum's chunks, -/
theorem csum_split : some' c csM ⊢ (iprop(some' c (csP (pc c)) ∗ some' c (csP (px 0 (pc c))) ∗ some' c (csP (px 1 (pc c))) ∗ some' c (csP (px 2 (pc c)))) : sProp 𝕄) := by
  refine (some_split (inb := inb_chk) c csM tile_chk).trans ?_
  rw [four_px (pc c)]
theorem csum_join : (iprop(some' c (csP (pc c)) ∗ some' c (csP (px 0 (pc c))) ∗ some' c (csP (px 1 (pc c))) ∗ some' c (csP (px 2 (pc c)))) : sProp 𝕄) ⊢ some' c csM := by
  refine BIBase.Entails.trans ?_ (some_join (inb := inb_chk) c csM tile_chk)
  rw [four_px (pc c)]

/-- the reduced chunks, -/
theorem cr_split : some' c crM ⊢ (iprop(some' c (crP (pc c)) ∗ some' c (crP (px 0 (pc c))) ∗ some' c (crP (px 1 (pc c))) ∗ some' c (crP (px 2 (pc c)))) : sProp 𝕄) := by
  refine (some_split (inb := inb_chk) c crM tile_chk).trans ?_
  rw [four_px (pc c)]
theorem cr_join : (iprop(some' c (crP (pc c)) ∗ some' c (crP (px 0 (pc c))) ∗ some' c (crP (px 1 (pc c))) ∗ some' c (crP (px 2 (pc c)))) : sProp 𝕄) ⊢ some' c crM := by
  refine BIBase.Entails.trans ?_ (some_join (inb := inb_chk) c crM tile_chk)
  rw [four_px (pc c)]

/-- the result's chunks, -/
theorem out_split : some' c oM ⊢ (iprop(some' c (oP c) ∗ some' c (oP (cp 0 c)) ∗ some' c (oP (cp 1 c)) ∗ some' c (oP (cp 2 c)) ∗ some' c (oP (dv 0 (lx 0 (lc c)))) ∗ some' c (oP (dv 1 (lx 0 (lc c)))) ∗ some' c (oP (dv 2 (lx 0 (lc c)))) ∗ some' c (oP (dv 3 (lx 0 (lc c)))) ∗ some' c (oP (dv 0 (lx 1 (lc c)))) ∗ some' c (oP (dv 1 (lx 1 (lc c)))) ∗ some' c (oP (dv 2 (lx 1 (lc c)))) ∗ some' c (oP (dv 3 (lx 1 (lc c)))) ∗ some' c (oP (dv 0 (lx 2 (lc c)))) ∗ some' c (oP (dv 1 (lx 2 (lc c)))) ∗ some' c (oP (dv 2 (lx 2 (lc c)))) ∗ some' c (oP (dv 3 (lx 2 (lc c))))) : sProp 𝕄) := by
  refine (some_split (inb := inb_out) c oM tile_out).trans ?_
  rw [sixteen c]
theorem out_join : (iprop(some' c (oP c) ∗ some' c (oP (cp 0 c)) ∗ some' c (oP (cp 1 c)) ∗ some' c (oP (cp 2 c)) ∗ some' c (oP (dv 0 (lx 0 (lc c)))) ∗ some' c (oP (dv 1 (lx 0 (lc c)))) ∗ some' c (oP (dv 2 (lx 0 (lc c)))) ∗ some' c (oP (dv 3 (lx 0 (lc c)))) ∗ some' c (oP (dv 0 (lx 1 (lc c)))) ∗ some' c (oP (dv 1 (lx 1 (lc c)))) ∗ some' c (oP (dv 2 (lx 1 (lc c)))) ∗ some' c (oP (dv 3 (lx 1 (lc c)))) ∗ some' c (oP (dv 0 (lx 2 (lc c)))) ∗ some' c (oP (dv 1 (lx 2 (lc c)))) ∗ some' c (oP (dv 2 (lx 2 (lc c)))) ∗ some' c (oP (dv 3 (lx 2 (lc c))))) : sProp 𝕄) ⊢ some' c oM := by
  refine BIBase.Entails.trans ?_ (some_join (inb := inb_out) c oM tile_out)
  rw [sixteen c]

/-- the blocks' slots, -/
theorem pr_split : some' c prM ⊢ (iprop(some' c (prP 0) ∗ some' c (prP 1) ∗ some' c (prP 2)) : sProp 𝕄) := by
  refine (some_split (inb := inb_slot) c prM tile_slot).trans ?_
  rw [three]
theorem pr_join : (iprop(some' c (prP 0) ∗ some' c (prP 1) ∗ some' c (prP 2)) : sProp 𝕄) ⊢ some' c prM := by
  refine BIBase.Entails.trans ?_ (some_join (inb := inb_slot) c prM tile_slot)
  rw [three]

/-- the chunks' slots, -/
theorem zr_split : some' c zrM ⊢ (iprop(some' c (zrP 0) ∗ some' c (zrP 1) ∗ some' c (zrP 2)) : sProp 𝕄) := by
  refine (some_split (inb := inb_zslot) c zrM tile_zslot).trans ?_
  rw [three]
theorem zr_join : (iprop(some' c (zrP 0) ∗ some' c (zrP 1) ∗ some' c (zrP 2)) : sProp 𝕄) ⊢ some' c zrM := by
  refine BIBase.Entails.trans ?_ (some_join (inb := inb_zslot) c zrM tile_zslot)
  rw [three]

/-- the reduced chunks' slots, -/
theorem za_split : some' c zaM ⊢ (iprop(some' c (zaP 0) ∗ some' c (zaP 1) ∗ some' c (zaP 2)) : sProp 𝕄) := by
  refine (some_split (inb := inb_zslot) c zaM tile_zslot).trans ?_
  rw [three]
theorem za_join : (iprop(some' c (zaP 0) ∗ some' c (zaP 1) ∗ some' c (zaP 2)) : sProp 𝕄) ⊢ some' c zaM := by
  refine BIBase.Entails.trans ?_ (some_join (inb := inb_zslot) c zaM tile_zslot)
  rw [three]

/-- and the passed chunks' slots. -/
theorem pg_rows (Φ : Fin 3 × Fin 4 → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3)) ∗ (Φ (2, 0) ∗ Φ (2, 1) ∗ Φ (2, 2) ∗ Φ (2, 3))) := by
  rw [bigSep_univ_prod, three, four, four, four]
theorem pg_split : some' c pgM ⊢ (iprop((some' c (pgP 0 0) ∗ some' c (pgP 0 1) ∗ some' c (pgP 0 2) ∗ some' c (pgP 0 3)) ∗ (some' c (pgP 1 0) ∗ some' c (pgP 1 1) ∗ some' c (pgP 1 2) ∗ some' c (pgP 1 3)) ∗ (some' c (pgP 2 0) ∗ some' c (pgP 2 1) ∗ some' c (pgP 2 2) ∗ some' c (pgP 2 3))) : sProp 𝕄) := by
  refine (some_split (inb := fun t : Fin 3 × Fin 4 => inb_pslot t.1 t.2) c pgM tile_pslot).trans ?_
  rw [pg_rows]
theorem pg_join : (iprop((some' c (pgP 0 0) ∗ some' c (pgP 0 1) ∗ some' c (pgP 0 2) ∗ some' c (pgP 0 3)) ∗ (some' c (pgP 1 0) ∗ some' c (pgP 1 1) ∗ some' c (pgP 1 2) ∗ some' c (pgP 1 3)) ∗ (some' c (pgP 2 0) ∗ some' c (pgP 2 1) ∗ some' c (pgP 2 2) ∗ some' c (pgP 2 3))) : sProp 𝕄) ⊢ some' c pgM := by
  refine BIBase.Entails.trans ?_ (some_join (inb := fun t : Fin 3 × Fin 4 => inb_pslot t.1 t.2) c pgM tile_pslot)
  rw [pg_rows]

/-- A slot, at the shape a transfer writes it at. -/
theorem some_squeeze {sp : Space} {s s' : Shape} {e : EltTy} (M : Memref sig .tc sp s e) (h : s.Squeezes s') : some' c M ⊢ (some' c (M.squeeze s' h) : sProp 𝕄) := by
  unfold some'
  refine Laws.exists_elim fun v => ?_
  refine BIBase.Entails.trans ?_ (Laws.exists_intro (Φ := fun v => own c (M.squeeze s' h) fullShare v) (fun i => v (Shape.reshapeEquiv h.numel_eq i)))
  rw [own_squeeze]
  refine Entails.of_eq (congrArg (own c M fullShare) (funext fun i => ?_))
  exact (congrArg v (Equiv.apply_symm_apply _ _)).symm

/-! ## The slots a device hands its partners -/

theorem pg_row (k : Fin 3) : (iprop(some' c (pgP k 0) ∗ some' c (pgP k 1) ∗ some' c (pgP k 2) ∗ some' c (pgP k 3)) : sProp 𝕄)
    ⊢ iprop(some' c (pgQ k (pc c)) ∗ some' c (pgQ k (px 0 (pc c))) ∗ some' c (pgQ k (px 1 (pc c))) ∗ some' c (pgQ k (px 2 (pc c)))) := by
  rw [← four fun b => some' c (pgP k b), ← four_px (pc c) fun b => some' c (pgQ k b)]
  exact bigSep_mono fun b _ => some_squeeze c _ _

theorem slots_pl (k : Fin 3) : (iprop(some' c (prP k) ∗ some' c (pgP k 0) ∗ some' c (pgP k 1) ∗ some' c (pgP k 2) ∗ some' c (pgP k 3)) : sProp 𝕄) ⊢ slots c (.pl k) := by
  unfold slots
  iintro ⟨H, Hg⟩
  isplitl [H]; · iapply (some_squeeze c (prP k) squeezes_S1x512x1024_S512x1024); iexact H
  iapply (pg_row c k); iexact Hg

theorem slots_co (i : Fin 3) : (iprop(some' c (zrP i) ∗ some' c (zaP i)) : sProp 𝕄) ⊢ slots c (.co i) := by
  unfold slots
  iintro ⟨H, Hg⟩
  isplitl [H]; · iapply (some_squeeze c (zrP i) squeezes_S1x128x1024_S128x1024); iexact H
  iapply (some_squeeze c (zaP i) squeezes_S1x128x1024_S128x1024); iexact Hg

/-- All of them, out of the four slot buffers. -/
theorem slots_all : (iprop(some' c prM ∗ some' c zrM ∗ some' c zaM ∗ some' c pgM) : sProp 𝕄)
    ⊢ iprop((slots c (.pl 0) ∗ slots c (.pl 1) ∗ slots c (.pl 2)) ∗ (slots c (.co 0) ∗ slots c (.co 1) ∗ slots c (.co 2))) := by
  iintro ⟨Hp, Hz, Ha, Hg⟩
  ihave Hp := (pr_split c) $$ Hp
  ihave Hz := (zr_split c) $$ Hz
  ihave Ha := (za_split c) $$ Ha
  ihave Hg := (pg_split c) $$ Hg
  icases Hp with ⟨P0, P1, P2⟩
  icases Hz with ⟨Z0, Z1, Z2⟩
  icases Ha with ⟨A0, A1, A2⟩
  icases Hg with ⟨G0, G1, G2⟩
  isplitl [P0 G0 P1 G1 P2 G2]
  · isplitl [P0 G0]
    · iapply (slots_pl c 0)
      isplitl [P0]; · iexact P0
      iexact G0
    isplitl [P1 G1]
    · iapply (slots_pl c 1)
      isplitl [P1]; · iexact P1
      iexact G1
    iapply (slots_pl c 2)
    isplitl [P2]; · iexact P2
    iexact G2
  isplitl [Z0 A0]
  · iapply (slots_co c 0)
    isplitl [Z0]; · iexact Z0
    iexact A0
  isplitl [Z1 A1]
  · iapply (slots_co c 1)
    isplitl [Z1]; · iexact Z1
    iexact A1
  iapply (slots_co c 2)
  isplitl [Z2]; · iexact Z2
  iexact A2

/-! ## What the partners hand over -/

theorem bar_pl (k : Fin 3) : barPay (F := F) c (.pl k) ⊢ iprop(some' (pp k c) (prQ k) ∗ some' (pp k c) (pgQ k (pc c)) ∗ some' (pp k c) (pgQ k (px 0 (pc c)))
      ∗ some' (pp k c) (pgQ k (px 1 (pc c))) ∗ some' (pp k c) (pgQ k (px 2 (pc c)))) := by
  show slots (pp k c) (.pl k) ⊢ _
  unfold slots
  rw [pc_pp]
theorem bar_co (i : Fin 3) : barPay (F := F) c (.co i) ⊢ iprop(some' (cp i c) (zrQ (ri i)) ∗ some' (cp i c) (zaQ (ri i))) := Idealize.SL.BI.Entails.refl _

/-! ## Values put together -/

theorem wt_at (e : Fin 4) (j : S2048x1.Idx) : WT I c ((rWt e).emb j) = wcol I c e j := by
  unfold WT
  have h0 : (ix2 ((rWt e).emb j 0) (0 : Fin 1) : S2048x1.Idx) = j := by
    funext a
    refine Fin.ext ?_
    revert a
    rw [Fin.forall_fin_two]
    exact ⟨(Nat.zero_add _).trans (Nat.one_mul _), (Nat.lt_one_iff.mp (j 1).isLt).symm⟩
  have h1 : (rWt e).emb j 1 = e := Fin.ext (by
    have h : (j 1).val < 1 := (j 1).isLt
    show e.val + 1 * (j 1).val = e.val
    omega)
  rw [h0, h1]

theorem wt_done : iprop(own c (wtP 0) fullShare (wcol I c 0) ∗ own c (wtP 1) fullShare (wcol I c 1) ∗ own c (wtP 2) fullShare (wcol I c 2) ∗ own c (wtP 3) fullShare (wcol I c 3))
    ⊢ own c wtM fullShare (WT I c) := by
  refine BIBase.Entails.trans ?_ (tile_join (inb := inb_wt) c wtM tile_wt fullShare (WT I c) (fun e => wcol I c e) (wt_at I c))
  rw [four]

theorem out_at (d : Dev nD) (j : S128x1024.Idx) : OUT I c ((rOut d).emb j) = OUTc I c d j := by
  have hj : (j 0).val < 128 := (j 0).isLt
  have hd : atOut ((rOut d).emb j) = d := Fin.ext (by
    show (128 * d.val + 1 * (j 0).val) / 128 = d.val
    omega)
  show OUTc I c (atOut ((rOut d).emb j)) _ = _
  rw [hd]
  refine congrArg _ (funext fun a => Fin.ext ?_)
  revert a
  rw [Fin.forall_fin_two]
  refine ⟨?_, ?_⟩
  · show (128 * d.val + 1 * (j 0).val) % 128 = (j 0).val
    omega
  · show 0 + 1 * (j 1).val = (j 1).val
    omega

theorem out_done : iprop(own c (oP c) fullShare (OUTc I c c) ∗ own c (oP (cp 0 c)) fullShare (OUTc I c (cp 0 c)) ∗ own c (oP (cp 1 c)) fullShare (OUTc I c (cp 1 c)) ∗ own c (oP (cp 2 c)) fullShare (OUTc I c (cp 2 c)) ∗ own c (oP (dv 0 (lx 0 (lc c)))) fullShare (OUTc I c (dv 0 (lx 0 (lc c)))) ∗ own c (oP (dv 1 (lx 0 (lc c)))) fullShare (OUTc I c (dv 1 (lx 0 (lc c)))) ∗ own c (oP (dv 2 (lx 0 (lc c)))) fullShare (OUTc I c (dv 2 (lx 0 (lc c)))) ∗ own c (oP (dv 3 (lx 0 (lc c)))) fullShare (OUTc I c (dv 3 (lx 0 (lc c)))) ∗ own c (oP (dv 0 (lx 1 (lc c)))) fullShare (OUTc I c (dv 0 (lx 1 (lc c)))) ∗ own c (oP (dv 1 (lx 1 (lc c)))) fullShare (OUTc I c (dv 1 (lx 1 (lc c)))) ∗ own c (oP (dv 2 (lx 1 (lc c)))) fullShare (OUTc I c (dv 2 (lx 1 (lc c)))) ∗ own c (oP (dv 3 (lx 1 (lc c)))) fullShare (OUTc I c (dv 3 (lx 1 (lc c)))) ∗ own c (oP (dv 0 (lx 2 (lc c)))) fullShare (OUTc I c (dv 0 (lx 2 (lc c)))) ∗ own c (oP (dv 1 (lx 2 (lc c)))) fullShare (OUTc I c (dv 1 (lx 2 (lc c)))) ∗ own c (oP (dv 2 (lx 2 (lc c)))) fullShare (OUTc I c (dv 2 (lx 2 (lc c)))) ∗ own c (oP (dv 3 (lx 2 (lc c)))) fullShare (OUTc I c (dv 3 (lx 2 (lc c)))))
    ⊢ own c oM fullShare (OUT I c) := by
  refine BIBase.Entails.trans ?_ (tile_join (inb := inb_out) c oM tile_out fullShare (OUT I c) (fun d => OUTc I c d) (out_at I c))
  rw [sixteen c]

/-- The chunks of partner `k`'s plane, plane by plane. -/
theorem pg_by (k : Fin 3) : iprop(own c (pgP k (pc c)) fullShare (PGS I c k (pc c)) ∗ own c (pgP k (px 0 (pc c))) fullShare (PGS I c k (px 0 (pc c)))
      ∗ own c (pgP k (px 1 (pc c))) fullShare (PGS I c k (px 1 (pc c))) ∗ own c (pgP k (px 2 (pc c))) fullShare (PGS I c k (px 2 (pc c))))
    ⊢ iprop(own c (pgP k 0) fullShare (PGS I c k 0) ∗ own c (pgP k 1) fullShare (PGS I c k 1) ∗ own c (pgP k 2) fullShare (PGS I c k 2) ∗ own c (pgP k 3) fullShare (PGS I c k 3)) := by
  rw [← four_px (pc c) fun b => own c (pgP k b) fullShare (PGS I c k b), ← four fun b => own c (pgP k b) fullShare (PGS I c k b)]

/-! ## The loans returned -/

theorem back_three (M : Memref sig .tc .vmem S128x1024 .bf16) (n : ℕ) (v : S128x1024.Idx → Elt F .bf16) :
    iprop(own c M (rest (n + 3)) v ∗ own c M (loan n) v ∗ own c M (loan (n + 1)) v ∗ own c M (loan (n + 2)) v) ⊢ own c M (rest n) v := by
  iintro ⟨H, H0, H1, H2⟩
  ihave H := (own_join c M (rest (n + 2)) v v) $$ [H2 H]
  · isplitl [H2]; · iexact H2
    iexact H
  ihave H := (own_join c M (rest (n + 1)) v v) $$ [H1 H]
  · isplitl [H1]; · iexact H1
    iexact H
  iapply (own_join c M (rest n) v v)
  isplitl [H0]; · iexact H0
  iexact H

theorem back_c : iprop(own c (crP (pc c)) (rest 6) (REDB I c) ∗ (sendPay I c (.zag 0) ∗ sendPay I c (.zag 1) ∗ sendPay I c (.zag 2))
      ∗ (sendPay I c (.pago 0) ∗ sendPay I c (.pago 1) ∗ sendPay I c (.pago 2))) ⊢ some' c (crP (pc c)) := by
  iintro ⟨H, Ha, Hb⟩
  ihave H := (back_three c (crP (pc c)) 3 (REDB I c)) $$ [H Hb]
  · isplitl [H]; · iexact H
    iexact Hb
  ihave H := (back_three c (crP (pc c)) 0 (REDB I c)) $$ [H Ha]
  · isplitl [H]; · iexact H
    iexact Ha
  iapply (some_intro c (crP (pc c)) (REDB I c)); iexact H

theorem back_pag (k i : Fin 3) : sendPay I c (.pag k i) ⊢ own c (crP (px i (pc c))) (loan k.val) (REDB I (cp i c)) := Idealize.SL.BI.Entails.refl _

theorem back_x (i : Fin 3) : iprop(own c (crP (px i (pc c))) (rest 3) (REDB I (cp i c)) ∗ sendPay I c (.pag 0 i) ∗ sendPay I c (.pag 1 i) ∗ sendPay I c (.pag 2 i))
    ⊢ some' c (crP (px i (pc c))) := by
  iintro ⟨H, H0, H1, H2⟩
  ihave H := (back_three c (crP (px i (pc c))) 0 (REDB I (cp i c))) $$ [H H0 H1 H2]
  · isplitl [H]; · iexact H
    isplitl [H0]; · iapply (back_pag I c 0 i); iexact H0
    isplitl [H1]; · iapply (back_pag I c 1 i); iexact H1
    iapply (back_pag I c 2 i); iexact H2
  iapply (some_intro c (crP (px i (pc c))) (REDB I (cp i c))); iexact H

end Cert.KernelIdeal.Exch

end
-- ==== Proof.Body.lean ====
/-
# The program

The parts one after another: from what a device starts with to its result and its buffers back.
-/
module

public import proofs.«01_k».proof.Proof.Ends

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ) (c : Dev nD)

/-! ## What a device starts with, and ends with -/

/-- The six signals with their slots, -/
def sigs : sProp 𝕄 := iprop(sig₀ c (.pl 0) ∗ sig₀ c (.pl 1) ∗ sig₀ c (.pl 2) ∗ sig₀ c (.co 0) ∗ sig₀ c (.co 1) ∗ sig₀ c (.co 2))
/-- every transfer it issues, -/
def txs : sProp 𝕄 := iprop(tx (.prs 0) c ∗ tx (.prs 1) c ∗ tx (.prs 2) c ∗ tx (.zrs 0) c ∗ tx (.zrs 1) c ∗ tx (.zrs 2) c
      ∗ tx (.zag 0) c ∗ tx (.zag 1) c ∗ tx (.zag 2) c ∗ tx (.pago 0) c ∗ tx (.pago 1) c ∗ tx (.pago 2) c
      ∗ tx (.pag 0 0) c ∗ tx (.pag 0 1) c ∗ tx (.pag 0 2) c ∗ tx (.pag 1 0) c ∗ tx (.pag 1 1) c ∗ tx (.pag 1 2) c
      ∗ tx (.pag 2 0) c ∗ tx (.pag 2 1) c ∗ tx (.pag 2 2) c)
/-- every transfer it receives, -/
def rxs : sProp 𝕄 := iprop(rx (.prs 0) c ∗ rx (.prs 1) c ∗ rx (.prs 2) c ∗ rx (.zrs 0) c ∗ rx (.zrs 1) c ∗ rx (.zrs 2) c
      ∗ rx (.zag 0) c ∗ rx (.zag 1) c ∗ rx (.zag 2) c ∗ rx (.pago 0) c ∗ rx (.pago 1) c ∗ rx (.pago 2) c
      ∗ rx (.pag 0 0) c ∗ rx (.pag 0 1) c ∗ rx (.pag 0 2) c ∗ rx (.pag 1 0) c ∗ rx (.pag 1 1) c ∗ rx (.pag 1 2) c
      ∗ rx (.pag 2 0) c ∗ rx (.pag 2 1) c ∗ rx (.pag 2 2) c)
/-- its operands, -/
def ins₀ : sProp 𝕄 := iprop(own c xM fullShare (I.x c) ∗ own c rwM fullShare (I.rw c) ∗ own c idM fullShare (I.ix c) ∗ own c ewM fullShare (I.ew c))
/-- the working buffers it does not hand out, -/
def scratch₀ : sProp 𝕄 := iprop(some' c parM ∗ some' c xbM ∗ some' c wbM ∗ some' c wtM ∗ some' c xcM ∗ some' c wcM ∗ some' c csM ∗ some' c crM)
/-- and all of them. -/
def scratch₁ : sProp 𝕄 := iprop(some' c parM ∗ some' c xbM ∗ some' c wbM ∗ some' c wtM ∗ some' c xcM ∗ some' c wcM ∗ some' c csM ∗ some' c crM
  ∗ some' c prM ∗ some' c zrM ∗ some' c zaM ∗ some' c pgM)

def bodyIn : sProp 𝕄 := iprop(env I K ∗ owe c 0 ∗ sigs c ∗ bar₀ c ∗ txs c ∗ rxs c ∗ ins₀ I c ∗ some' c oM ∗ scratch₀ c)
def bodyOut : sProp 𝕄 := iprop(owe c 27 ∗ ins₀ I c ∗ own c oM fullShare (OUT I c) ∗ (bigSep Finset.univ fun k => zero c k) ∗ scratch₁ c)

theorem zeros_all : (iprop(zero c .bar ∗ zero c (.snd (.prs 0)) ∗ zero c (.snd (.prs 1)) ∗ zero c (.snd (.prs 2)) ∗ zero c (.snd (.zrs 0)) ∗ zero c (.snd (.zrs 1)) ∗ zero c (.snd (.zrs 2))
      ∗ zero c (.snd (.zag 0)) ∗ zero c (.snd (.zag 1)) ∗ zero c (.snd (.zag 2)) ∗ zero c (.snd (.pago 0)) ∗ zero c (.snd (.pago 1)) ∗ zero c (.snd (.pago 2))
      ∗ zero c (.snd (.pag 0 0)) ∗ zero c (.snd (.pag 0 1)) ∗ zero c (.snd (.pag 0 2)) ∗ zero c (.snd (.pag 1 0)) ∗ zero c (.snd (.pag 1 1)) ∗ zero c (.snd (.pag 1 2))
      ∗ zero c (.snd (.pag 2 0)) ∗ zero c (.snd (.pag 2 1)) ∗ zero c (.snd (.pag 2 2))
      ∗ zero c (.rcv (.prs 0)) ∗ zero c (.rcv (.prs 1)) ∗ zero c (.rcv (.prs 2)) ∗ zero c (.rcv (.zrs 0)) ∗ zero c (.rcv (.zrs 1)) ∗ zero c (.rcv (.zrs 2))
      ∗ zero c (.rcv (.zag 0)) ∗ zero c (.rcv (.zag 1)) ∗ zero c (.rcv (.zag 2)) ∗ zero c (.rcv (.pago 0)) ∗ zero c (.rcv (.pago 1)) ∗ zero c (.rcv (.pago 2))
      ∗ zero c (.rcv (.pag 0 0)) ∗ zero c (.rcv (.pag 0 1)) ∗ zero c (.rcv (.pag 0 2)) ∗ zero c (.rcv (.pag 1 0)) ∗ zero c (.rcv (.pag 1 1)) ∗ zero c (.rcv (.pag 1 2))
      ∗ zero c (.rcv (.pag 2 0)) ∗ zero c (.rcv (.pag 2 1)) ∗ zero c (.rcv (.pag 2 2))) : sProp 𝕄) ⊢ bigSep Finset.univ fun k => zero c k := by
  rw [bigSep_univ_eq_bigSepL CIx.all (by decide) (by decide)]
  exact Idealize.SL.BI.Entails.refl _

/-- A sent part comes back, -/
theorem back_prs (k : Fin 3) : sendPay I c (.prs k) ⊢ some' c (parB (lx k (lc c))) := by
  show own c (parB (lx k (lc c))) fullShare (PB I c (lx k (lc c))) ⊢ _
  exact some_intro c (parB (lx k (lc c))) _

/-- and so does a sent sum. -/
theorem back_zrs (i : Fin 3) : sendPay I c (.zrs i) ⊢ some' c (csP (px i (pc c))) := by
  show own c (csP (px i (pc c))) fullShare (CSc I c (px i (pc c))) ⊢ _
  exact some_intro c (csP (px i (pc c))) _

/-- A program followed by another. -/
theorem bind_step {α β : Type} {p : Prog (TpuEff nD τ sig (Elt F) Λ₀ .tc) α} {k : α → Prog (TpuEff nD τ sig (Elt F) Λ₀ .tc) β} {Q : β → sProp 𝕄} :
    (wpB c p (fun a => wpB c (k a) Q) : sProp 𝕄) ⊢ wpB c (p >>= k) Q := Entails.of_eq (wp_bind _ _ _ p k Q).symm

/-! ## The program -/

set_option maxRecDepth 20000 in
theorem body_run {Q : _ → sProp 𝕄} : bodyIn I K c ⊢ iprop((bodyOut I c -∗ Q ⟨⟩) -∗ wpB c (atBufs (cc0_body (F := F))) Q) := by
  unfold bodyIn sigs txs rxs ins₀ scratch₀
  simp only [atBufs, cc0_body_eq_skeleton]
  unfold cc0_body_skel
  simp only [k0_part39_eq_skeleton]
  unfold k0_part39_skel
  simp only [Prog.lift, Prog.bind_op, Prog.bind_ret, Prog.pure_eq_ret]
  iintro ⟨#HE, HO, ⟨g0, g1, g2, g3, g4, g5⟩, Hbar, ⟨Tprs0, Tprs1, Tprs2, Tzrs0, Tzrs1, Tzrs2, Tzag0, Tzag1, Tzag2, Tpago0, Tpago1, Tpago2, Tpag00, Tpag01, Tpag02, Tpag10, Tpag11, Tpag12, Tpag20, Tpag21, Tpag22⟩, ⟨Rprs0, Rprs1, Rprs2, Rzrs0, Rzrs1, Rzrs2, Rzag0, Rzag1, Rzag2, Rpago0, Rpago1, Rpago2, Rpag00, Rpag01, Rpag02, Rpag10, Rpag11, Rpag12, Rpag20, Rpag21, Rpag22⟩, ⟨Hx, Hrw, Hid, Hew⟩, Hout, ⟨Hpar, Hxb, Hwb, Hwt, Hxc, Hwc, Hcs, Hcr⟩⟩ Hk
  ihave Hpar := (par_split c) $$ Hpar
  icases Hpar with ⟨L, p0, p1, p2⟩
  ihave Hwb := (wb_split c) $$ Hwb
  icases Hwb with ⟨wb0, wb1, wb2, wb3⟩
  ihave Hwt := (wt_split c) $$ Hwt
  icases Hwt with ⟨wt0, wt1, wt2, wt3⟩
  ihave Hcr := (cr_split c) $$ Hcr
  icases Hcr with ⟨C, X0, X1, X2⟩
  ihave Hout := (out_split c) $$ Hout
  icases Hout with ⟨O, O0, O1, O2, U00, U01, U02, U03, U10, U11, U12, U13, U20, U21, U22, U23⟩
  iapply (bind_step c)
  iapply (bind_step c)
  iapply (part1 I K c) $$ [HO g0]
  · isplitr; · iexact HE
    isplitl [HO]; · iexact HO
    iexact g0
  iintro %v3 %v4 %v9 %v10 %v11 %v13 %v15 %v17 %v21 %v25 %v29 %w HO
  iapply (bind_step c)
  iapply (part2 I K c _ _ _ _ _ _) $$ [HO g1 g2 g3 g4 g5 Hbar Hx Hrw Hxb]
  · isplitr; · iexact HE
    isplitl [HO]; · iexact HO
    isplitl [g1 g2 g3 g4 g5]
    · isplitl [g1]; · iexact g1
      isplitl [g2]; · iexact g2
      isplitl [g3]; · iexact g3
      isplitl [g4]; · iexact g4
      iexact g5
    isplitl [Hbar]; · iexact Hbar
    isplitl [Hx]; · iexact Hx
    isplitl [Hrw]; · iexact Hrw
    iexact Hxb
  iintro ⟨HO, Hbars, Ybar, Hx, Hrw, Hxb⟩
  unfold bars
  icases Hbars with ⟨a0, a1, a2, c0, c1, c2⟩
  ihave a0 := (bar_pl c 0) $$ a0
  icases a0 with ⟨N0, H0, J00, J01, J02⟩
  ihave a1 := (bar_pl c 1) $$ a1
  icases a1 with ⟨N1, H1, J10, J11, J12⟩
  ihave a2 := (bar_pl c 2) $$ a2
  icases a2 with ⟨N2, H2, J20, J21, J22⟩
  ihave c0 := (bar_co c 0) $$ c0
  icases c0 with ⟨E0, G0⟩
  ihave c1 := (bar_co c 1) $$ c1
  icases c1 with ⟨E1, G1⟩
  ihave c2 := (bar_co c 2) $$ c2
  icases c2 with ⟨E2, G2⟩
  iapply (bind_step c)
  iapply (part3 I c) $$ [Hid wt0 wt1]
  · isplitl [Hid]; · iexact Hid
    isplitl [wt0]; · iexact wt0
    iexact wt1
  iintro ⟨Hid, wt0, wt1⟩
  iapply (bind_step c)
  iapply (part4 I c) $$ [wt2 wt3 Hew wb0 wb1]
  · isplitl [wt2]; · iexact wt2
    isplitl [wt3]; · iexact wt3
    isplitl [Hew]; · iexact Hew
    isplitl [wb0]; · iexact wb0
    iexact wb1
  iintro ⟨wt2, wt3, Hew, wb0, wb1⟩
  ihave Hwt := (wt_done I c) $$ [wt0 wt1 wt2 wt3]
  · isplitl [wt0]; · iexact wt0
    isplitl [wt1]; · iexact wt1
    isplitl [wt2]; · iexact wt2
    iexact wt3
  ihave HX := (xc_start I c (lx 2 (lc c))) $$ Hxc
  ihave HW := (wc_start I c (lx 2 (lc c))) $$ Hwc
  iapply (bind_step c)
  iapply (part5 I c _) $$ [Hew wb2 wb3 Hxb Hwt HX HW]
  · isplitl [Hew]; · iexact Hew
    isplitl [wb2]; · iexact wb2
    isplitl [wb3]; · iexact wb3
    isplitl [Hxb]; · iexact Hxb
    isplitl [Hwt]; · iexact Hwt
    isplitl [HX]; · iexact HX
    iexact HW
  iintro ⟨Hew, wb2, wb3, Hxb, Hwt, HX, HW⟩
  iapply (bind_step c)
  iapply (part6 I c _) $$ [Hxb Hwt HX HW wb0]
  · isplitl [Hxb]; · iexact Hxb
    isplitl [Hwt]; · iexact Hwt
    isplitl [HX]; · iexact HX
    isplitl [HW]; · iexact HW
    iexact wb0
  iintro ⟨Hxb, Hwt, Hxc, Hwc, wb0⟩
  ihave Hwb : wbs I c $$ [wb0 wb1 wb2 wb3]
  · unfold wbs
    isplitl [wb0]; · iexact wb0
    isplitl [wb1]; · iexact wb1
    isplitl [wb2]; · iexact wb2
    iexact wb3
  iapply (bind_step c)
  iapply (part7 I c _) $$ [Hxc Hwc Hwb]
  · isplitl [Hxc]; · iexact Hxc
    isplitl [Hwc]; · iexact Hwc
    iexact Hwb
  iintro ⟨Hxc, Hwc, Hwb⟩
  ihave Hxc := (some_intro c xcM (XC I c (lx 2 (lc c)))) $$ Hxc
  ihave Hwc := (some_intro c wcM (WC I c (lx 2 (lc c)))) $$ Hwc
  ihave HX := (xc_start I c (lx 1 (lc c))) $$ Hxc
  ihave HW := (wc_start I c (lx 1 (lc c))) $$ Hwc
  iapply (bind_step c)
  iapply (part8 I K c _ _ _) $$ [HO p2 N2 Tprs2 Hxb Hwt HX HW]
  · isplitr; · iexact HE
    isplitl [HO]; · iexact HO
    isplitl [p2]; · iexact p2
    isplitl [N2]; · iexact N2
    isplitl [Tprs2]; · iexact Tprs2
    isplitl [Hxb]; · iexact Hxb
    isplitl [Hwt]; · iexact Hwt
    isplitl [HX]; · iexact HX
    iexact HW
  iintro %w ⟨Sprs2, HO, Hxb, Hwt, HX, HW⟩
  iapply (bind_step c)
  iapply (part9 I c _ _) $$ [Hxb Hwt HX HW]
  · isplitl [Hxb]; · iexact Hxb
    isplitl [Hwt]; · iexact Hwt
    isplitl [HX]; · iexact HX
    iexact HW
  iintro ⟨Hxb, Hwt, Hxc, Hwc⟩
  iapply (bind_step c)
  iapply (part10 I c) $$ [Hxc Hwc Hwb]
  · isplitl [Hxc]; · iexact Hxc
    isplitl [Hwc]; · iexact Hwc
    iexact Hwb
  iintro ⟨Hxc, Hwc, Hwb⟩
  ihave Hxc := (some_intro c xcM (XC I c (lx 1 (lc c)))) $$ Hxc
  ihave Hwc := (some_intro c wcM (WC I c (lx 1 (lc c)))) $$ Hwc
  ihave HX := (xc_start I c (lx 0 (lc c))) $$ Hxc
  ihave HW := (wc_start I c (lx 0 (lc c))) $$ Hwc
  iapply (bind_step c)
  iapply (part11 I K c _ _ _) $$ [HO p1 N1 Tprs1 Hxb Hwt HX HW]
  · isplitr; · iexact HE
    isplitl [HO]; · iexact HO
    isplitl [p1]; · iexact p1
    isplitl [N1]; · iexact N1
    isplitl [Tprs1]; · iexact Tprs1
    isplitl [Hxb]; · iexact Hxb
    isplitl [Hwt]; · iexact Hwt
    isplitl [HX]; · iexact HX
    iexact HW
  iintro %w %v ⟨Sprs1, HO, Hxb, Hwt, HX, HW⟩
  iapply (bind_step c)
  iapply (part12 I c _ _ _) $$ [Hxb Hwt HX HW]
  · isplitl [Hxb]; · iexact Hxb
    isplitl [Hwt]; · iexact Hwt
    isplitl [HX]; · iexact HX
    iexact HW
  iintro ⟨Hxb, Hwt, Hxc, Hwc⟩
  iapply (bind_step c)
  iapply (part13 I c) $$ [Hxc Hwc Hwb]
  · isplitl [Hxc]; · iexact Hxc
    isplitl [Hwc]; · iexact Hwc
    iexact Hwb
  iintro ⟨Hxc, Hwc, Hwb⟩
  ihave Hxc := (some_intro c xcM (XC I c (lx 0 (lc c)))) $$ Hxc
  ihave Hwc := (some_intro c wcM (WC I c (lx 0 (lc c)))) $$ Hwc
  ihave HX := (xc_start I c (lc c)) $$ Hxc
  ihave HW := (wc_start I c (lc c)) $$ Hwc
  iapply (bind_step c)
  iapply (part14 I K c _ _ _) $$ [HO p0 N0 Tprs0 Hxb Hwt HX HW]
  · isplitr; · iexact HE
    isplitl [HO]; · iexact HO
    isplitl [p0]; · iexact p0
    isplitl [N0]; · iexact N0
    isplitl [Tprs0]; · iexact Tprs0
    isplitl [Hxb]; · iexact Hxb
    isplitl [Hwt]; · iexact Hwt
    isplitl [HX]; · iexact HX
    iexact HW
  iintro %w ⟨Sprs0, HO, Hxb, Hwt, HX, HW⟩
  iapply (bind_step c)
  iapply (part15 I c _ _) $$ [Hxb Hwt HX HW]
  · isplitl [Hxb]; · iexact Hxb
    isplitl [Hwt]; · iexact Hwt
    isplitl [HX]; · iexact HX
    iexact HW
  iintro ⟨Hxb, Hwt, Hxc, Hwc⟩
  iapply (bind_step c)
  iapply (part16 I c) $$ [Hxc Hwc Hwb]
  · isplitl [Hxc]; · iexact Hxc
    isplitl [Hwc]; · iexact Hwc
    iexact Hwb
  iintro ⟨Hxc, Hwc, Hwb⟩
  iapply (bind_step c)
  iapply (part17 I K c _ _) $$ [HO Hwc L Sprs2 Rprs2 Sprs1]
  · isplitr; · iexact HE
    isplitl [HO]; · iexact HO
    isplitl [Hwc]; · iexact Hwc
    isplitl [L]; · iexact L
    isplitl [Sprs2]; · iexact Sprs2
    isplitl [Rprs2]; · iexact Rprs2
    iexact Sprs1
  iintro %w ⟨HO, Hwc, L, z2, z3, z4⟩
  unfold back come
  icases z2 with ⟨Bprs2, Yprs2⟩
  icases z3 with ⟨D2, Zprs2⟩
  icases z4 with ⟨Bprs1, Yprs1⟩
  ihave D2 := (land_prP I c 2) $$ D2
  iapply (bind_step c)
  iapply (part18 I K c _ _ _ _) $$ [HO L Rprs1 Sprs0 Rprs0]
  · isplitr; · iexact HE
    isplitl [HO]; · iexact HO
    isplitl [L]; · iexact L
    isplitl [Rprs1]; · iexact Rprs1
    isplitl [Sprs0]; · iexact Sprs0
    iexact Rprs0
  iintro ⟨HO, L, ⟨D1, Zprs1⟩, z4, ⟨D0, Zprs0⟩⟩
  unfold back
  icases z4 with ⟨Bprs0, Yprs0⟩
  iapply (bind_step c)
  iapply (part19 I K c _ _ _) $$ [HO D2 Hcs E0 Tzrs0]
  · isplitr; · iexact HE
    isplitl [HO]; · iexact HO
    isplitl [D2]; · iexact D2
    isplitl [Hcs]; · iexact Hcs
    isplitl [E0]; · iexact E0
    iexact Tzrs0
  iintro ⟨HO, D2, A, A1, A2, Szrs0⟩
  iapply (bind_step c)
  iapply (part20 I K c _ _ _) $$ [HO A1 E1 Tzrs1 A2 E2 Tzrs2 Szrs0 Rzrs0]
  · isplitr; · iexact HE
    isplitl [HO]; · iexact HO
    isplitl [A1]; · iexact A1
    isplitl [E1]; · iexact E1
    isplitl [Tzrs1]; · iexact Tzrs1
    isplitl [A2]; · iexact A2
    isplitl [E2]; · iexact E2
    isplitl [Tzrs2]; · iexact Tzrs2
    isplitl [Szrs0]; · iexact Szrs0
    iexact Rzrs0
  iintro ⟨HO, Szrs1, Szrs2, Bzrs0, Yzrs0, V2, Zzrs0⟩
  iapply (bind_step c)
  iapply (part21 I K c _ _ _) $$ [HO Szrs1 Rzrs1 Szrs2 Rzrs2 A]
  · isplitr; · iexact HE
    isplitl [HO]; · iexact HO
    isplitl [Szrs1]; · iexact Szrs1
    isplitl [Rzrs1]; · iexact Rzrs1
    isplitl [Szrs2]; · iexact Szrs2
    isplitl [Rzrs2]; · iexact Rzrs2
    iexact A
  iintro ⟨HO, Bzrs1, Yzrs1, V1, Zzrs1, Bzrs2, Yzrs2, V0, Zzrs2, A⟩
  iapply (bind_step c)
  iapply (part22 I K c _ _ _) $$ [HO V0 V1 V2 O C G0 Tzag0]
  · isplitr; · iexact HE
    isplitl [HO]; · iexact HO
    isplitl [V0]; · iexact V0
    isplitl [V1]; · iexact V1
    isplitl [V2]; · iexact V2
    isplitl [O]; · iexact O
    isplitl [C]; · iexact C
    isplitl [G0]; · iexact G0
    iexact Tzag0
  iintro ⟨HO, V0, V1, V2, O, C, Szag0⟩
  iapply (bind_step c)
  iapply (part23 I K c _ _ _ _) $$ [HO C G1 Tzag1 G2 Tzag2 H0 Tpago0]
  · isplitr; · iexact HE
    isplitl [HO]; · iexact HO
    isplitl [C]; · iexact C
    isplitl [G1]; · iexact G1
    isplitl [Tzag1]; · iexact Tzag1
    isplitl [G2]; · iexact G2
    isplitl [Tzag2]; · iexact Tzag2
    isplitl [H0]; · iexact H0
    iexact Tpago0
  iintro %w ⟨HO, C, Szag1, Szag2, Spago0⟩
  iapply (bind_step c)
  iapply (part24 I K c _ _ _ _ _) $$ [HO C H1 Tpago1 H2 Tpago2 Szag0]
  · isplitr; · iexact HE
    isplitl [HO]; · iexact HO
    isplitl [C]; · iexact C
    isplitl [H1]; · iexact H1
    isplitl [Tpago1]; · iexact Tpago1
    isplitl [H2]; · iexact H2
    isplitl [Tpago2]; · iexact Tpago2
    iexact Szag0
  iintro ⟨HO, C, Spago1, Spago2, Bzag0, Yzag0⟩
  iapply (bind_step c)
  iapply (part25 I K c _ _) $$ [HO Rzag0 Szag1 Rzag1 Szag2]
  · isplitr; · iexact HE
    isplitl [HO]; · iexact HO
    isplitl [Rzag0]; · iexact Rzag0
    isplitl [Szag1]; · iexact Szag1
    isplitl [Rzag1]; · iexact Rzag1
    iexact Szag2
  iintro ⟨HO, W2, Zzag0, Bzag1, Yzag1, W1, Zzag1, Bzag2, Yzag2⟩
  iapply (bind_step c)
  iapply (part26 I K c _ _) $$ [HO Rzag2 X0 O0 W1 X1]
  · isplitr; · iexact HE
    isplitl [HO]; · iexact HO
    isplitl [Rzag2]; · iexact Rzag2
    isplitl [X0]; · iexact X0
    isplitl [O0]; · iexact O0
    isplitl [W1]; · iexact W1
    iexact X1
  iintro %w ⟨HO, W0, Zzag2, X0, O0, W1, X1⟩
  iapply (bind_step c)
  iapply (part27 I c _ _ _) $$ [X1 W1 O1 W2 X2 O2]
  · isplitl [X1]; · iexact X1
    isplitl [W1]; · iexact W1
    isplitl [O1]; · iexact O1
    isplitl [W2]; · iexact W2
    isplitl [X2]; · iexact X2
    iexact O2
  iintro %w ⟨X1, W1, O1, W2, X2, O2⟩
  iapply (bind_step c)
  iapply (part28 I K c _ _ _) $$ [HO X0 J00 Tpag00 X1 J01 Tpag01]
  · isplitr; · iexact HE
    isplitl [HO]; · iexact HO
    isplitl [X0]; · iexact X0
    isplitl [J00]; · iexact J00
    isplitl [Tpag00]; · iexact Tpag00
    isplitl [X1]; · iexact X1
    isplitl [J01]; · iexact J01
    iexact Tpag01
  iintro ⟨HO, X0, Spag00, X1, Spag01⟩
  iapply (bind_step c)
  iapply (part29 I K c _ _) $$ [HO X2 J02 Tpag02 X0 J10 Tpag10 X1 J11 Tpag11]
  · isplitr; · iexact HE
    isplitl [HO]; · iexact HO
    isplitl [X2]; · iexact X2
    isplitl [J02]; · iexact J02
    isplitl [Tpag02]; · iexact Tpag02
    isplitl [X0]; · iexact X0
    isplitl [J10]; · iexact J10
    isplitl [Tpag10]; · iexact Tpag10
    isplitl [X1]; · iexact X1
    isplitl [J11]; · iexact J11
    iexact Tpag11
  iintro %w ⟨HO, X2, Spag02, X0, Spag10, X1, Spag11⟩
  iapply (bind_step c)
  iapply (part30 I K c _ _ _ _) $$ [HO X2 J12 Tpag12 X0 J20 Tpag20]
  · isplitr; · iexact HE
    isplitl [HO]; · iexact HO
    isplitl [X2]; · iexact X2
    isplitl [J12]; · iexact J12
    isplitl [Tpag12]; · iexact Tpag12
    isplitl [X0]; · iexact X0
    isplitl [J20]; · iexact J20
    iexact Tpag20
  iintro ⟨HO, X2, Spag12, X0, Spag20⟩
  iapply (bind_step c)
  iapply (part31 I K c _ _ _) $$ [HO X1 J21 Tpag21 X2 J22 Tpag22 Spago0]
  · isplitr; · iexact HE
    isplitl [HO]; · iexact HO
    isplitl [X1]; · iexact X1
    isplitl [J21]; · iexact J21
    isplitl [Tpag21]; · iexact Tpag21
    isplitl [X2]; · iexact X2
    isplitl [J22]; · iexact J22
    isplitl [Tpag22]; · iexact Tpag22
    iexact Spago0
  iintro ⟨HO, X1, Spag21, X2, Spag22, Bpago0, Ypago0⟩
  iapply (bind_step c)
  iapply (part32 I K c _ _) $$ [HO Rpago0 Spago1 Rpago1 Spago2 Rpago2]
  · isplitr; · iexact HE
    isplitl [HO]; · iexact HO
    isplitl [Rpago0]; · iexact Rpago0
    isplitl [Spago1]; · iexact Spago1
    isplitl [Rpago1]; · iexact Rpago1
    isplitl [Spago2]; · iexact Spago2
    iexact Rpago2
  iintro ⟨HO, P0, Zpago0, Bpago1, Ypago1, P1, Zpago1, Bpago2, Ypago2, P2, Zpago2⟩
  iapply (bind_step c)
  iapply (part33 I K c _) $$ [HO Spag00 Rpag00 Spag01 Rpag01]
  · isplitr; · iexact HE
    isplitl [HO]; · iexact HO
    isplitl [Spag00]; · iexact Spag00
    isplitl [Rpag00]; · iexact Rpag00
    isplitl [Spag01]; · iexact Spag01
    iexact Rpag01
  iintro ⟨HO, Bpag00, Ypag00, P0x0, Zpag00, Bpag01, Ypag01, P0x1, Zpag01⟩
  iapply (bind_step c)
  iapply (part34 I K c _ _) $$ [HO Spag02 Rpag02 Spag10 Rpag10 Spag11]
  · isplitr; · iexact HE
    isplitl [HO]; · iexact HO
    isplitl [Spag02]; · iexact Spag02
    isplitl [Rpag02]; · iexact Rpag02
    isplitl [Spag10]; · iexact Spag10
    isplitl [Rpag10]; · iexact Rpag10
    iexact Spag11
  iintro ⟨HO, Bpag02, Ypag02, P0x2, Zpag02, Bpag10, Ypag10, P1x0, Zpag10, Bpag11, Ypag11⟩
  iapply (bind_step c)
  iapply (part35 I K c _ _) $$ [HO Rpag11 Spag12 Rpag12 Spag20]
  · isplitr; · iexact HE
    isplitl [HO]; · iexact HO
    isplitl [Rpag11]; · iexact Rpag11
    isplitl [Spag12]; · iexact Spag12
    isplitl [Rpag12]; · iexact Rpag12
    iexact Spag20
  iintro %w %v ⟨HO, P1x1, Zpag11, Bpag12, Ypag12, P1x2, Zpag12, Bpag20, Ypag20⟩
  iapply (bind_step c)
  iapply (part36 I K c _ _ _) $$ [HO Rpag20 Spag21 Rpag21 Spag22]
  · isplitr; · iexact HE
    isplitl [HO]; · iexact HO
    isplitl [Rpag20]; · iexact Rpag20
    isplitl [Spag21]; · iexact Spag21
    isplitl [Rpag21]; · iexact Rpag21
    iexact Spag22
  iintro ⟨HO, P2x0, Zpag20, Bpag21, Ypag21, P2x1, Zpag21, Bpag22, Ypag22⟩
  ihave Q := (pg_by I c 0) $$ [P0 P0x0 P0x1 P0x2]
  · isplitl [P0]; · iexact P0
    isplitl [P0x0]; · iexact P0x0
    isplitl [P0x1]; · iexact P0x1
    iexact P0x2
  icases Q with ⟨Q00, Q01, Q02, Q03⟩
  ihave Q := (pg_by I c 1) $$ [P1 P1x0 P1x1 P1x2]
  · isplitl [P1]; · iexact P1
    isplitl [P1x0]; · iexact P1x0
    isplitl [P1x1]; · iexact P1x1
    iexact P1x2
  icases Q with ⟨Q10, Q11, Q12, Q13⟩
  iapply (bind_step c)
  iapply (part37 I K c _) $$ [HO Rpag22 Q00 U00 Q01 U01 Q02 U02 Q03 U03]
  · isplitr; · iexact HE
    isplitl [HO]; · iexact HO
    isplitl [Rpag22]; · iexact Rpag22
    isplitl [Q00]; · iexact Q00
    isplitl [U00]; · iexact U00
    isplitl [Q01]; · iexact Q01
    isplitl [U01]; · iexact U01
    isplitl [Q02]; · iexact Q02
    isplitl [U02]; · iexact U02
    isplitl [Q03]; · iexact Q03
    iexact U03
  iintro ⟨HO, P2x2, Zpag22, Q00, U00, Q01, U01, Q02, U02, Q03, U03⟩
  ihave Q := (pg_by I c 2) $$ [P2 P2x0 P2x1 P2x2]
  · isplitl [P2]; · iexact P2
    isplitl [P2x0]; · iexact P2x0
    isplitl [P2x1]; · iexact P2x1
    iexact P2x2
  icases Q with ⟨Q20, Q21, Q22, Q23⟩
  iapply (bind_step c)
  iapply (part38 I c _) $$ [Q10 U10 Q11 U11 Q12 U12 Q13 U13 Q20]
  · isplitl [Q10]; · iexact Q10
    isplitl [U10]; · iexact U10
    isplitl [Q11]; · iexact Q11
    isplitl [U11]; · iexact U11
    isplitl [Q12]; · iexact Q12
    isplitl [U12]; · iexact U12
    isplitl [Q13]; · iexact Q13
    isplitl [U13]; · iexact U13
    iexact Q20
  iintro ⟨Q10, U10, Q11, U11, Q12, U12, Q13, U13, Q20⟩
  iapply (put c oM (off := k0_off30 c 0#32) (inb' := inb_out (dv 0 (lx 2 (lc c)))) (w' := OUTc I c (dv 0 (lx 2 (lc c)))) (off30 c 0) (out_of I c _ (dv_lx_ne c 2 0) squeezes_S1x128x1024_S128x1024 shapeCasts_S1x128x1024_S128x1024)) $$ U20
  iintro U20
  iapply (ld c pgM (inb' := inb_pslot 2 1) rfl) $$ Q21
  iintro Q21
  iapply (ldS c oM (off := k0_off30 c 512#32) (inb' := inb_out (dv 1 (lx 2 (lc c)))) (off30 c 1)) $$ U21
  iintro %v U21
  iapply (ret_step c)
  iapply (stS c oM (off := k0_off30 c 512#32) (inb' := inb_out (dv 1 (lx 2 (lc c)))) (w' := OUTc I c (dv 1 (lx 2 (lc c)))) (off30 c 1) (out_of I c _ (dv_lx_ne c 2 1) squeezes_S1x128x1024_S128x1024 shapeCasts_S1x128x1024_S128x1024)) $$ U21
  iintro U21
  iapply (out_step I c 2 2 (o₂ := k0_off30 c 1024#32) rfl (off30 c 2) (fun _ => rfl)) $$ [Q22 U22]
  · isplitl [Q22] <;> iassumption
  iintro ⟨Q22, U22⟩
  iapply (out_step I c 2 3 (o₂ := k0_off30 c 1536#32) rfl (off30 c 3) (fun _ => rfl)) $$ [Q23 U23]
  · isplitl [Q23] <;> iassumption
  iintro ⟨Q23, U23⟩
  iapply (ret_step c)
  iapply Hk
  unfold bodyOut ins₀ scratch₁
  isplitl [HO]; · iexact HO
  isplitl [Hx Hrw Hid Hew]
  · isplitl [Hx]; · iexact Hx
    isplitl [Hrw]; · iexact Hrw
    isplitl [Hid]; · iexact Hid
    iexact Hew
  isplitl [O O0 O1 O2 U00 U01 U02 U03 U10 U11 U12 U13 U20 U21 U22 U23]
  · iapply (out_done I c)
    isplitl [O]; · iexact O
    isplitl [O0]; · iexact O0
    isplitl [O1]; · iexact O1
    isplitl [O2]; · iexact O2
    isplitl [U00]; · iexact U00
    isplitl [U01]; · iexact U01
    isplitl [U02]; · iexact U02
    isplitl [U03]; · iexact U03
    isplitl [U10]; · iexact U10
    isplitl [U11]; · iexact U11
    isplitl [U12]; · iexact U12
    isplitl [U13]; · iexact U13
    isplitl [U20]; · iexact U20
    isplitl [U21]; · iexact U21
    isplitl [U22]; · iexact U22
    iexact U23
  isplitl [Ybar Yprs0 Yprs1 Yprs2 Yzrs0 Yzrs1 Yzrs2 Yzag0 Yzag1 Yzag2 Ypago0 Ypago1 Ypago2 Ypag00 Ypag01 Ypag02 Ypag10 Ypag11 Ypag12 Ypag20 Ypag21 Ypag22 Zprs0 Zprs1 Zprs2 Zzrs0 Zzrs1 Zzrs2 Zzag0 Zzag1 Zzag2 Zpago0 Zpago1 Zpago2 Zpag00 Zpag01 Zpag02 Zpag10 Zpag11 Zpag12 Zpag20 Zpag21 Zpag22]
  · iapply (zeros_all c)
    isplitl [Ybar]; · iexact Ybar
    isplitl [Yprs0]; · iexact Yprs0
    isplitl [Yprs1]; · iexact Yprs1
    isplitl [Yprs2]; · iexact Yprs2
    isplitl [Yzrs0]; · iexact Yzrs0
    isplitl [Yzrs1]; · iexact Yzrs1
    isplitl [Yzrs2]; · iexact Yzrs2
    isplitl [Yzag0]; · iexact Yzag0
    isplitl [Yzag1]; · iexact Yzag1
    isplitl [Yzag2]; · iexact Yzag2
    isplitl [Ypago0]; · iexact Ypago0
    isplitl [Ypago1]; · iexact Ypago1
    isplitl [Ypago2]; · iexact Ypago2
    isplitl [Ypag00]; · iexact Ypag00
    isplitl [Ypag01]; · iexact Ypag01
    isplitl [Ypag02]; · iexact Ypag02
    isplitl [Ypag10]; · iexact Ypag10
    isplitl [Ypag11]; · iexact Ypag11
    isplitl [Ypag12]; · iexact Ypag12
    isplitl [Ypag20]; · iexact Ypag20
    isplitl [Ypag21]; · iexact Ypag21
    isplitl [Ypag22]; · iexact Ypag22
    isplitl [Zprs0]; · iexact Zprs0
    isplitl [Zprs1]; · iexact Zprs1
    isplitl [Zprs2]; · iexact Zprs2
    isplitl [Zzrs0]; · iexact Zzrs0
    isplitl [Zzrs1]; · iexact Zzrs1
    isplitl [Zzrs2]; · iexact Zzrs2
    isplitl [Zzag0]; · iexact Zzag0
    isplitl [Zzag1]; · iexact Zzag1
    isplitl [Zzag2]; · iexact Zzag2
    isplitl [Zpago0]; · iexact Zpago0
    isplitl [Zpago1]; · iexact Zpago1
    isplitl [Zpago2]; · iexact Zpago2
    isplitl [Zpag00]; · iexact Zpag00
    isplitl [Zpag01]; · iexact Zpag01
    isplitl [Zpag02]; · iexact Zpag02
    isplitl [Zpag10]; · iexact Zpag10
    isplitl [Zpag11]; · iexact Zpag11
    isplitl [Zpag12]; · iexact Zpag12
    isplitl [Zpag20]; · iexact Zpag20
    isplitl [Zpag21]; · iexact Zpag21
    iexact Zpag22
  isplitl [L Bprs0 Bprs1 Bprs2]
  · iapply (par_join c)
    isplitl [L]; · iapply (some_intro c (parB (lc c)) (PB I c (lc c))); iexact L
    isplitl [Bprs0]; · iapply (back_prs I c 0); iexact Bprs0
    isplitl [Bprs1]; · iapply (back_prs I c 1); iexact Bprs1
    iapply (back_prs I c 2); iexact Bprs2
  isplitl [Hxb]
  · iapply (some_intro c xbM (I.x c)); iexact Hxb
  isplitl [Hwb]
  · unfold wbs
    icases Hwb with ⟨wb0, wb1, wb2, wb3⟩
    iapply (wb_join c)
    isplitl [wb0]; · iapply (some_intro c (wbP 0) (EW I c 0)); iexact wb0
    isplitl [wb1]; · iapply (some_intro c (wbP 1) (EW I c 1)); iexact wb1
    isplitl [wb2]; · iapply (some_intro c (wbP 2) (EW I c 2)); iexact wb2
    iapply (some_intro c (wbP 3) (EW I c 3)); iexact wb3
  isplitl [Hwt]
  · iapply (some_intro c wtM (WT I c)); iexact Hwt
  isplitl [Hxc]
  · iapply (some_intro c xcM (XC I c (lc c))); iexact Hxc
  isplitl [Hwc]
  · iapply (some_intro c wcM (WC I c (lc c))); iexact Hwc
  isplitl [A Bzrs0 Bzrs1 Bzrs2]
  · iapply (csum_join c)
    isplitl [A]; · iapply (some_intro c (csP (pc c)) (CSc I c (pc c))); iexact A
    isplitl [Bzrs0]; · iapply (back_zrs I c 0); iexact Bzrs0
    isplitl [Bzrs1]; · iapply (back_zrs I c 1); iexact Bzrs1
    iapply (back_zrs I c 2); iexact Bzrs2
  isplitl [C Bzag0 Bzag1 Bzag2 Bpago0 Bpago1 Bpago2 X0 Bpag00 Bpag10 Bpag20 X1 Bpag01 Bpag11 Bpag21 X2 Bpag02 Bpag12 Bpag22]
  · iapply (cr_join c)
    isplitl [C Bzag0 Bzag1 Bzag2 Bpago0 Bpago1 Bpago2]
    · iapply (back_c I c)
      isplitl [C]; · iexact C
      isplitl [Bzag0 Bzag1 Bzag2]
      · isplitl [Bzag0]; · iexact Bzag0
        isplitl [Bzag1]; · iexact Bzag1
        iexact Bzag2
      isplitl [Bpago0]; · iexact Bpago0
      isplitl [Bpago1]; · iexact Bpago1
      iexact Bpago2
    isplitl [X0 Bpag00 Bpag10 Bpag20]
    · iapply (back_x I c 0)
      isplitl [X0]; · iexact X0
      isplitl [Bpag00]; · iexact Bpag00
      isplitl [Bpag10]; · iexact Bpag10
      iexact Bpag20
    isplitl [X1 Bpag01 Bpag11 Bpag21]
    · iapply (back_x I c 1)
      isplitl [X1]; · iexact X1
      isplitl [Bpag01]; · iexact Bpag01
      isplitl [Bpag11]; · iexact Bpag11
      iexact Bpag21
    iapply (back_x I c 2)
    isplitl [X2]; · iexact X2
    isplitl [Bpag02]; · iexact Bpag02
    isplitl [Bpag12]; · iexact Bpag12
    iexact Bpag22
  isplitl [D0 D1 D2]
  · iapply (pr_join c)
    isplitl [D0]; · iapply (some_intro c (prP 0) (PRS I c 0)); iexact D0
    isplitl [D1]; · iapply (some_intro c (prP 1) (PRS I c 1)); iexact D1
    iapply (some_intro c (prP 2) (PRS I c 2)); iexact D2
  isplitl [V0 V1 V2]
  · iapply (zr_join c)
    isplitl [V0]; · iapply (some_intro c (zrP 0) (ZRS I c 0)); iexact V0
    isplitl [V1]; · iapply (some_intro c (zrP 1) (ZRS I c 1)); iexact V1
    iapply (some_intro c (zrP 2) (ZRS I c 2)); iexact V2
  isplitl [W0 W1 W2]
  · iapply (za_join c)
    isplitl [W0]; · iapply (some_intro c (zaP 0) (ZAG I c 0)); iexact W0
    isplitl [W1]; · iapply (some_intro c (zaP 1) (ZAG I c 1)); iexact W1
    iapply (some_intro c (zaP 2) (ZAG I c 2)); iexact W2
  iapply (pg_join c)
  isplitl [Q00 Q01 Q02 Q03]
  · isplitl [Q00]; · iapply (some_intro c (pgP 0 0) (PGS I c 0 0)); iexact Q00
    isplitl [Q01]; · iapply (some_intro c (pgP 0 1) (PGS I c 0 1)); iexact Q01
    isplitl [Q02]; · iapply (some_intro c (pgP 0 2) (PGS I c 0 2)); iexact Q02
    iapply (some_intro c (pgP 0 3) (PGS I c 0 3)); iexact Q03
  isplitl [Q10 Q11 Q12 Q13]
  · isplitl [Q10]; · iapply (some_intro c (pgP 1 0) (PGS I c 1 0)); iexact Q10
    isplitl [Q11]; · iapply (some_intro c (pgP 1 1) (PGS I c 1 1)); iexact Q11
    isplitl [Q12]; · iapply (some_intro c (pgP 1 2) (PGS I c 1 2)); iexact Q12
    iapply (some_intro c (pgP 1 3) (PGS I c 1 3)); iexact Q13
  isplitl [Q20]; · iapply (some_intro c (pgP 2 0) (PGS I c 2 0)); iexact Q20
  isplitl [Q21]; · iapply (some_intro c (pgP 2 1) (PGS I c 2 1)); iexact Q21
  isplitl [Q22]; · iapply (some_intro c (pgP 2 2) (PGS I c 2 2)); iexact Q22
  iapply (some_intro c (pgP 2 3) (PGS I c 2 3)); iexact Q23

end Cert.KernelIdeal.Exch

end
-- ==== Proof.Ghost.lean ====
/-
# What the launch deals the devices

The ghost state of the cells, the duty tokens brought to the devices that pay them, and the credits.
-/
module

public import proofs.«01_k».proof.Proof.PartsA

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## Sums over the cells, the tokens and the partners -/

/-- A cell is the barrier's, a send cell or a receive cell. -/
def cixE : Unit ⊕ (SIx ⊕ SIx) ≃ CIx where
  toFun | .inl _ => .bar | .inr (.inl j) => .snd j | .inr (.inr j) => .rcv j
  invFun | .bar => .inl () | .snd j => .inr (.inl j) | .rcv j => .inr (.inr j)
  left_inv := by rintro (_ | _ | _) <;> rfl
  right_inv := by rintro (_ | _ | _) <;> rfl

theorem bigSep_cix (Φ : CIx → sProp 𝕄) :
    bigSep Finset.univ Φ = iprop(Φ .bar ∗ (bigSep Finset.univ fun j => Φ (.snd j)) ∗ bigSep Finset.univ fun j => Φ (.rcv j)) := by
  rw [bigSep_univ_equiv cixE, bigSep_univ_sum, bigSep_univ_sum, bigSep_univ_of_subsingleton ()]
  rfl

theorem pr_pr (d : PIx) (c : Dev nD) : pr (inv d) (pr d c) = c := by revert d c; decide
theorem pr_pr' (d : PIx) (c : Dev nD) : pr d (pr (inv d) c) = c := by revert d c; decide

/-- Partner `d`, one to one. -/
def prE (d : PIx) : Dev nD ≃ Dev nD := ⟨pr d, pr (inv d), pr_pr d, pr_pr' d⟩
/-- The names under which partners know each other, one to one. -/
def invE : PIx ≃ PIx := ⟨inv, inv, by intro d; revert d; decide, by intro d; revert d; decide⟩

/-! ## The cells' ghost state -/

/-- The kernel's own semaphores: the send bank and the receive bank. -/
def osem : SIx ⊕ SIx → SemLoc sig | .inl j => .dma (sndS j) | .inr j => .dma (rcvS j)

abbrev kcell (ck : Dev nD × CIx) : GSem nD τ sig := cell ck.1 ck.2

theorem kcell_injective : Function.Injective (kcell : Dev nD × CIx → GSem nD τ sig) := by
  rintro ⟨c, k⟩ ⟨c', k'⟩ h
  have h1 : c = c' := congrArg (fun g : GSem nD τ sig => g.1.1) h
  have h2 : csem k = csem k' := congrArg Prod.snd h
  rw [h1, csem_inj h2]

def allCells : Finset (GSem nD τ sig) := Finset.univ.map ⟨kcell, kcell_injective⟩

/-- A device's own cells' duty tokens: six of its barrier's, one of each send cell, one of each receive cell. -/
abbrev TIx : Type := PIx ⊕ (SIx ⊕ SIx)
def tokKey : TIx → CIx × PIx | .inl d => (.bar, d) | .inr (.inl j) => (.snd j, .pl 0) | .inr (.inr j) => (.rcv j, .pl 0)
abbrev tokOf (ct : Dev nD × TIx) : GSem nD τ sig × ℕ × PIx := (cell ct.1 (tokKey ct.2).1, 0, (tokKey ct.2).2)

theorem tokKey_injective : Function.Injective tokKey := by
  rintro (d | j | j) (d' | j' | j') h <;> simp_all [tokKey]

theorem tokOf_injective : Function.Injective tokOf := by
  rintro ⟨c, t⟩ ⟨c', t'⟩ h
  have h1 : (c, (tokKey t).1) = (c', (tokKey t').1) := kcell_injective (congrArg Prod.fst h)
  have h2 : (tokKey t).2 = (tokKey t').2 := congrArg (fun x : GSem nD τ sig × ℕ × PIx => x.2.2) h
  have h3 := tokKey_injective (Prod.ext (congrArg Prod.snd h1) h2)
  have h4 : c = c' := congrArg (fun x : Dev nD × CIx => x.1) h1
  rw [h4, h3]

def allToks : Finset (GSem nD τ sig × ℕ × PIx) := Finset.univ.map ⟨tokOf, tokOf_injective⟩

def u₀ : UU := (initOf (Pipeline.cells cfgs cellOf_inj) (Pipeline.launchToks cfgs cellOf_inj), initOf allCells allToks)

/-- The duty tokens of device `c`'s own cells, -/
def toks (c : Dev nD) : sProp 𝕄 :=
  iprop((bigSep Finset.univ fun d : PIx => dutyTok ER (cell c .bar) 0 d)
    ∗ (bigSep Finset.univ fun j : SIx => dutyTok ER (cell c (.snd j)) 0 (.pl 0)) ∗ bigSep Finset.univ fun j : SIx => dutyTok ER (cell c (.rcv j)) 0 (.pl 0))

/-- and of the duties it pays. -/
def payToks (c : Dev nD) : sProp 𝕄 :=
  iprop((bigSep Finset.univ fun d : PIx => dutyTok ER (cell (pr d c) .bar) 0 (inv d))
    ∗ (bigSep Finset.univ fun j : SIx => dutyTok ER (cell c (.snd j)) 0 (.pl 0)) ∗ bigSep Finset.univ fun j : SIx => dutyTok ER (cell (tgt j c) (.rcv j)) 0 (.pl 0))

/-- A device's positions in its cells. -/
def poss (c : Dev nD) : sProp 𝕄 := bigSep Finset.univ fun k : CIx => atPos ER (cell c k) 0 ∅ 0

theorem toks_around : (bigSep Finset.univ fun c : Dev nD => (toks c : sProp 𝕄)) ⊢ bigSep Finset.univ fun c : Dev nD => payToks c := by
  unfold toks payToks
  rw [bigSep_sep', bigSep_sep', bigSep_sep', bigSep_sep']
  refine Entails.of_eq ?_
  congr 1
  · refine (bigSep_univ_comm fun (c : Dev nD) (d : PIx) => (dutyTok ER (cell c .bar) 0 d : sProp 𝕄)).trans (Eq.trans ?_
      (bigSep_univ_comm fun (d : PIx) (c : Dev nD) => (dutyTok ER (cell (pr d c) .bar) 0 (inv d) : sProp 𝕄)))
    refine (bigSep_univ_equiv invE _).trans (bigSep_congr fun d _ => ?_)
    exact bigSep_univ_equiv (prE d) (fun c : Dev nD => (dutyTok ER (cell c .bar) 0 (inv d) : sProp 𝕄))
  · congr 1
    refine (bigSep_univ_comm fun (c : Dev nD) (j : SIx) => (dutyTok ER (cell c (.rcv j)) 0 (.pl 0) : sProp 𝕄)).trans (Eq.trans ?_
      (bigSep_univ_comm fun (j : SIx) (c : Dev nD) => (dutyTok ER (cell (tgt j c) (.rcv j)) 0 (.pl 0) : sProp 𝕄)))
    refine bigSep_congr fun j _ => ?_
    exact bigSep_univ_equiv (prE j.to) (fun c : Dev nD => (dutyTok ER (cell c (.rcv j)) 0 (.pl 0) : sProp 𝕄))

/-- What the launch deals device `c`, -/
def G (c : Dev nD) : sProp 𝕄 :=
  iprop((bigSep Finset.univ fun k : CIx => roundState ER (Rd I) (cell c k) 0)
    ∗ (bigSep Finset.univ fun k : CIx => reached ER (cell c k) 0) ∗ poss c ∗ toks c)

/-- what every device knows of every cell, -/
def cells (K : Dev nD × CIx → ℕ) : sProp 𝕄 :=
  bigSep Finset.univ fun ck : Dev nD × CIx => iprop(cellInv ER (Rd I) (K ck) (cell ck.1 ck.2) ∗ reached ER (cell ck.1 ck.2) 0)

instance cells_persistent (K : Dev nD × CIx → ℕ) : BI.Persistent (cells I K) := by unfold cells; infer_instance

/-- and what the body starts from. -/
def G' (c : Dev nD) : sProp 𝕄 := iprop(∃ K, cells I K ∗ poss c ∗ payToks c)

theorem over_cells (Φ : GSem nD τ sig → sProp 𝕄) : bigSep allCells Φ = bigSep Finset.univ fun c : Dev nD => bigSep Finset.univ fun k : CIx => Φ (cell c k) := by
  unfold allCells; rw [bigSep_map, bigSep_univ_prod]; rfl

theorem over_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_sum, bigSep_univ_sum]; rfl

theorem fund_cells : BI.own (ER (initOf allCells allToks)) ⊢ (|==> bigSep Finset.univ (G I) : sProp 𝕄) := by
  iintro HX
  imod (Rounds.fund ER (Rd I) allCells allToks) $$ HX with ⟨Hst, Hr, Hat, Htok⟩
  imodintro
  ihave Hst' := (Entails.of_eq (over_cells fun g => roundState ER (Rd I) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G poss; simp only [bigSep_sep']
  isplitl [Hst']; · iexact Hst'
  isplitl [Hr']; · iexact Hr'
  isplitl [Hat']; · iexact Hat'
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun j => zero c (.snd j)) ∗ bigSep Finset.univ fun j => zero c (.rcv j)) := by
  unfold Pipeline.ownSems0; rw [bigSep_univ_sum]; rfl

theorem unscopedSems0_eq (c : Dev nD) : (unscopedSems0 c : sProp 𝕄) = zero c .bar := by
  unfold unscopedSems0; rw [bigSep_eq_bigSepL_of_eq [SemLoc.reg barS] (by decide) (by decide)]; rfl

/-- The counters of a device's cells are the kernel's own and the barrier's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => zero c k : sProp 𝕄) := by
  rw [ownSems0_eq, unscopedSems0_eq, bigSep_cix]
  iintro ⟨⟨HS, HV⟩, HB⟩
  isplitl [HB]; · iexact HB
  isplitl [HS] <;> iassumption

theorem sems0_back (c : Dev nD) :
    (bigSep Finset.univ fun k : CIx => zero c k : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, bigSep_cix]

theorem alloc_cells (c : Dev nD) :
    iprop((bigSep Finset.univ fun k : CIx => zero c k) ∗ bigSep Finset.univ fun k : CIx => roundState ER (Rd I) (cell c k) 0)
      ⊢ (|={Set.univ}=> bigSep Finset.univ fun k => iprop(∃ κ : ℕ, cellInv ER (Rd I) κ (cell c k)) : sProp 𝕄) := by
  rw [← bigSep_sep']
  exact (bigSep_mono fun k _ => (Rounds.body_intro ER (Rd I) (cell c k)).trans inv_alloc).trans (bigSep_fupd _ _)

/-- A device's cells, allocated. -/
def alloced (c : Dev nD) : sProp 𝕄 :=
  iprop((bigSep Finset.univ fun k => iprop(∃ κ : ℕ, cellInv ER (Rd I) κ (cell c k)))
    ∗ (bigSep Finset.univ fun k : CIx => reached ER (cell c k) 0) ∗ poss c ∗ toks c)

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> alloced I c := by
  unfold G alloced
  iintro ⟨Hos, Hus, Hst, Hr, Hat, Htok⟩
  ihave Hv := (sems0_eq (F := F) c) $$ [Hos Hus]
  · isplitl [Hos] <;> iassumption
  imod (alloc_cells I c) $$ [Hv Hst] with Hinv
  · isplitl [Hv] <;> iassumption
  imodintro
  isplitl [Hinv]; · iexact Hinv
  isplitl [Hr]; · iexact Hr
  isplitl [Hat]; · iexact Hat
  iexact Htok

theorem regroup : (bigSep Finset.univ fun c : Dev nD => alloced I c : sProp 𝕄) ⊢ bigSep Finset.univ (G' I) := by
  unfold alloced
  rw [bigSep_sep', bigSep_sep', bigSep_sep', ← bigSep_univ_prod (fun ck : Dev nD × CIx => iprop(∃ κ : ℕ, cellInv ER (Rd I) κ (kcell ck))),
    ← bigSep_univ_prod (fun ck : Dev nD × CIx => (reached ER (kcell ck) 0 : sProp 𝕄))]
  iintro ⟨HI, HR, Hat, Htok⟩
  ihave HK := (BI.bigSep_exists_pi Finset.univ (fun (ck : Dev nD × CIx) (κ : ℕ) => (cellInv ER (Rd I) κ (kcell ck) : sProp 𝕄))) $$ HI
  icases HK with ⟨%K, HI⟩
  ihave Htk := (toks_around (F := F)) $$ Htok
  iapply (BI.bigSep_with_persistent (R := cells I K) (Φ := fun c : Dev nD => iprop(poss c ∗ payToks c)) fun c _ => by
    unfold G'
    iintro ⟨#H, H2⟩
    iexists K
    isplitr; · iexact H
    iexact H2)
  isplitl [HI HR]
  · unfold cells
    rw [bigSep_sep']
    isplitl [HI]; · iexact HI
    iexact HR
  · rw [bigSep_sep']
    isplitl [Hat]; · iexact Hat
    iexact Htk

/-- All the cells of all the devices, allocated under one update. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

/-- What device `c` owes at the launch. -/
def O₀ (c : Dev nD) : CellTallies nD τ sig Unit := owedL c dues

theorem owedL_apply (c : Dev nD) (l : List Due) (g : GSem nD τ sig) :
    owedL c l g () = (l.map fun x => if dueCell c x = g then dueAmt x else 0).sum := by
  induction l with
  | nil => rfl
  | cons x l ih =>
    rw [owedL, Pi.add_apply, Finsupp.add_apply, ih, tallyAt_apply, List.map_cons, List.sum_cons, Nat.add_comm]
    congr 1
    by_cases h : dueCell c x = g
    · rw [if_pos ⟨h.symm, rfl⟩, if_pos h]
    · rw [if_neg fun h' => h h'.1.symm, if_neg h]

/-- What the devices owe a cell of kind `k` by one due. -/
def dueTo (k : CIx) (x : Due) : ℕ := match x, k with | .bar _, .bar => 1 | .xf j, .rcv j' => if j = j' then amt j else 0 | _, _ => 0

theorem cell_eq_iff {a b : Dev nD} {k k' : CIx} : cell a k = cell b k' ↔ a = b ∧ k = k' :=
  ⟨fun h => by have := kcell_injective (a₁ := (a, k)) (a₂ := (b, k')) h; exact ⟨congrArg Prod.fst this, congrArg Prod.snd this⟩, fun ⟨h, h'⟩ => h ▸ h' ▸ rfl⟩

theorem sum_partner (d : PIx) (c : Dev nD) (p : Prop) [Decidable p] (n : ℕ) :
    (∑ e : Dev nD, if pr d e = c ∧ p then n else 0) = if p then n else 0 := by
  by_cases hp : p
  · simp only [hp, and_true, if_true]
    rw [Fintype.sum_equiv (prE d) (fun e => if pr d e = c then n else 0) (fun e => if e = c then n else 0) fun e => rfl]
    exact (Finset.sum_ite_eq' Finset.univ c fun _ => n).trans (if_pos (Finset.mem_univ _))
  · simp only [hp, and_false, if_false, Finset.sum_const_zero]

theorem sum_due (k : CIx) (c : Dev nD) (x : Due) : (∑ d : Dev nD, if dueCell d x = cell c k then dueAmt x else 0) = dueTo k x := by
  rcases x with d | j
  · simp only [dueCell, dueAt, cell_eq_iff]
    rw [sum_partner d c (CIx.bar = k)]
    rcases k with _ | _ | _ <;> rfl
  · simp only [dueCell, dueAt, cell_eq_iff]
    rw [sum_partner j.to c (CIx.rcv j = k)]
    rcases k with _ | j' | j'
    · rfl
    · rfl
    · simp only [dueTo, CIx.rcv.injEq]
      rfl

theorem sum_dues (k : CIx) (c : Dev nD) (l : List Due) :
    (∑ d : Dev nD, owedL d l (cell c k) ()) = (l.map (dueTo k)).sum := by
  simp only [owedL_apply]
  induction l with
  | nil => exact Finset.sum_const_zero
  | cons x l ih =>
    simp only [List.map_cons, List.sum_cons, Finset.sum_add_distrib]
    rw [ih, sum_due]

theorem dues_rcv (j : SIx) : (dues.map (dueTo (.rcv j))).sum = amt j := by
  have h : ∀ (w : SIx → ℕ) (j : SIx), (dues.map fun x => match x with | .bar _ => 0 | .xf j' => if j' = j then w j' else 0).sum = w j := by
    intro w j
    have := SIx.mem_all j
    simp only [SIx.all, List.mem_cons, List.not_mem_nil, or_false] at this
    rcases this with h | h | h | h | h | h | h | h | h | h | h | h | h | h | h | h | h | h | h | h | h <;> subst h <;> simp [dues]
  rw [← h amt j]
  refine congrArg List.sum (List.map_congr_left fun x _ => ?_)
  cases x <;> rfl

theorem dues_bar : (dues.map (dueTo .bar)).sum = 6 := rfl

theorem launch_at (c : Dev nD) (k : CIx) :
    tallyOn (cell c k) (launchCredit (Pipeline.owing O₀) 0 (cell c k)) = (tallyAt (cell c k) () ((dues.map (dueTo k)).sum) : CellTallies nD τ sig Unit) := by
  unfold tallyAt; refine congrArg _ (Finsupp.ext fun u => ?_); cases u
  rw [Pipeline.launchCredit_owing, Finsupp.single_eq_same]
  exact sum_dues k c dues

theorem creds (c : Dev nD) :
    (Pipeline.launchCred O₀ c : sProp 𝕄) ⊢ iprop(cred (tallyAt (cell c .bar) () 6) ∗ bigSep Finset.univ fun j => cred (tallyAt (cell c (.rcv j)) () (amt j))) := by
  unfold Pipeline.launchCred
  have h : (bigSep Finset.univ fun sm : SemLoc sig => (cred (tallyOn ((c.tc : Thread nD τ), sm) (launchCredit (Pipeline.owing O₀) 0 ((c.tc : Thread nD τ), sm))) : sProp 𝕄))
      ⊢ bigSep Finset.univ fun k : CIx => (cred (tallyOn (cell c k) (launchCredit (Pipeline.owing O₀) 0 (cell c k))) : sProp 𝕄) :=
    (bigSep_subset (t := Finset.univ.map ⟨csem, csem_inj⟩) (Finset.subset_univ _)).trans (Entails.of_eq (bigSep_map _))
  refine h.trans ?_
  simp only [launch_at]
  rw [bigSep_cix, dues_bar]
  simp only [dues_rcv]
  iintro ⟨H1, -, H2⟩
  isplitl [H1]; · iexact H1
  iexact H2

end Cert.KernelIdeal.Exch

end
-- ==== Proof.Run.lean ====
/-
# The run

The launch of the sixteen devices and what it leaves in their arrays.
-/
module

public import proofs.«01_k».proof.Proof.Body
public import proofs.«01_k».proof.Proof.Ghost
public import proofs.«01_k».proof.Proof.Gen.KernelIdeal.Points
public import Idealize.ShloMosaic.Lib.Pipeline.Value
public import Idealize.ShloMosaic.Lib.Pipeline.CollectiveSegs

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The operands as the launch finds them. -/
def insAt : Ins F :=
  ⟨fun c => m ((c : Thread nD τ).loc main_arg0), fun c => m ((c : Thread nD τ).loc main_arg1), fun c => m ((c : Thread nD τ).loc main_arg2), fun c => m ((c : Thread nD τ).loc main_arg3)⟩

/-! ## The windows -/

theorem blk_emb0 (t : Fin cfg0.N) (i : S2048x512.Idx) : (win0_0.blk t).view.emb i = i := funext fun a => Fin.ext (by show 0 * _ + 1 * (i a).val = _; omega)
theorem blk_emb1 (t : Fin cfg0.N) (i : S512x64.Idx) : (win0_1.blk t).view.emb i = i := funext fun a => Fin.ext (by show 0 * _ + 1 * (i a).val = _; omega)
theorem blk_emb2 (t : Fin cfg0.N) (i : S2048x2.Idx) : (win0_2.blk t).view.emb i = i := funext fun a => Fin.ext (by show 0 * _ + 1 * (i a).val = _; omega)
theorem blk_emb3 (t : Fin cfg0.N) (i : S4x512x1024.Idx) : (win0_3.blk t).view.emb i = i := funext fun a => Fin.ext (by show 0 * _ + 1 * (i a).val = _; omega)
theorem blk_emb4 (t : Fin cfg0.N) (i : S2048x1024.Idx) : (win0_4.blk t).view.emb i = i := funext fun a => Fin.ext (by show 0 * _ + 1 * (i a).val = _; omega)

theorem blk_read0 (t : Fin cfg0.N) (f : Buf (Elt F) (win0_0.arr.view.loc ((0 : Dev nD) : Thread nD τ))) : (win0_0.blk t).view.read (Elt F) f = f :=
  funext fun i => congrArg f (blk_emb0 t i)
theorem blk_read1 (t : Fin cfg0.N) (f : Buf (Elt F) (win0_1.arr.view.loc ((0 : Dev nD) : Thread nD τ))) : (win0_1.blk t).view.read (Elt F) f = f :=
  funext fun i => congrArg f (blk_emb1 t i)
theorem blk_read2 (t : Fin cfg0.N) (f : Buf (Elt F) (win0_2.arr.view.loc ((0 : Dev nD) : Thread nD τ))) : (win0_2.blk t).view.read (Elt F) f = f :=
  funext fun i => congrArg f (blk_emb2 t i)
theorem blk_read3 (t : Fin cfg0.N) (f : Buf (Elt F) (win0_3.arr.view.loc ((0 : Dev nD) : Thread nD τ))) : (win0_3.blk t).view.read (Elt F) f = f :=
  funext fun i => congrArg f (blk_emb3 t i)
theorem blk_read4 (t : Fin cfg0.N) (f : Buf (Elt F) (win0_4.arr.view.loc ((0 : Dev nD) : Thread nD τ))) : (win0_4.blk t).view.read (Elt F) f = f :=
  funext fun i => congrArg f (blk_emb4 t i)

/-! ## The pipeline's proof data -/

/-- What the body starts from on device `c`, but for its buffers. -/
def start (c : Dev nD) : sProp 𝕄 :=
  iprop(G' (insAt m) c ∗ (cred (tallyAt (cell c .bar) () 6) ∗ bigSep Finset.univ fun j => cred (tallyAt (cell c (.rcv j)) () (amt j))) ∗ levs)

def Φ₀ (c : Dev nD) : sProp 𝕄 := iprop(start m c ∗ scratch₁ c)
def Φ₁ (c : Dev nD) : sProp 𝕄 := iprop((bigSep Finset.univ fun k => zero c k) ∗ scratch₁ c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (insAt m).x c
    | ⟨1, _⟩ => (insAt m).rw c
    | ⟨2, _⟩ => (insAt m).ix c
    | ⟨3, _⟩ => (insAt m).ew c
    | ⟨4, _⟩ => OUT (insAt m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem whole_in (c : Dev nD) (b : Ref sig .tc) :
    (iprop(∃ f : Buf (Elt F) ((c : Thread nD τ).loc b), ((c : Thread nD τ).loc b) ↦{fullShare} f) : sProp 𝕄)
      ⊢ iprop(∃ v : b.ty.Contents (Elt F), owns (c : Thread nD τ) (Memref.whole b) fullShare v) := by
  iintro ⟨%f, H⟩
  iexists f
  rw [owns_whole_eq]
  iexists f
  isplitr; · (ipureintro; rfl)
  iexact H

theorem whole_out (c : Dev nD) (b : Ref sig .tc) :
    (iprop(∃ v : b.ty.Contents (Elt F), owns (c : Thread nD τ) (Memref.whole b) fullShare v) : sProp 𝕄)
      ⊢ iprop(∃ f : Buf (Elt F) ((c : Thread nD τ).loc b), ((c : Thread nD τ).loc b) ↦{fullShare} f) := by
  iintro ⟨%v, H⟩
  ihave H' := (Entails.of_eq (owns_whole_eq c b v)) $$ H
  icases H' with ⟨%f, -, H⟩
  iexists f
  iexact H

theorem scratch_in (c : Dev nD) : (Pipeline.scopedRest (Ix := Unit) (Name := ℕ) (U := UU) (Lvl := ℕ) (Val := Elt F) spec0 c : sProp 𝕄) ⊢ scratch₁ c := by
  rw [scopedRest0_eq]
  unfold scratch₁ some'
  iintro ⟨H0, H1, H2, H3, H4, H5, H6, H7, H8, H9, H10, H11⟩
  isplitl [H0]; · iapply (whole_in c cc0_scratch0); iexact H0
  isplitl [H1]; · iapply (whole_in c cc0_scratch1); iexact H1
  isplitl [H2]; · iapply (whole_in c cc0_scratch2); iexact H2
  isplitl [H3]; · iapply (whole_in c cc0_scratch3); iexact H3
  isplitl [H4]; · iapply (whole_in c cc0_scratch4); iexact H4
  isplitl [H5]; · iapply (whole_in c cc0_scratch5); iexact H5
  isplitl [H6]; · iapply (whole_in c cc0_scratch6); iexact H6
  isplitl [H7]; · iapply (whole_in c cc0_scratch7); iexact H7
  isplitl [H8]; · iapply (whole_in c cc0_scratch8); iexact H8
  isplitl [H9]; · iapply (whole_in c cc0_scratch9); iexact H9
  isplitl [H10]; · iapply (whole_in c cc0_scratch10); iexact H10
  iapply (whole_in c cc0_scratch11); iexact H11

theorem scratch_out (c : Dev nD) : (scratch₁ c : sProp 𝕄) ⊢ Pipeline.scopedRest (Ix := Unit) (Name := ℕ) (U := UU) (Lvl := ℕ) (Val := Elt F) spec0 c := by
  rw [scopedRest0_eq]
  unfold scratch₁ some'
  iintro ⟨H0, H1, H2, H3, H4, H5, H6, H7, H8, H9, H10, H11⟩
  isplitl [H0]; · iapply (whole_out c cc0_scratch0); iexact H0
  isplitl [H1]; · iapply (whole_out c cc0_scratch1); iexact H1
  isplitl [H2]; · iapply (whole_out c cc0_scratch2); iexact H2
  isplitl [H3]; · iapply (whole_out c cc0_scratch3); iexact H3
  isplitl [H4]; · iapply (whole_out c cc0_scratch4); iexact H4
  isplitl [H5]; · iapply (whole_out c cc0_scratch5); iexact H5
  isplitl [H6]; · iapply (whole_out c cc0_scratch6); iexact H6
  isplitl [H7]; · iapply (whole_out c cc0_scratch7); iexact H7
  isplitl [H8]; · iapply (whole_out c cc0_scratch8); iexact H8
  isplitl [H9]; · iapply (whole_out c cc0_scratch9); iexact H9
  isplitl [H10]; · iapply (whole_out c cc0_scratch10); iexact H10
  iapply (whole_out c cc0_scratch11); iexact H11

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem txs_eq (c : Dev nD) : (txs c : sProp 𝕄) = bigSep Finset.univ fun j => tx j c := by
  rw [bigSep_univ_eq_bigSepL SIx.all (by decide) (by decide)]; rfl
theorem rxs_eq (c : Dev nD) : (rxs c : sProp 𝕄) = bigSep Finset.univ fun j => rx j c := by
  rw [bigSep_univ_eq_bigSepL SIx.all (by decide) (by decide)]; rfl

theorem six (Φ : PIx → sProp 𝕄) : bigSep Finset.univ Φ = iprop(Φ (.pl 0) ∗ Φ (.pl 1) ∗ Φ (.pl 2) ∗ Φ (.co 0) ∗ Φ (.co 1) ∗ Φ (.co 2)) := by
  rw [bigSep_univ_eq_bigSepL ([.pl 0, .pl 1, .pl 2, .co 0, .co 1, .co 2] : List PIx) (by decide) (by decide)]; rfl

/-- Each transfer's tokens and position, and each receipt's credit and position. -/
theorem deal (c : Dev nD) :
    (iprop(poss c ∗ payToks c ∗ (cred (tallyAt (cell c .bar) () 6) ∗ bigSep Finset.univ fun j => cred (tallyAt (cell c (.rcv j)) () (amt j)))) : sProp 𝕄)
      ⊢ iprop((bigSep Finset.univ fun d : PIx => dutyTok ER (cell (pr d c) .bar) 0 (inv d)) ∗ bar₀ c ∗ txs c ∗ rxs c) := by
  rw [txs_eq, rxs_eq]
  unfold poss payToks bar₀ tx rx
  rw [bigSep_cix, bigSep_sep', bigSep_sep', bigSep_sep']
  iintro ⟨⟨p0, p1, p2⟩, ⟨t0, t1, t2⟩, c0, c1⟩
  isplitl [t0]; · iexact t0
  isplitl [p0 c0]
  · isplitl [c0] <;> iassumption
  isplitl [t1 t2 p1]
  · isplitl [t1]; · iexact t1
    isplitl [t2] <;> iassumption
  isplitl [c1] <;> iassumption

/-- The scratch, handed out as the signals' slots and the rest. -/
theorem scratch_deal (c : Dev nD) :
    (iprop((bigSep Finset.univ fun d : PIx => dutyTok ER (cell (pr d c) .bar) 0 (inv d)) ∗ scratch₁ c) : sProp 𝕄) ⊢ iprop(sigs c ∗ scratch₀ c) := by
  rw [six]
  unfold sigs sig₀ scratch₁ scratch₀
  iintro ⟨⟨t0, t1, t2, t3, t4, t5⟩, s0, s1, s2, s3, s4, s5, s6, s7, s8, s9, s10, s11⟩
  ihave Hs := (slots_all c) $$ [s8 s9 s10 s11]
  · isplitl [s8]; · iexact s8
    isplitl [s9]; · iexact s9
    isplitl [s10] <;> iassumption
  icases Hs with ⟨⟨q0, q1, q2⟩, q3, q4, q5⟩
  isplitl [t0 t1 t2 t3 t4 t5 q0 q1 q2 q3 q4 q5]
  · isplitl [t0 q0]
    · isplitl [t0] <;> iassumption
    isplitl [t1 q1]
    · isplitl [t1] <;> iassumption
    isplitl [t2 q2]
    · isplitl [t2] <;> iassumption
    isplitl [t3 q3]
    · isplitl [t3] <;> iassumption
    isplitl [t4 q4]
    · isplitl [t4] <;> iassumption
    isplitl [t5] <;> iassumption
  isplitl [s0]; · iexact s0
  isplitl [s1]; · iexact s1
  isplitl [s2]; · iexact s2
  isplitl [s3]; · iexact s3
  isplitl [s4]; · iexact s4
  isplitl [s5]; · iexact s5
  isplitl [s6] <;> iassumption

def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () (t0_0 : Fin cfg0.N).succ
    ∗ stg c cc0_stg0_0 ((insAt m).x c) ∗ stg c cc0_stg1_0 ((insAt m).rw c) ∗ stg c cc0_stg2_0 ((insAt m).ix c) ∗ stg c cc0_stg3_0 ((insAt m).ew c)
    ∗ stg c cc0_stg4_0 (OUT (insAt m) c))

theorem stg_own (c : Dev nD) (b : Ref sig .tc) (X : b.ty.Contents (Elt F)) : stg c b X ⊢ (owns (c : Thread nD τ) (Memref.whole b) fullShare X : sProp 𝕄) :=
  Entails.of_eq (owns_whole_eq c b X).symm
theorem own_stg (c : Dev nD) (b : Ref sig .tc) (X : b.ty.Contents (Elt F)) : (owns (c : Thread nD τ) (Memref.whole b) fullShare X : sProp 𝕄) ⊢ stg c b X :=
  Entails.of_eq (owns_whole_eq c b X)

theorem stg_some (c : Dev nD) (b : Ref sig .tc) (X : b.ty.Contents (Elt F)) :
    stg c b X ⊢ (iprop(∃ v : b.ty.Contents (Elt F), owns (c : Thread nD τ) (Memref.whole b) fullShare v) : sProp 𝕄) := by
  iintro H
  iexists X
  iapply (stg_own c b X)
  iexact H

theorem before0 (c : Dev nD) (d) : (dats (F := F) m ρ 0 c).before (0 : Fin 5) t0_0 d = (insAt m).x c := by
  unfold Pipeline.Dat.before; rw [if_pos (fetch0_0 t0_0)]; exact blk_read0 (F := F) t0_0 _
theorem before1 (c : Dev nD) (d) : (dats (F := F) m ρ 0 c).before (1 : Fin 5) t0_0 d = (insAt m).rw c := by
  unfold Pipeline.Dat.before; rw [if_pos (fetch0_1 t0_0)]; exact blk_read1 (F := F) t0_0 _
theorem before2 (c : Dev nD) (d) : (dats (F := F) m ρ 0 c).before (2 : Fin 5) t0_0 d = (insAt m).ix c := by
  unfold Pipeline.Dat.before; rw [if_pos (fetch0_2 t0_0)]; exact blk_read2 (F := F) t0_0 _
theorem before3 (c : Dev nD) (d) : (dats (F := F) m ρ 0 c).before (3 : Fin 5) t0_0 d = (insAt m).ew c := by
  unfold Pipeline.Dat.before; rw [if_pos (fetch0_3 t0_0)]; exact blk_read3 (F := F) t0_0 _

theorem sound_body (c : Dev nD) :
    bodyPre m ρ c ⊢ wpB c (atBufs (cc0_body (F := F))) (fun _ => bodyPost m ρ c) := by
  unfold bodyPre Φ₀ start G' Pipeline.Dat.owesAt Pipeline.owesWithin
  simp only [before0, before1, before2, before3]
  iintro ⟨⟨⟨⟨%K, #HC, Hpos, Htok⟩, Hcr, #Hlev⟩, Hscr⟩, ⟨%W, %hW, HO⟩, ⟨%d0, Hx⟩, ⟨%d1, Hrw⟩, ⟨%d2, Hix⟩, ⟨%d3, Hew⟩, ⟨%d4, Hout⟩⟩
  ihave Hd := (deal c) $$ [Hpos Htok Hcr]
  · isplitl [Hpos]; · iexact Hpos
    isplitl [Htok]; · iexact Htok
    iexact Hcr
  icases Hd with ⟨Ht, Hbar, Htx, Hrx⟩
  ihave Hs := (scratch_deal c) $$ [Ht Hscr]
  · isplitl [Ht]; · iexact Ht
    iexact Hscr
  icases Hs with ⟨Hsig, Hscr⟩
  iapply (body_run (insAt m) K c) $$ [Hbar Htx Hrx Hsig Hscr HO Hx Hrw Hix Hew Hout]
  · unfold bodyIn env ins₀ cells
    isplitr
    · isplitr; · iexact HC
      iexact Hlev
    isplitl [HO]
    · unfold owe owing
      iexists W
      iexact HO
    isplitl [Hsig]; · iexact Hsig
    isplitl [Hbar]; · iexact Hbar
    isplitl [Htx]; · iexact Htx
    isplitl [Hrx]; · iexact Hrx
    isplitl [Hx Hrw Hix Hew]
    · isplitl [Hx]; · iapply (stg_own c cc0_stg0_0); iexact Hx
      isplitl [Hrw]; · iapply (stg_own c cc0_stg1_0); iexact Hrw
      isplitl [Hix]; · iapply (stg_own c cc0_stg2_0); iexact Hix
      iapply (stg_own c cc0_stg3_0); iexact Hew
    isplitl [Hout]
    · unfold some'
      iapply (stg_some c cc0_stg4_0 _)
      iexact Hout
    iexact Hscr
  unfold bodyOut ins₀ owe owing bodyPost Φ₁
  iintro ⟨⟨%W', HO⟩, ⟨Hx, Hrw, Hix, Hew⟩, Hout, Hz, Hscr⟩
  isplitl [Hz Hscr]
  · isplitl [Hz] <;> iassumption
  unfold Pipeline.Dat.owesAt Pipeline.owesWithin
  rw [show (dats m ρ 0 c).owed (t0_0 : Fin cfg0.N).succ = 0 from rfl]
  isplitl [HO]
  · iexists W'
    isplitr; · ipureintro; exact fun _ _ => Or.inl trivial
    iexact HO
  isplitl [Hx]; · iapply (own_stg c cc0_stg0_0); iexact Hx
  isplitl [Hrw]; · iapply (own_stg c cc0_stg1_0); iexact Hrw
  isplitl [Hix]; · iapply (own_stg c cc0_stg2_0); iexact Hix
  isplitl [Hew]; · iapply (own_stg c cc0_stg3_0); iexact Hew
  iapply (own_stg c cc0_stg4_0); iexact Hout

set_option maxRecDepth 100000 in
/-- The body obligation on device `c`. -/
theorem body_obligation (c : Dev nD) : Pipeline.BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Pipeline.Dat.share; split <;> rfl

theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine mayWait c (.dma q) 0 ?_ dues (by decide)
    show (match dec (.dma q) with | some k => lvOf k | none => 0) = 0
    rw [show dec (.dma q) = none from by unfold dec; exact dif_neg fun ⟨k, hk⟩ => hq k hk]
  · rw [MayWait_zero]; iintro -; iempintro

theorem stage_ne (w : Fin cfg0.W) (s : Fin (cfg0.win w).nbuf) (k : CIx) : csem k ≠ .dma ((cfg0.win w).sem s) := by
  rcases k with _ | j | j
  · exact fun h => by cases h
  · exact ownSemFacts.disj (.inl j) w s
  · exact ownSemFacts.disj (.inr j) w s

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_ne w s) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insAt m) c)
      ⊢ |={Set.univ}=> iprop(start m c ∗ emp) := by
  iintro ⟨-, Hlev, Hcr, -, HG⟩
  ihave Hc := (creds (F := F) c) $$ Hcr
  imodintro
  unfold start levs
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_in c)
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hz, Hr⟩
  ihave Hz := (sems0_back c) $$ Hz
  icases Hz with ⟨H1, H2⟩
  isplitl [H1]; · iexact H1
  isplitl [H2]; · iexact H2
  iapply (scratch_out c)
  iexact Hr

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of sixteen devices, for any float values, from any memory with zero counters: every weakly fair
    execution terminates with each device's arrays at the computed contents and every counter at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insAt m)) (G' := G' (insAt m)) (u₀ := u₀)
    (hu₀ := by
      unfold u₀
      iintro Hu
      ihave H := (ownU_pair _ _) $$ Hu
      icases H with ⟨HP, HX⟩
      imod (fund_cells (insAt m)) $$ HX with HG
      imodintro
      isplitl [HP] <;> iassumption)
    (hglob := glob (insAt m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_out (c : Dev nD) : finalA m ρ c (4 : Fin 5) = OUT (insAt m) c :=
  (dats m ρ 0 c).arrAt_eq_of_cover (4 : Fin 5) (OUT (insAt m) c) (fun t _ => (blk_read4 t _).symm)
    fun i => ⟨t0_0, flush0_4 _, by
      have := (win0_4.blk t0_0).view.emb_mem_set i
      rw [blk_emb4] at this
      exact this⟩

/-- The run as the claims read it: the operands kept, the result at its value, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = OUT (insAt m) c) ∧ r.2.sem = fun _ => 0) :=
  (θ_run defs _ _).mono (fun _ ⟨h, hs⟩ => ⟨fun c =>
    ⟨(h c (0 : Fin 5)).trans ((dats m ρ 0 c).arrAt_in (0 : Fin 5) rfl _), (h c (1 : Fin 5)).trans ((dats m ρ 0 c).arrAt_in (1 : Fin 5) rfl _),
      (h c (2 : Fin 5)).trans ((dats m ρ 0 c).arrAt_in (2 : Fin 5) rfl _), (h c (3 : Fin 5)).trans ((dats m ρ 0 c).arrAt_in (3 : Fin 5) rfl _),
      (h c (4 : Fin 5)).trans (final_out m ρ c)⟩, hs⟩) (run_all m ρ)

end Cert.KernelIdeal.Exch

end
-- ==== Proof.Frames.lean ====
/-
  The frames of the three programs: each terminates, keeps its arguments and leaves every counter at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem

set_option maxRecDepth 100000 in
/-- The two printed kernels have one text: their bodies are the same program, -/
theorem bodies_eq : Cert.Kernel.defs₀ (F := Bits) = Cert.KernelIdeal.defs₀ (F := Bits) := by
  unfold Cert.Kernel.defs₀ Cert.KernelIdeal.defs₀
  congr 1
  funext l x
  rcases l with ⟨_ | n, hl⟩
  · rfl
  · exact absurd hl (by omega)

/-- and so are the pipelines around them. -/
theorem defs_eq : Cert.Kernel.defs (F := Bits) = Cert.KernelIdeal.defs (F := Bits) := by
  unfold Cert.Kernel.defs Cert.KernelIdeal.defs
  exact congrArg (Pipeline.defs _) bodies_eq

set_option maxRecDepth 20000 in
/-- The kernel over its own words: the common run, read at words. -/
theorem frame_kernel : Cert.quiescent_Kernel := by
  intro m ρ _
  rw [defs_eq]
  exact (θ_run Cert.KernelIdeal.defs _ _).mono (fun _ h => ⟨fun c => ⟨(h.1 c).1, (h.1 c).2.1, (h.1 c).2.2.1, (h.1 c).2.2.2.1⟩, h.2⟩)
    (Cert.KernelIdeal.Exch.run_main (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Exch.run_main (F := Ideal) m ρ)

/-- The reference over the extended reals, on one device without semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Mix.lean ====
/-
# Mixing two experts

The arithmetic of the result, on extended reals. A token's weight for an expert is its routing probability
when the expert is one of the token's two, and zero otherwise, over the sum of these. Summed over all 64
experts this gives what the reference computes from the two experts alone, as long as the probabilities are
positive reals; when the two experts are one, its probability counts once in the sum and twice in the
reference, which comes to the same. The probabilities are positive reals when the scores are reals.
-/
module

public import Idealize.ShloMosaic.PureOps
public import Idealize.ShloMosaic.PureOps.Ideal.Laws
public import Idealize.ShloMosaic.Lib.Pointwise.Index

@[expose] public section

noncomputable section

namespace Cert.Mix

open Idealize.ShloMosaic
open scoped BigOperators

/-- A positive real. -/
def Pos (x : EReal) : Prop := ∃ r : ℝ, 0 < r ∧ x = (r : EReal)

theorem Pos.add {x y : EReal} : Pos x → Pos y → Pos (x + y)
  | ⟨r, hr, hx⟩, ⟨s, hs, hy⟩ => ⟨r + s, add_pos hr hs, by rw [hx, hy, EReal.coe_add]⟩

theorem Pos.div {x y : EReal} : Pos x → Pos y → Pos (Ideal.div x y)
  | ⟨r, hr, hx⟩, ⟨s, hs, hy⟩ =>
    ⟨r * (1 / s), mul_pos hr (one_div_pos.2 hs), by rw [hx, hy, Ideal.div_coe hs.ne', EReal.coe_mul]⟩

/-- Nothing over a positive real is nothing, -/
theorem Pos.zero_div {y : EReal} : Pos y → Ideal.div 0 y = 0
  | ⟨s, hs, hy⟩ => by rw [hy, Ideal.div_coe hs.ne', zero_mul]

/-- A sum of reals, taken among the extended reals. -/
theorem coe_sum {ι : Type} (t : Finset ι) (r : ι → ℝ) : ((∑ e ∈ t, r e : ℝ) : EReal) = ∑ e ∈ t, (r e : EReal) := by
  classical
  induction t using Finset.induction_on with
  | empty => rw [Finset.sum_empty, Finset.sum_empty, EReal.coe_zero]
  | insert a t ha ih => rw [Finset.sum_insert ha, Finset.sum_insert ha, EReal.coe_add, ih]

/-- A sum of products of reals is a real, -/
theorem real_dot {n : ℕ} {f g : Fin n → EReal} (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  rw [coe_sum]
  exact Finset.sum_congr rfl fun k _ => by rw [ha, hb, EReal.coe_mul]

/-- and a sum of positive reals, one at least, is a positive real. -/
theorem Pos.sum {n : ℕ} {f : Fin n → EReal} (h : ∀ e, Pos (f e)) (hn : 0 < n) : Pos (∑ e, f e) := by
  choose r hr hf using h
  refine ⟨∑ e, r e, Finset.sum_pos (fun e _ => hr e) ⟨⟨0, hn⟩, Finset.mem_univ _⟩, ?_⟩
  rw [coe_sum]
  exact Finset.sum_congr rfl fun e _ => hf e

section
variable {n : ℕ} (p y : Fin n → EReal) (a b : Fin n)

/-- The probabilities kept, -/
def kept (e : Fin n) : EReal := if e = a ∨ e = b then p e else 0
/-- and their sum. -/
def total : EReal := ∑ e, kept p a b e

theorem total_ne (h : a ≠ b) : total p a b = p a + p b := by
  unfold total kept
  rw [← Finset.sum_filter, show (Finset.univ.filter fun e => e = a ∨ e = b) = {a, b} by ext e; simp, Finset.sum_pair h]

theorem total_eq : total p a a = p a := by
  unfold total kept
  simp

/-- All experts' terms are the two experts' terms. -/
theorem sum_kept (hp : ∀ e, Pos (p e)) :
    ∑ e, Ideal.div (kept p a b e) (total p a b) * y e
      = Ideal.div (p a) (p a + p b) * y a + Ideal.div (p b) (p a + p b) * y b := by
  have hoff : ∀ (g : EReal), Pos g → ∀ e, ¬(e = a ∨ e = b) → Ideal.div (kept p a b e) g * y e = 0 := fun g hg e he => by
    rw [kept, if_neg he, hg.zero_div, zero_mul]
  by_cases h : a = b
  · subst h
    have e0 : ∑ e, Ideal.div (kept p a a e) (total p a a) * y e = Ideal.div (p a) (p a) * y a := by
      rw [total_eq, Finset.sum_eq_single a (fun e _ he => hoff _ (hp a) e (by simpa using he)) (fun he => absurd (Finset.mem_univ a) he)]
      rw [kept, if_pos (Or.inl rfl)]
    rw [e0]
    obtain ⟨r, hr, hx⟩ := hp a
    have hh : Ideal.div (p a) (p a + p a) = ((1 / 2 : ℝ) : EReal) := by
      rw [hx, ← EReal.coe_add, Ideal.div_coe (by linarith), ← EReal.coe_mul]
      congr 1; field_simp; norm_num
    have h1 : Ideal.div (p a) (p a) = 1 := by
      rw [hx, Ideal.div_coe hr.ne', ← EReal.coe_mul, mul_one_div_cancel hr.ne', EReal.coe_one]
    have hz : (0 : EReal) ≤ ((1 / 2 : ℝ) : EReal) := by exact_mod_cast (by norm_num : (0 : ℝ) ≤ 1 / 2)
    rw [hh, h1, ← EReal.right_distrib_of_nonneg hz hz, ← EReal.coe_add]
    norm_num
  · rw [total_ne p a b h]
    have hg : Pos (p a + p b) := (hp a).add (hp b)
    rw [← Finset.sum_subset (Finset.subset_univ {a, b}) (fun e _ he => hoff _ hg e (by simpa using he)), Finset.sum_pair h,
      kept, if_pos (Or.inl rfl), kept, if_pos (Or.inr rfl)]

end

/-! ## Probabilities from scores -/

section
variable {n : ℕ} (s : Fin n → EReal)

/-- A row's largest score, -/
def peak : EReal := Finset.univ.fold max (⊥ : EReal) s
/-- the exponentials below it, -/
def mass (e : Fin n) : EReal := Ideal.exp (s e - peak s)
/-- and their shares. -/
def prob (e : Fin n) : EReal := Ideal.div (mass s e) (∑ e', mass s e')

/-- The largest of finitely many reals, one at least, is a real. -/
theorem peak_real (hn : 0 < n) (hs : ∀ e, ∃ r : ℝ, s e = (r : EReal)) : ∃ r : ℝ, peak s = (r : EReal) := by
  haveI : Nonempty (Fin n) := ⟨⟨0, hn⟩⟩
  have hsup : peak s = Finset.univ.sup s := rfl
  obtain ⟨e, _, he⟩ := Finset.exists_mem_eq_sup Finset.univ Finset.univ_nonempty s
  obtain ⟨r, hr⟩ := hs e
  exact ⟨r, by rw [hsup, he, hr]⟩

theorem mass_pos (hn : 0 < n) (hs : ∀ e, ∃ r : ℝ, s e = (r : EReal)) (e : Fin n) : Pos (mass s e) := by
  obtain ⟨m, hm⟩ := peak_real s hn hs
  obtain ⟨r, hr⟩ := hs e
  refine ⟨Real.exp (r - m), Real.exp_pos _, ?_⟩
  rw [mass, hm, hr, ← EReal.coe_sub]
  rfl

theorem prob_pos (hn : 0 < n) (hs : ∀ e, ∃ r : ℝ, s e = (r : EReal)) (e : Fin n) : Pos (prob s e) :=
  (mass_pos s hn hs e).div (Pos.sum (mass_pos s hn hs) hn)

end

/-- A token's scores. -/
def score (x : (⟨2, ![2048, 512]⟩ : Shape).Idx → EReal) (w : (⟨2, ![512, 64]⟩ : Shape).Idx → EReal) (t : Fin 2048) (e : Fin 64) :
    EReal := ∑ k : Fin 512, x (ix2 t k) * w (ix2 k e)

end Cert.Mix

end
-- ==== Proof.Weights.lean ====
/-
# The weights

What the kernel's routing tables hold at a token: the shares of its scores, those of the token's two experts,
their sum, and each expert's weight.
-/
module

public import proofs.«01_k».proof.Proof.Proto
public import proofs.«01_k».proof.Proof.Mix
public import Idealize.ShloMosaic.Lib.Pointwise

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Mix
open scoped BigOperators

/-- An equality of words as a bit, -/
theorem cmpi_eq_word (u v : BitVec 32) : IntOp.cmpi .eq u v = if u = v then 1#1 else 0#1 := by
  by_cases h : u = v
  · subst h; simp [IntOp.cmpi]
  · rw [if_neg h]; simp [IntOp.cmpi, beq_false_of_ne h]

/-- a choice by it, -/
theorem select_eq_word {α : Type} (u v : BitVec 32) (p q : α) :
    Scalar.select (IntOp.cmpi .eq u v) p q = if u = v then p else q := by
  rw [cmpi_eq_word]
  by_cases h : u = v <;> simp [Scalar.select, h]

/-- and by one of two. -/
theorem select_eq_or_word {α : Type} (u v w : BitVec 32) (p q : α) :
    Scalar.select (IntOp.ori (IntOp.cmpi .eq u v) (IntOp.cmpi .eq u w)) p q = if u = v ∨ u = w then p else q := by
  rw [cmpi_eq_word, cmpi_eq_word]
  by_cases h : u = v
  · rw [if_pos h, if_pos (Or.inl h)]; by_cases h' : u = w
    · rw [if_pos h']; rfl
    · rw [if_neg h']; rfl
  · rw [if_neg h]; by_cases h' : u = w
    · rw [if_pos h', if_pos (Or.inr h')]; rfl
    · rw [if_neg h', if_neg (fun e => e.elim h h')]; rfl

/-- Experts' numbers as words are told apart. -/
theorem word_inj (a b : Fin 64) : BitVec.ofNat 32 a.val = BitVec.ofNat 32 b.val ↔ a = b := by
  refine ⟨fun h => Fin.ext ?_, fun h => h ▸ rfl⟩
  have := congrArg BitVec.toNat h
  simp only [BitVec.toNat_ofNat] at this
  have := a.isLt; have := b.isLt
  omega

set_option backward.proofsInPublic true in
/-- The number of a device's expert, -/
def xp (c : Dev nD) (le : Fin 4) : Fin 64 := ⟨c.val * 4 + le.val, by have := c.isLt; have := le.isLt; simp only [nD] at *; omega⟩

/-- as the kernel computes it. -/
theorem word_xp (c : Dev nD) (le : Fin 4) :
    Scalar.addi (Scalar.muli (w2 c) 4#32) (BitVec.ofNat 32 le.val) = BitVec.ofNat 32 (xp c le).val := by
  revert c le; decide

variable (I : Ins Ideal)

/-- The kernel's routing probabilities are the scores' shares. -/
theorem probs_apply (c : Dev nD) (t : Fin 2048) (e : Fin 64) :
    probs I c (ix2 t e) = prob (score (I.x c) (I.rw c) t) e := by
  unfold probs prob mass peak score k0_pay5 k0_pay3
  pointwise [dot_S2048x512_S512x64_S2048x64_1_0_0_1_n_n]
  rw [show Ideal.ofBits FTy.f32 4286578688#32 = ⊥ by simp [Ideal.ofBits, Ideal.ieee]]

/-- A token's two experts. -/
structure Routed (c : Dev nD) (t : Fin 2048) (a b : Fin 64) : Prop where
  fst : I.ix c (ix2 t 0) = BitVec.ofNat 32 a.val
  snd : I.ix c (ix2 t 1) = BitVec.ofNat 32 b.val

theorem emb_col (k : Fin 2) (h : ∀ a, (![0, k.val] : Fin 2 → ℕ) a + S2048x1.size a ≤ S2048x2.size a) (t : Fin 2048) :
    (Rect.unit (s := S2048x2) ![0, k.val] S2048x1.size h).emb (ix2 t 0 : S2048x1.Idx) = ix2 t k := by
  funext a
  refine Fin.ext ?_
  match a with
  | ⟨0, _⟩ => show 0 + 1 * t.val = t.val; omega
  | ⟨1, _⟩ => show k.val + 1 * 0 = k.val; omega

/-- Those kept are the two experts', -/
theorem gated_apply (c : Dev nD) (t : Fin 2048) (a b : Fin 64) (h : Routed I c t a b) (e : Fin 64) :
    gated I c (ix2 t e) = kept (prob (score (I.x c) (I.rw c) t)) a b e := by
  unfold gated k0_pay6 ixc0 ixc1
  pointwise
  rw [select_eq_or_word, show (Rect.unit (s := S2048x2) ![0, 0] ![2048, 1] inb_S2048x2_S2048x1_0_0).emb (ix2 t 0 : S2048x1.Idx) = ix2 t 0 from emb_col 0 _ t,
    show (Rect.unit (s := S2048x2) ![0, 1] ![2048, 1] inb_S2048x2_S2048x1_0_1).emb (ix2 t 0 : S2048x1.Idx) = ix2 t 1 from emb_col 1 _ t,
    h.fst, h.snd, probs_apply]
  simp only [word_inj, kept]

/-- with their sum, -/
theorem gsum_apply (c : Dev nD) (t : Fin 2048) (a b : Fin 64) (h : Routed I c t a b) :
    gsum I c (ix2 t 0) = total (prob (score (I.x c) (I.rw c) t)) a b := by
  have e : gsum I c (ix2 t 0) = ∑ e : Fin 64, gated I c (ix2 t e) := by
    unfold gsum gated k0_pay7
    pointwise
  rw [e]
  exact Finset.sum_congr rfl fun e _ => gated_apply I c t a b h e

/-- A column of weights, over any word naming its expert. -/
theorem pay10_apply (p : FVec Ideal S2048x64 .f32) (g : FVec Ideal S2048x1 .f32) (e : Fin 64) (t : Fin 2048) :
    k0_pay10 lanes p g (BitVec.ofNat 32 e.val) (ix2 t 0) = Ideal.div (p (ix2 t e)) (g (ix2 t 0)) := by
  unfold k0_pay10 lanes
  pointwise
  congr 1
  rw [Finset.sum_eq_single e]
  · rw [select_eq_word, if_pos rfl]
  · intro x _ hx
    rw [select_eq_word, if_neg (fun h => hx ((word_inj x e).1 h))]
  · exact fun he => absurd (Finset.mem_univ e) he

/-- The four columns are computed alike. -/
theorem wcol_eq (c : Dev nD) (le : Fin 4) :
    wcol I c le = k0_pay10 lanes (gated I c) (gsum I c) (BitVec.ofNat 32 (xp c le).val) := by
  rw [← word_xp]
  match le with
  | 0 => rfl
  | 1 => rfl
  | 2 => rfl
  | 3 => rfl

/-- and the weights are their shares. -/
theorem wcol_apply (c : Dev nD) (le : Fin 4) (t : Fin 2048) (a b : Fin 64) (h : Routed I c t a b) :
    wcol I c le (ix2 t 0) = Ideal.div (kept (prob (score (I.x c) (I.rw c) t)) a b (xp c le)) (total (prob (score (I.x c) (I.rw c) t)) a b) := by
  rw [wcol_eq, pay10_apply, gated_apply I c t a b h, gsum_apply I c t a b h]

end Cert.KernelIdeal.Exch

end
-- ==== Proof.Sums.lean ====
/-
# The result's sums

What the exchange makes of the devices' partial results: at a token and a column, on every device, the sum of
the sixteen devices' parts, in whatever order the planes and columns bring them.
-/
module

public import proofs.«01_k».proof.Proof.Weights

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Mix
open scoped BigOperators

variable (I : Ins Ideal)

/-- What a device's four experts add at a token and a column. -/
def part (c : Dev nD) (t : Fin 2048) (f : Fin 1024) : EReal :=
  ∑ le : Fin 4, wcol I c le (ix2 t 0) * ∑ k : Fin 512, I.x c (ix2 t k) * I.ew c (ix3 le k f)

theorem emb_wcol (e : Fin 4) (i : Fin 512) : (rWcol e).emb (ix2 i 0 : S512x1.Idx) = ix2 i e := by
  funext a
  refine Fin.ext ?_
  match a with
  | ⟨0, _⟩ => show 0 + 1 * i.val = i.val; omega
  | ⟨1, _⟩ => show e.val + 1 * 0 = e.val; omega

theorem emb_wb (e : Fin 4) (k : Fin 512) (f : Fin 1024) : (rWb e).emb (ix3 0 k f : S1x512x1024.Idx) = ix3 e k f := by
  funext a
  refine Fin.ext ?_
  match a with
  | ⟨0, _⟩ => show e.val + 1 * 0 = e.val; omega
  | ⟨1, _⟩ => show 0 + 1 * k.val = k.val; omega
  | ⟨2, _⟩ => show 0 + 1 * f.val = f.val; omega

theorem emb_chk (b : Fin 4) (r : Fin 128) (f : Fin 1024) :
    (rChk b).emb (ix2 r f : S128x1024.Idx) = ix2 (⟨128 * b.val + r.val, by have := b.isLt; have := r.isLt; omega⟩ : Fin 512) f := by
  funext a
  refine Fin.ext ?_
  match a with
  | ⟨0, _⟩ => show 128 * b.val + 1 * r.val = 128 * b.val + r.val; omega
  | ⟨1, _⟩ => show 0 + 1 * f.val = f.val; omega

theorem WCc_apply (c : Dev nD) (b e : Fin 4) (i : Fin 512) : WCc I c b e (ix2 i 0) = wcol I c e (ix2 (rowOf b i) 0) := by
  unfold WCc
  rw [emb_wcol]
  rfl

theorem EW_apply (c : Dev nD) (e : Fin 4) (k : Fin 512) (f : Fin 1024) : EW I c e (ix3 0 k f) = I.ew c (ix3 e k f) := by
  unfold EW
  rw [emb_wb]

/-- A block of the partial result, -/
theorem PB_apply (c : Dev nD) (b : Fin 4) (i : Fin 512) (f : Fin 1024) : PB I c b (ix2 i f) = part I c (rowOf b i) f := by
  unfold PB k0_pay26 k0_pay25 k0_pay24 part
  pointwise [dot_S512x512_S512x1024_S512x1024_1_0_0_1_n_n, WCc_apply, EW_apply]
  rw [Fin.sum_univ_four]
  rfl

/-- the plane's sum of it, -/
theorem CS_apply (c : Dev nD) (i : Fin 512) (f : Fin 1024) :
    CS I c (ix2 i f) = part I c (rowOf (lc c) i) f + part I (pp 0 c) (rowOf (lc c) i) f + part I (pp 1 c) (rowOf (lc c) i) f
      + part I (pp 2 c) (rowOf (lc c) i) f := by
  unfold CS k0_pay65 k0_pay63 k0_pay64 PRS
  pointwise [unsq, Shape.reshapeEquiv_symm, PB_apply]

set_option backward.proofsInPublic true in
/-- A row of a device's chunk among the 2048. -/
def orow (c : Dev nD) (r : Fin 128) : Fin 2048 := ⟨128 * c.val + r.val, by have := c.isLt; have := r.isLt; simp only [nD] at *; omega⟩

theorem rowOf_orow (c : Dev nD) (r : Fin 128) :
    rowOf (lc c) ⟨128 * (pc c).val + r.val, by have := (pc c).isLt; have := r.isLt; omega⟩ = orow c r := by
  refine Fin.ext ?_
  have hr := r.isLt
  show 512 * ((128 * (c.val / 4) + r.val) / 128) + 128 * (c.val % 4) + (128 * (c.val / 4) + r.val) % 128 = 128 * c.val + r.val
  omega

/-- A plane's devices are a device and its partners, -/
theorem sum_place {M : Type} [AddCommMonoid M] (g : Fin 4 → M) (l : Fin 4) :
    g l + g (lx 0 l) + g (lx 1 l) + g (lx 2 l) = ∑ j, g j := by
  rw [Fin.sum_univ_four]
  match l with
  | 0 => show g 0 + g 1 + g 3 + g 2 = _; ac_rfl
  | 1 => show g 1 + g 0 + g 2 + g 3 = _; ac_rfl
  | 2 => show g 2 + g 3 + g 1 + g 0 = _; ac_rfl
  | 3 => show g 3 + g 2 + g 0 + g 1 = _; ac_rfl

/-- and a column's likewise. -/
theorem sum_plane {M : Type} [AddCommMonoid M] (g : Fin 4 → M) (p : Fin 4) :
    g p + g (px 0 p) + g (px 1 p) + g (px 2 p) = ∑ j, g j := by
  rw [Fin.sum_univ_four]
  match p with
  | 0 => show g 0 + g 1 + g 2 + g 3 = _; ac_rfl
  | 1 => show g 1 + g 2 + g 3 + g 0 = _; ac_rfl
  | 2 => show g 2 + g 3 + g 0 + g 1 = _; ac_rfl
  | 3 => show g 3 + g 0 + g 1 + g 2 = _; ac_rfl

/-- All sixteen, plane by plane. -/
theorem sum_dev {M : Type} [AddCommMonoid M] (g : Dev nD → M) : ∑ p : Fin 4, ∑ l : Fin 4, g (dv p l) = ∑ d, g d := by
  rw [← Fintype.sum_prod_type']
  let e : Fin 4 × Fin 4 ≃ Dev nD :=
    { toFun := fun q => dv q.1 q.2
      invFun := fun c => (pc c, lc c)
      left_inv := fun q => Prod.ext (pc_dv q.1 q.2) (lc_dv q.1 q.2)
      right_inv := fun c => dv_pc_lc c }
  exact Fintype.sum_equiv e _ _ fun _ => rfl

theorem CS_sum (c : Dev nD) (i : Fin 512) (f : Fin 1024) :
    CS I c (ix2 i f) = ∑ l : Fin 4, part I (dv (pc c) l) (rowOf (lc c) i) f := by
  rw [CS_apply, ← sum_place (fun l => part I (dv (pc c) l) (rowOf (lc c) i) f) (lc c), dv_pc_lc]
  rfl

/-- A device's chunk sums the parts of all sixteen, -/
theorem RED_apply (c : Dev nD) (r : Fin 128) (f : Fin 1024) : RED I c (ix2 r f) = ∑ d, part I d (orow c r) f := by
  have hc : ∀ d, lc d = lc c → CSc I d (pc c) (ix2 r f) = ∑ l : Fin 4, part I (dv (pc d) l) (orow c r) f := fun d hd => by
    unfold CSc
    rw [emb_chk, CS_sum, hd, rowOf_orow]
  rw [← sum_dev, ← sum_plane (fun p => ∑ l, part I (dv p l) (orow c r) f) (pc c)]
  unfold RED k0_pay67 k0_pay66 ZRS
  pointwise [unsq, Shape.reshapeEquiv_symm]
  rw [hc c rfl, hc (cp 0 c) (lc_cp 0 c), hc (cp 1 c) (lc_cp 1 c), hc (cp 2 c) (lc_cp 2 c), pc_cp, pc_cp, pc_cp]

/-- rounded or not, -/
theorem OUTc_apply (c d : Dev nD) : OUTc I c d = RED I d := by
  unfold OUTc
  by_cases h : d = c
  · rw [if_pos h, h]
  · rw [if_neg h]
    unfold REDB RED k0_pay68
    funext i
    pointwise

/-- and so does the result. -/
theorem OUT_apply (c : Dev nD) (t : Fin 2048) (f : Fin 1024) : OUT I c (ix2 t f) = ∑ d, part I d t f := by
  unfold OUT
  rw [OUTc_apply]
  refine (RED_apply I _ _ _).trans (Finset.sum_congr rfl fun d _ => ?_)
  congr 1
  refine Fin.ext ?_
  show 128 * (t.val / 128) + t.val % 128 = t.val
  omega

end Cert.KernelIdeal.Exch

end
-- ==== Proof.Reference.lean ====
/-
# The reference at a token and a column

The reference's result, read at an index when the token's two expert numbers are in range: the shares of the
token's scores at the two experts, over their sum, times the token through each expert's matrix.
-/
module

public import proofs.«01_k».proof.Proof.Gen.ReferenceIdeal.Run
public import proofs.«01_k».proof.Proof.Mix
public import Idealize.ShloMosaic.Lib.Pointwise
public import Idealize.ShloMosaic.Lib.ReduceAll

@[expose] public section

noncomputable section

namespace Cert.ReferenceIdeal.Value

open Cert.ReferenceIdeal Cert.ReferenceIdeal.Gen Cert.Mix Idealize.ShloMosaic Idealize.ShloMosaic.TcCoe
open scoped BigOperators

section
variable {F : FTy → Type} [FloatOps F]

/-- The scores, -/
def sc (x : FVec F S2048x512 .bf16) (w : FVec F S512x64 .bf16) : FVec F S2048x64 .f32 :=
  Host.dotGeneral dot_S2048x512_S512x64_S2048x64_1_0_0_1_n_n none (extf .f32 x bitsLt_bf16_f32) (extf .f32 w bitsLt_bf16_f32)

/-- the exponentials of what lies below the largest, -/
def ex (s : FVec F S2048x64 .f32) : FVec F S2048x64 .f32 :=
  Host.exp (subf s (broadcastInDim S2048x64 ![0, 1] bcast_S2048x1_S2048x64_0_1 (broadcastInDim S2048x1 ![0] bcast_S2048_S2048x1_0 (Host.reduce FloatOps.maximumf s (constant S_ .f32 0xFF800000#32) reducesTo_S2048x64_S2048_d1 h_S_))))

/-- and their shares. -/
def sh (v : FVec F S2048x64 .f32) : FVec F S2048x64 .f32 :=
  Host.divf v (broadcastInDim S2048x64 ![0, 1] bcast_S2048x1_S2048x64_0_1 (broadcastInDim S2048x1 ![0] bcast_S2048_S2048x1_0 (Host.reduceAdd v (constant S_ .f32 0x00000000#32) reducesTo_S2048x64_S2048_d1 h_S_)))

/-- The two columns of expert numbers. -/
def ec0 (ix : IVec S2048x2 32) : IVec S2048 32 := shapeCast _ (extractStridedSlice S2048x1 ![0, 0] ix slices_S2048x2_S2048x1_0_0) shapeCasts_S2048x1_S2048
def ec1 (ix : IVec S2048x2 32) : IVec S2048 32 := shapeCast _ (extractStridedSlice S2048x1 ![0, 1] ix slices_S2048x2_S2048x1_0_1) shapeCasts_S2048x1_S2048

/-- A column standing upright, -/
def up (e : IVec S2048 32) : IVec S2048x1 32 := broadcastInDim S2048x1 ![0] bcast_S2048_S2048x1_0 e
/-- negative numbers counted from the end, -/
def wrapped (e : IVec S2048 32) : IVec S2048x1x1 32 :=
  shapeCast _ (select (cmpi .slt (up e) (broadcastInDim S2048x1 ![] bcast_S_S2048x1 (constantI S_ 32 0#32))) (addi (up e) (broadcastInDim S2048x1 ![] bcast_S_S2048x1 (constantI S_ 32 64#32))) (up e)) shapeCasts_S2048x1_S2048x1x1
/-- whether they then name an expert, -/
def named (v : IVec S2048x1x1 32) : IVec S2048x1 1 :=
  Host.reduce IntOp.andi (andi (cmpi .sge v (broadcastInDim S2048x1x1 ![] bcast_S_S2048x1x1 (constantI S_ 32 0#32))) (cmpi .sle v (broadcastInDim S2048x1x1 ![0, 1, 2] bcast_S1x1x1_S2048x1x1_0_1_2 (broadcastInDim S1x1x1 ![2] bcast_S1_S1x1x1_2 (constantI S1 32 63#32))))) (constantI S_ 1 1#1) reducesTo_S2048x1x1_S2048x1_d2 h_S_
/-- and each token's share at its expert. -/
def share (p : FVec F S2048x64 .f32) (v : IVec S2048x1x1 32) : FVec F S2048x1 .f32 :=
  select (named v) (Host.gather gather_S2048x64_S2048x1x1_S2048x1_n_1_0_0_1_2_11 p v) (broadcastInDim S2048x1 ![] bcast_S_S2048x1 (constant S_ .f32 0x7FC00000#32))

/-- The column as the matrices are picked by, -/
def pick (e : IVec S2048 32) : IVec S2048x1 32 :=
  broadcastInDim S2048x1 ![0] bcast_S2048_S2048x1_0 (select (cmpi .slt e (broadcastInDim S2048 ![] bcast_S_S2048 (constantI S_ 32 0#32))) (addi e (broadcastInDim S2048 ![] bcast_S_S2048 (constantI S_ 32 64#32))) e)
/-- and each token through its expert's matrix. -/
def thru (x : FVec F S2048x512 .bf16) (E : FVec F S64x512x1024 .bf16) (v : IVec S2048x1 32) : FVec F S2048x1024 .f32 :=
  Host.dotGeneral dot_S2048x512_S2048x512x1024_S2048x1024_1_1_n_2_0_0 none (extf .f32 x bitsLt_bf16_f32) (Host.gather gather_S64x512x1024_S2048x1_S2048x512x1024_12_0_n_n_0_1_15121024 (extf .f32 E bitsLt_bf16_f32) v)

/-- A share's weighted product. -/
def term (g s : FVec F S2048x1 .f32) (y : FVec F S2048x1024 .f32) : FVec F S2048x1024 .f32 :=
  mulf (broadcastInDim S2048x1024 ![0, 1] bcast_S2048x1_S2048x1024_0_1 (Host.divf g s)) y

/-- The reference's function, -/
def out (x : FVec F S2048x512 .bf16) (w : FVec F S512x64 .bf16) (ix : IVec S2048x2 32) (E : FVec F S64x512x1024 .bf16) : FVec F S2048x1024 .f32 :=
  addf (term (share (sh (ex (sc x w))) (wrapped (ec0 ix))) (addf (share (sh (ex (sc x w))) (wrapped (ec0 ix))) (share (sh (ex (sc x w))) (wrapped (ec1 ix)))) (thru x E (pick (ec0 ix))))
    (term (share (sh (ex (sc x w))) (wrapped (ec1 ix))) (addf (share (sh (ex (sc x w))) (wrapped (ec0 ix))) (share (sh (ex (sc x w))) (wrapped (ec1 ix)))) (thru x E (pick (ec1 ix))))

/-- which its run computes. -/
theorem res_eq (m : (ℓ : Loc nD τ sig) → Buf (Elt F) ℓ) (c : Dev nD) :
    res_out0 m c = out (m ((c.tc : Thread nD τ).loc main_arg0)) (m ((c.tc : Thread nD τ).loc main_arg1)) (m ((c.tc : Thread nD τ).loc main_arg2)) (m ((c.tc : Thread nD τ).loc main_arg3)) := rfl

end

/-- The shares are the scores'. -/
theorem shares_apply (x : FVec Ideal S2048x512 .bf16) (w : FVec Ideal S512x64 .bf16) (t : Fin 2048) (e : Fin 64) :
    sh (ex (sc x w)) (ix2 t e) = prob (score x w t) e := by
  unfold sh ex sc prob mass peak score
  pointwise [dot_S2048x512_S512x64_S2048x64_1_0_0_1_n_n]
  rw [show Ideal.ofBits FTy.f32 4286578688#32 = ⊥ by simp [Ideal.ofBits, Ideal.ieee]]

/-- The columns at a token. -/
theorem ec0_apply (ix : IVec S2048x2 32) (t : Fin 2048) : ec0 ix (ix1 t) = ix (ix2 t 0) := by
  unfold ec0
  pointwise
theorem ec1_apply (ix : IVec S2048x2 32) (t : Fin 2048) : ec1 ix (ix1 t) = ix (ix2 t 1) := by
  unfold ec1
  pointwise

/-- An expert's number as a signed word: not negative, at most 63. -/
theorem word_small (a : Fin 64) : IntOp.cmpi .slt (BitVec.ofNat 32 a.val) 0#32 = 0#1 ∧ IntOp.cmpi .sge (BitVec.ofNat 32 a.val) 0#32 = 1#1
    ∧ IntOp.cmpi .sle (BitVec.ofNat 32 a.val) 63#32 = 1#1 ∧ min (BitVec.ofNat 32 a.val).toInt.toNat 63 = a.val := by
  revert a; decide

/-- A number in range is left as it is, -/
theorem wrapped_apply (e : IVec S2048 32) (t : Fin 2048) (a : Fin 64) (h : e (ix1 t) = BitVec.ofNat 32 a.val) :
    wrapped e (ix3 t 0 0) = BitVec.ofNat 32 a.val := by
  unfold wrapped up
  pointwise
  rw [h, (word_small a).1]
  rfl

/-- here too, -/
theorem pick_apply (e : IVec S2048 32) (t : Fin 2048) (a : Fin 64) (h : e (ix1 t) = BitVec.ofNat 32 a.val) :
    pick e (ix2 t 0) = BitVec.ofNat 32 a.val := by
  unfold pick
  pointwise
  rw [h, (word_small a).1]
  rfl

/-- and names its expert. -/
theorem named_apply (v : IVec S2048x1x1 32) (t : Fin 2048) (a : Fin 64) (h : v (ix3 t 0 0) = BitVec.ofNat 32 a.val) :
    named v (ix2 t 0) = 1#1 := by
  unfold named
  pointwise
  rw [Finset.univ_unique, Finset.fold_singleton, show (default : Fin 1) = 0 from rfl, h, (word_small a).2.1, (word_small a).2.2.1]
  rfl

/-- Picking along the experts, one place per token. -/
theorem gather_share {α : Type} (p : S2048x64.Idx → α) (v : IVec S2048x1x1 32) (t : Fin 2048) (a : Fin 64) (h : v (ix3 t 0 0) = BitVec.ofNat 32 a.val) :
    Host.gather gather_S2048x64_S2048x1x1_S2048x1_n_1_0_0_1_2_11 p v (ix2 t 0) = p (ix2 t a) := by
  unfold Host.gather
  congr 1
  funext j
  refine Fin.ext ?_
  let g := gather_S2048x64_S2048x1x1_S2048x1_n_1_0_0_1_2_11
  show g.start (ix2 t 0) v j + g.batchCoord (ix2 t 0) j + g.offCoord (ix2 t 0) j = _
  have hb : (1 : Fin 2) ∉ g.operandBatchingDims := fun h => absurd (List.mem_singleton.mp h) (by decide)
  match j with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    show g.batchCoord (ix2 t 0) (0 : Fin 2) = t.val
    unfold GatherDims.batchCoord
    rw [dif_pos (show (0 : Fin 2) ∈ g.operandBatchingDims from List.mem_singleton.mpr rfl)]
    rfl
  | ⟨1, _⟩ =>
    show g.start (ix2 t 0) v (1 : Fin 2) + g.batchCoord (ix2 t 0) (1 : Fin 2) + g.offCoord (ix2 t 0) (1 : Fin 2) = a.val
    rw [GatherDims.batchCoord_eq_zero _ _ _ hb,
      GatherDims.offCoord_eq_zero _ _ _ (fun h => ((GatherDims.mem_sKept _ _).mp h).1 (List.mem_singleton.mpr rfl))]
    simp only [Nat.add_zero]
    show g.start (ix2 t 0) v (1 : Fin 2) = a.val
    unfold GatherDims.start
    rw [dif_pos (show (1 : Fin 2) ∈ g.startIndexMap from List.mem_singleton.mpr rfl)]
    have hsi : g.siIdx (ix2 t 0) ⟨List.idxOf (1 : Fin 2) g.startIndexMap, List.idxOf_lt_length_iff.2 (List.mem_singleton.mpr rfl)⟩ = ix3 t 0 0 := by
      funext b; refine Fin.ext ?_
      match b with
      | ⟨0, _⟩ => rfl
      | ⟨1, _⟩ => rfl
      | ⟨2, _⟩ => rfl
    rw [hsi, h]
    exact (word_small a).2.2.2

/-- Picking whole matrices. -/
theorem gather_thru {α : Type} (E : S64x512x1024.Idx → α) (v : IVec S2048x1 32) (t : Fin 2048) (a : Fin 64) (h : v (ix2 t 0) = BitVec.ofNat 32 a.val)
    (k : Fin 512) (f : Fin 1024) :
    Host.gather gather_S64x512x1024_S2048x1_S2048x512x1024_12_0_n_n_0_1_15121024 E v (ix3 t k f) = E (ix3 a k f) := by
  unfold Host.gather
  congr 1
  funext j
  refine Fin.ext ?_
  let g := gather_S64x512x1024_S2048x1_S2048x512x1024_12_0_n_n_0_1_15121024
  show g.start (ix3 t k f) v j + g.batchCoord (ix3 t k f) j + g.offCoord (ix3 t k f) j = _
  rw [GatherDims.batchCoord_eq_zero _ _ _ List.not_mem_nil, Nat.add_zero]
  match j with
  | ⟨0, _⟩ =>
    rw [GatherDims.offCoord_eq_zero _ _ _ (fun h => ((GatherDims.mem_sKept _ _).mp h).1 (List.mem_singleton.mpr rfl)), Nat.add_zero]
    show g.start (ix3 t k f) v (0 : Fin 3) = a.val
    unfold GatherDims.start
    rw [dif_pos (show (0 : Fin 3) ∈ g.startIndexMap from List.mem_singleton.mpr rfl)]
    have hsi : g.siIdx (ix3 t k f) ⟨List.idxOf (0 : Fin 3) g.startIndexMap, List.idxOf_lt_length_iff.2 (List.mem_singleton.mpr rfl)⟩ = ix2 t 0 := by
      funext b; refine Fin.ext ?_
      match b with
      | ⟨0, _⟩ => rfl
      | ⟨1, _⟩ => rfl
    rw [hsi, h]
    exact (word_small a).2.2.2
  | ⟨1, _⟩ =>
    show g.start (ix3 t k f) v (1 : Fin 3) + g.offCoord (ix3 t k f) (1 : Fin 3) = k.val
    unfold GatherDims.start
    rw [dif_neg (show (1 : Fin 3) ∉ g.startIndexMap from fun h => absurd (List.mem_singleton.mp h) (by decide)), Nat.zero_add]
    rfl
  | ⟨2, _⟩ =>
    show g.start (ix3 t k f) v (2 : Fin 3) + g.offCoord (ix3 t k f) (2 : Fin 3) = f.val
    unfold GatherDims.start
    rw [dif_neg (show (2 : Fin 3) ∉ g.startIndexMap from fun h => absurd (List.mem_singleton.mp h) (by decide)), Nat.zero_add]
    rfl

/-- A token's share at its expert, -/
theorem share_apply (p : FVec Ideal S2048x64 .f32) (v : IVec S2048x1x1 32) (t : Fin 2048) (a : Fin 64) (h : v (ix3 t 0 0) = BitVec.ofNat 32 a.val) :
    share p v (ix2 t 0) = p (ix2 t a) := by
  unfold share
  pointwise
  rw [named_apply v t a h, gather_share p v t a h]
  rfl

/-- the token through its matrix, -/
theorem thru_apply (x : FVec Ideal S2048x512 .bf16) (E : FVec Ideal S64x512x1024 .bf16) (v : IVec S2048x1 32) (t : Fin 2048) (f : Fin 1024)
    (a : Fin 64) (h : v (ix2 t 0) = BitVec.ofNat 32 a.val) :
    thru x E v (ix2 t f) = ∑ k : Fin 512, x (ix2 t k) * E (ix3 a k f) := by
  unfold thru
  pointwise [dot_S2048x512_S2048x512x1024_S2048x1024_1_1_n_2_0_0]
  refine Finset.sum_congr rfl fun k _ => ?_
  rw [gather_thru _ v t a h]
  rfl

/-- and the result. -/
theorem out_apply (x : FVec Ideal S2048x512 .bf16) (w : FVec Ideal S512x64 .bf16) (ix : IVec S2048x2 32) (E : FVec Ideal S64x512x1024 .bf16)
    (t : Fin 2048) (f : Fin 1024) (a b : Fin 64) (ha : ix (ix2 t 0) = BitVec.ofNat 32 a.val) (hb : ix (ix2 t 1) = BitVec.ofNat 32 b.val) :
    out x w ix E (ix2 t f)
      = Ideal.div (prob (score x w t) a) (prob (score x w t) a + prob (score x w t) b) * (∑ k : Fin 512, x (ix2 t k) * E (ix3 a k f))
        + Ideal.div (prob (score x w t) b) (prob (score x w t) a + prob (score x w t) b) * (∑ k : Fin 512, x (ix2 t k) * E (ix3 b k f)) := by
  have h0 : ec0 ix (ix1 t) = BitVec.ofNat 32 a.val := (ec0_apply ix t).trans ha
  have h1 : ec1 ix (ix1 t) = BitVec.ofNat 32 b.val := (ec1_apply ix t).trans hb
  unfold out term
  pointwise
  rw [share_apply _ _ t a (wrapped_apply _ t a h0), share_apply _ _ t b (wrapped_apply _ t b h1),
    thru_apply x E _ t f a (pick_apply _ t a h0), thru_apply x E _ t f b (pick_apply _ t b h1), shares_apply, shares_apply]

end Cert.ReferenceIdeal.Value

end
-- ==== Proof.Value.lean ====
/-
# The two results agree

What the precondition says, where the devices' matrices lie, and the equation between the results.
-/
module

public import proofs.«01_k».proof.Proof.Sums
public import proofs.«01_k».proof.Proof.Reference
public import proofs.«01_k».proof.Pre_sound_inputs_KernelIdeal
public import Idealize.ShloMosaic.Lib.ReduceAll
public import Idealize.ShloMosaic.Lib.Affine
public import Idealize.ShloMosaic.Lib.Layout
public import Idealize.ShloMosaic.Lib.Pointwise

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Mix
open scoped BigOperators

set_option maxRecDepth 8000 in
/-- A word between 0 and 63 is an expert's number. -/
theorem word_named (v : BitVec 32) (h0 : IntOp.cmpi .sge v 0#32 = 1#1) (h1 : IntOp.cmpi .slt v 64#32 = 1#1) :
    ∃ a : Fin 64, v = BitVec.ofNat 32 a.val := by
  rw [IntOp.cmpi_sge] at h0
  rw [IntOp.cmpi_slt] at h1
  have e0 : (0#32).toInt = 0 := by decide
  have e1 : (64#32).toInt = 64 := by decide
  rw [e0] at h0
  rw [e1] at h1
  have hn : v.toNat < 64 := by rw [BitVec.toInt_eq_toNat_cond] at h0 h1; split at h0 <;> omega
  exact ⟨⟨v.toNat, hn⟩, by rw [BitVec.ofNat_toNat, BitVec.setWidth_eq]⟩

/-- A number whose size is below infinity is real. -/
theorem real_of_below (v : EReal) (h : Ideal.cmp .olt (max v (-v)) (Ideal.ofBits .bf16 0x7F80#16) = 1#1) : ∃ r : ℝ, v = ↑r := by
  rw [show Ideal.ofBits .bf16 0x7F80#16 = ⊤ by simp [Ideal.ofBits, Ideal.ieee]] at h
  induction v with
  | bot => simp [Ideal.cmp] at h
  | top => simp [Ideal.cmp] at h
  | coe r => exact ⟨r, rfl⟩

variable [hp : Cert.Pre_sound_inputs_KernelIdeal.Facts]

instance : Subsingleton (Cert.Pre_sound_inputs_KernelIdeal.S_).Idx := ⟨fun a b => funext fun d => d.elim0⟩

/-- What the precondition says of a device's arguments: each token names two experts, its entries and the
    router's are real. -/
theorem read_pre (x : FVec Ideal S2048x512 .bf16) (w : FVec Ideal S512x64 .bf16) (ix : IVec S2048x2 32) (E : FVec Ideal S4x512x1024 .bf16)
    (h : ∀ j, Cert.Pre_sound_inputs_KernelIdeal.fn x w ix E j = 1#1) :
    (∀ i, ∃ a : Fin 64, ix i = BitVec.ofNat 32 a.val) ∧ (∀ i, ∃ r : ℝ, x i = ↑r) ∧ (∀ i, ∃ r : ℝ, w i = ↑r) := by
  have h0 := h (fun d => d.elim0)
  unfold Cert.Pre_sound_inputs_KernelIdeal.fn at h0
  obtain ⟨h1, h2⟩ := IntOp.andi_eq_one.1 h0
  obtain ⟨h2, h3⟩ := IntOp.andi_eq_one.1 h2
  refine ⟨fun i => ?_, fun i => ?_, fun i => ?_⟩
  · obtain ⟨ha, hb⟩ := IntOp.andi_eq_one.1 (Host.reduce_andi_all _ _ _ _ _ h1 i)
    exact word_named _ ha hb
  · exact real_of_below _ (Host.reduce_andi_all _ _ _ _ _ h2 i)
  · exact real_of_below _ (Host.reduce_andi_all _ _ _ _ _ h3 i)

/-- Where a device's block of the matrices lies among the 64. -/
theorem block_apply (c : Dev nD) (E : (⟨3, ![64, 512, 1024]⟩ : Shape).Idx → EReal) (le : Fin 4) (k : Fin 512) (f : Fin 1024) :
    Layout.block ⟨3, ![4, 512, 1024]⟩ ⟨3, ![64, 512, 1024]⟩ 0 16 c E (by decide) (ix3 le k f) = E (ix3 (xp c le) k f) := by
  rw [Layout.block_apply]
  congr 1
  funext a
  refine Fin.ext ?_
  match a with
  | ⟨0, _⟩ => rfl
  | ⟨1, _⟩ => rfl
  | ⟨2, _⟩ => rfl

/-- The kernel's result is the reference's. -/
theorem OUT_eq (I : Ins Ideal) (x : FVec Ideal S2048x512 .bf16) (w : FVec Ideal S512x64 .bf16) (ix : IVec S2048x2 32)
    (E : FVec Ideal Cert.ReferenceIdeal.S64x512x1024 .bf16)
    (hx : ∀ c, I.x c = x) (hw : ∀ c, I.rw c = w) (hi : ∀ c, I.ix c = ix)
    (hE : ∀ (c : Dev nD) (le : Fin 4) (k : Fin 512) (f : Fin 1024), I.ew c (ix3 le k f) = E (ix3 (xp c le) k f))
    (ni : ∀ i, ∃ a : Fin 64, ix i = BitVec.ofNat 32 a.val) (nx : ∀ i, ∃ r : ℝ, x i = ↑r) (nw : ∀ i, ∃ r : ℝ, w i = ↑r) (c : Dev nD) :
    OUT I c = Cert.ReferenceIdeal.Value.out x w ix E := by
  funext j
  obtain ⟨t, f, rfl⟩ : ∃ (t : Fin 2048) (f : Fin 1024), j = ix2 t f := ⟨j 0, j 1, by funext a; match a with | ⟨0, _⟩ => rfl | ⟨1, _⟩ => rfl⟩
  obtain ⟨a, ha⟩ := ni (ix2 t 0)
  obtain ⟨b, hb⟩ := ni (ix2 t 1)
  have hr : ∀ d, Routed I d t a b := fun d => ⟨by rw [hi]; exact ha, by rw [hi]; exact hb⟩
  have hs : ∀ e, Pos (prob (score x w t) e) := prob_pos _ (by decide) fun e => real_dot (fun k => nx _) (fun k => nw _)
  rw [OUT_apply, Cert.ReferenceIdeal.Value.out_apply x w ix E t f a b ha hb,
    ← sum_kept (prob (score x w t)) (fun e => ∑ k : Fin 512, x (ix2 t k) * E (ix3 e k f)) a b hs,
    Fin.sum_univ_tiles (N := 64) 16 4 (by decide)]
  refine Finset.sum_congr rfl fun d _ => ?_
  unfold part
  refine Finset.sum_congr rfl fun le _ => ?_
  rw [wcol_apply I d le t a b (hr d), hx, hw]
  congr 1
  refine Finset.sum_congr rfl fun k _ => ?_
  rw [hE]
  rfl

end Cert.KernelIdeal.Exch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sound_inputs_KernelIdeal
public import proofs.«01_k».proof.Proof.Gen.Pre_sound_inputs_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run, and the reference's, end with the reference's function of the whole arrays. -/
theorem agree : Cert.algebraic_KernelIdeal_ReferenceIdeal_pre_sound_inputs_KernelIdeal := by
  intro m ρ m' ρ' hpre hag
  obtain ⟨ni, nx, nw⟩ := Cert.KernelIdeal.Exch.read_pre _ _ _ _ (fun j => congrFun (hpre 0) j)
  rw [(hag 0).1] at nx
  rw [(hag 0).2.1] at nw
  rw [(hag 0).2.2.1] at ni
  refine ⟨Cert.ReferenceIdeal.Value.res_out0 m' 0, ?_, ?_⟩
  · refine (θ_run Cert.KernelIdeal.defs _ _).mono (fun r h c => ⟨?_, (h.1 c).1, (h.1 c).2.1, (h.1 c).2.2.1, (h.1 c).2.2.2.1⟩)
      (Cert.KernelIdeal.Exch.run_main (F := Ideal) m ρ)
    refine (h.1 c).2.2.2.2.trans ?_
    rw [Cert.ReferenceIdeal.Value.res_eq]
    exact Cert.KernelIdeal.Exch.OUT_eq (Cert.KernelIdeal.Exch.insAt m) _ _ _ _ (fun c => (hag c).1) (fun c => (hag c).2.1) (fun c => (hag c).2.2.1)
      (fun c le k f => (congrFun (hag c).2.2.2 _).trans (Cert.KernelIdeal.Exch.block_apply c _ le k f)) ni nx nw c
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  Cert.Pre_sound_inputs_KernelIdeal.Gen.facts, Cert.Pre_sound_inputs_ReferenceIdeal.Gen.facts,
  frame_kernel, frame_ideal, fun m ρ _ => frame_ideal m ρ trivial, frame_reference, fun m ρ _ => frame_reference m ρ trivial, trivial, agree⟩

end Cert.Proof

end
